-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_VariateIdeal (m : (ℓ : Loc Cert.VariateIdeal.nD Cert.VariateIdeal.τ Cert.VariateIdeal.sig) → Buf (Elt Ideal) ℓ) : Prop :=
  True

def Pre_VariateIdeal_drawable [hPre_drawable : Cert.Pre_drawable.Facts] (m : (ℓ : Loc Cert.VariateIdeal.nD Cert.VariateIdeal.τ Cert.VariateIdeal.sig) → Buf (Elt Ideal) ℓ) : Prop :=
  ∀ c : Dev Cert.VariateIdeal.nD,
    (Cert.Pre_drawable.fn (F := Ideal) (m ((c.tc : Thread Cert.VariateIdeal.nD Cert.VariateIdeal.τ).loc Cert.VariateIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_VariateIdeal [hVariateIdeal : Cert.VariateIdeal.Facts] : Prop :=
  ∀ (m : (ℓ : Loc Cert.VariateIdeal.nD Cert.VariateIdeal.τ Cert.VariateIdeal.sig) → Buf (Elt Ideal) ℓ) (g : Dev Cert.VariateIdeal.nD → PrngReg), Pre_VariateIdeal m →
    θ_run (Cert.VariateIdeal.defs (F := Ideal)) (onTc (τ := Cert.VariateIdeal.τ) (Cert.VariateIdeal.main (F := Ideal))) ⟨m, fun _ => 0, g⟩ (fun r => (∀ c : Dev Cert.VariateIdeal.nD,
      r.2.mem ((c.tc : Thread Cert.VariateIdeal.nD Cert.VariateIdeal.τ).loc Cert.VariateIdeal.main_arg0) = m ((c.tc : Thread Cert.VariateIdeal.nD Cert.VariateIdeal.τ).loc Cert.VariateIdeal.main_arg0))
      ∧ r.2.sem = fun _ => 0)

def quiescent_VariateIdeal_pre_drawable [hVariateIdeal : Cert.VariateIdeal.Facts] [hPre_drawable : Cert.Pre_drawable.Facts] : Prop :=
  ∀ (m : (ℓ : Loc Cert.VariateIdeal.nD Cert.VariateIdeal.τ Cert.VariateIdeal.sig) → Buf (Elt Ideal) ℓ) (g : Dev Cert.VariateIdeal.nD → PrngReg), Pre_VariateIdeal_drawable m →
    θ_run (Cert.VariateIdeal.defs (F := Ideal)) (onTc (τ := Cert.VariateIdeal.τ) (Cert.VariateIdeal.main (F := Ideal))) ⟨m, fun _ => 0, g⟩ (fun r => (∀ c : Dev Cert.VariateIdeal.nD,
      r.2.mem ((c.tc : Thread Cert.VariateIdeal.nD Cert.VariateIdeal.τ).loc Cert.VariateIdeal.main_arg0) = m ((c.tc : Thread Cert.VariateIdeal.nD Cert.VariateIdeal.τ).loc Cert.VariateIdeal.main_arg0))
      ∧ r.2.sem = fun _ => 0)

def preserves_Kernel_KernelIdeal : Prop :=
  IdealRules.named_const.Statement Cert.KernelIdeal.κ "span" .f32 0x40000000#32 ((33554431 / 16777216 : ℝ) : EReal)
  ∧ IdealRules.named_const.Statement Cert.KernelIdeal.κ "shift" .f32 0xC0400000#32 ((-25165823 / 8388608 : ℝ) : EReal)
  ∧ IdealRules.named_const.Statement Cert.KernelIdeal.κ "a4" .f32 0x39A21163#32 ((178195562344929 / 576460752303423488 : ℝ) : EReal)
  ∧ IdealRules.named_const.Statement Cert.KernelIdeal.κ "a3" .f32 0xBAE8652E#32 ((-15970078719091 / 9007199254740992 : ℝ) : EReal)
  ∧ IdealRules.named_const.Statement Cert.KernelIdeal.κ "a2" .f32 0xBBC19905#32 ((-106431479024349 / 18014398509481984 : ℝ) : EReal)
  ∧ IdealRules.named_const.Statement Cert.KernelIdeal.κ "a1" .f32 0x3EB29643#32 ((196358438430457 / 562949953421312 : ℝ) : EReal)
  ∧ IdealRules.named_const.Statement Cert.KernelIdeal.κ "a0" .f32 0x4007E45E#32 ((149414905615005 / 70368744177664 : ℝ) : EReal)
  ∧ IdealRules.named_const.Statement Cert.KernelIdeal.κ "b4" .f32 0x3C04FCB4#32 ((146220882753217 / 18014398509481984 : ℝ) : EReal)
  ∧ IdealRules.named_const.Statement Cert.KernelIdeal.κ "b3" .f32 0xBC309DB5#32 ((-194191396251413 / 18014398509481984 : ℝ) : EReal)
  ∧ IdealRules.named_const.Statement Cert.KernelIdeal.κ "b2" .f32 0x3C5AB3FF#32 ((60116652754765 / 4503599627370496 : ℝ) : EReal)
  ∧ IdealRules.named_const.Statement Cert.KernelIdeal.κ "b1" .f32 0x3FB55287#32 ((99683026763233 / 70368744177664 : ℝ) : EReal)
  ∧ IdealRules.named_const.Statement Cert.KernelIdeal.κ "b0" .f32 0x408034B5#32 ((70481935283789 / 17592186044416 : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v139) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def holds_VariateIdeal_near_full_pre_drawable [hVariateIdeal : Cert.VariateIdeal.Facts] [hPre_drawable : Cert.Pre_drawable.Facts] [hPost_near_full : Cert.Post_near_full.Facts] : Prop :=
  ∀ (m : (ℓ : Loc Cert.VariateIdeal.nD Cert.VariateIdeal.τ Cert.VariateIdeal.sig) → Buf (Elt Ideal) ℓ) (g : Dev Cert.VariateIdeal.nD → PrngReg), Pre_VariateIdeal_drawable m →
    θ_run (Cert.VariateIdeal.defs (F := Ideal)) (onTc (τ := Cert.VariateIdeal.τ) (Cert.VariateIdeal.main (F := Ideal))) ⟨m, fun _ => 0, g⟩ (fun r => ∀ c : Dev Cert.VariateIdeal.nD,
      r.2.mem ((c.tc : Thread Cert.VariateIdeal.nD Cert.VariateIdeal.τ).loc Cert.VariateIdeal.main_arg0) = m ((c.tc : Thread Cert.VariateIdeal.nD Cert.VariateIdeal.τ).loc Cert.VariateIdeal.main_arg0)
      ∧ (Cert.Post_near_full.fn (F := Ideal) (m ((c.tc : Thread Cert.VariateIdeal.nD Cert.VariateIdeal.τ).loc Cert.VariateIdeal.main_arg0)) (r.2.mem ((c.tc : Thread Cert.VariateIdeal.nD Cert.VariateIdeal.τ).loc Cert.VariateIdeal.main_v40))) = (fun _ => 1#1))

def Claim : Prop :=
  ∃ (hKernel : Cert.Kernel.Facts) (hKernelIdeal : Cert.KernelIdeal.Facts) (hReferenceIdeal : Cert.ReferenceIdeal.Facts) (hVariateIdeal : Cert.VariateIdeal.Facts) (hPre_drawn : Cert.Pre_drawn.Facts) (hPre_drawable : Cert.Pre_drawable.Facts) (hPost_near_full : Cert.Post_near_full.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ quiescent_VariateIdeal (hVariateIdeal := hVariateIdeal)
    ∧ quiescent_VariateIdeal_pre_drawable (hVariateIdeal := hVariateIdeal) (hPre_drawable := hPre_drawable)
    ∧ preserves_Kernel_KernelIdeal
    ∧ algebraic_KernelIdeal_ReferenceIdeal_pre_drawn (hKernelIdeal := hKernelIdeal) (hReferenceIdeal := hReferenceIdeal) (hPre_drawn := hPre_drawn)
    ∧ holds_VariateIdeal_near_full_pre_drawable (hVariateIdeal := hVariateIdeal) (hPre_drawable := hPre_drawable) (hPost_near_full := hPost_near_full)
-- ==== Post_near_full.lean ====
abbrev S256x2048x20 : Shape := ⟨3, ![256, 2048, 20]⟩
abbrev S_ : Shape := ⟨0, ![]⟩

class Facts : Prop where
  bcast_S_S256x2048x20 : S_.BroadcastsInDim S256x2048x20 (![] : Fin 0 → Fin S256x2048x20.rank)

variable [Facts]

def fn_where {F : FTy → Type} [FloatOps F] (arg0 : IVec S256x2048x20 1) (arg1 : FVec F S256x2048x20 .f32) (arg2 : FVec F S256x2048x20 .f32) : FVec F S256x2048x20 .f32 :=
  let v0 : FVec F S256x2048x20 .f32 := select arg0 arg1 arg2
  v0

def fn_part3 {F : FTy → Type} [FloatOps F] (main_arg0 : FVec F S256x2048x20 .f32) (main_arg1 : FVec F S256x2048x20 .f32) (main_v5 : IVec S256x2048x20 1) (main_v32 : FVec F S256x2048x20 .f32) (main_v35 : FVec F S256x2048x20 .f32) (main_v52 : FVec F S256x2048x20 .f32) (main_cst_17 : FVec F S_ .f32) : IVec S256x2048x20 1 :=
  let main_v53 : FVec F S256x2048x20 .f32 := broadcastInDim S256x2048x20 ![] bcast_S_S256x2048x20 main_cst_17
  let main_v54 : FVec F S256x2048x20 .f32 := addf main_v52 main_v53
  let main_v55 : FVec F S256x2048x20 .f32 := mulf main_v54 main_v35
  let main_cst_18 : FVec F S_ .f32 := constant S_ .f32 0x3F8036DB#32
  let main_v56 : FVec F S256x2048x20 .f32 := broadcastInDim S256x2048x20 ![] bcast_S_S256x2048x20 main_cst_18
  let main_v57 : FVec F S256x2048x20 .f32 := addf main_v55 main_v56
  let main_v58 : FVec F S256x2048x20 .f32 := mulf main_v57 main_v35
  let main_cst_19 : FVec F S_ .f32 := constant S_ .f32 0x40354F7E#32
  let main_v59 : FVec F S256x2048x20 .f32 := broadcastInDim S256x2048x20 ![] bcast_S_S256x2048x20 main_cst_19
  let main_v60 : FVec F S256x2048x20 .f32 := addf main_v58 main_v59
  let main_v61 : FVec F S256x2048x20 .f32 := fn_where (F := F) main_v5 main_v32 main_v60
  let main_v62 : FVec F S256x2048x20 .f32 := mulf main_v61 main_arg0
  let main_cst_20 : FVec F S_ .f32 := constant S_ .f32 0x3FB504F3#32
  let main_v63 : FVec F S256x2048x20 .f32 := broadcastInDim S256x2048x20 ![] bcast_S_S256x2048x20 main_cst_20
  let main_v64 : FVec F S256x2048x20 .f32 := mulf main_v63 main_v62
  let main_v65 : FVec F S256x2048x20 .f32 := subf main_arg1 main_v64
  let main_v66 : FVec F S256x2048x20 .f32 := Host.absf main_v65
  let main_cst_21 : FVec F S_ .f32 := constant S_ .f32 0x3B800000#32
  let main_v67 : FVec F S256x2048x20 .f32 := broadcastInDim S256x2048x20 ![] bcast_S_S256x2048x20 main_cst_21
  let main_v68 : IVec S256x2048x20 1 := cmpf .ole main_v66 main_v67
  main_v68

def fn_part2 {F : FTy → Type} [FloatOps F] (main_arg0 : FVec F S256x2048x20 .f32) (main_arg1 : FVec F S256x2048x20 .f32) (main_v5 : IVec S256x2048x20 1) (main_v32 : FVec F S256x2048x20 .f32) (main_v35 : FVec F S256x2048x20 .f32) : IVec S256x2048x20 1 :=
  let main_cst_11 : FVec F S_ .f32 := constant S_ .f32 0xB951F09B#32
  let main_v36 : FVec F S256x2048x20 .f32 := broadcastInDim S256x2048x20 ![] bcast_S_S256x2048x20 main_cst_11
  let main_v37 : FVec F S256x2048x20 .f32 := mulf main_v36 main_v35
  let main_cst_12 : FVec F S_ .f32 := constant S_ .f32 0x38D3B56B#32
  let main_v38 : FVec F S256x2048x20 .f32 := broadcastInDim S256x2048x20 ![] bcast_S_S256x2048x20 main_cst_12
  let main_v39 : FVec F S256x2048x20 .f32 := addf main_v37 main_v38
  let main_v40 : FVec F S256x2048x20 .f32 := mulf main_v39 main_v35
  let main_cst_13 : FVec F S_ .f32 := constant S_ .f32 0x3AB0DC72#32
  let main_v41 : FVec F S256x2048x20 .f32 := broadcastInDim S256x2048x20 ![] bcast_S_S256x2048x20 main_cst_13
  let main_v42 : FVec F S256x2048x20 .f32 := addf main_v40 main_v41
  let main_v43 : FVec F S256x2048x20 .f32 := mulf main_v42 main_v35
  let main_cst_14 : FVec F S_ .f32 := constant S_ .f32 0xBB70BDE7#32
  let main_v44 : FVec F S256x2048x20 .f32 := broadcastInDim S256x2048x20 ![] bcast_S_S256x2048x20 main_cst_14
  let main_v45 : FVec F S256x2048x20 .f32 := addf main_v43 main_v44
  let main_v46 : FVec F S256x2048x20 .f32 := mulf main_v45 main_v35
  let main_cst_15 : FVec F S_ .f32 := constant S_ .f32 0x3BBC127B#32
  let main_v47 : FVec F S256x2048x20 .f32 := broadcastInDim S256x2048x20 ![] bcast_S_S256x2048x20 main_cst_15
  let main_v48 : FVec F S256x2048x20 .f32 := addf main_v46 main_v47
  let main_v49 : FVec F S256x2048x20 .f32 := mulf main_v48 main_v35
  let main_cst_16 : FVec F S_ .f32 := constant S_ .f32 0xBBF9C5D7#32
  let main_v50 : FVec F S256x2048x20 .f32 := broadcastInDim S256x2048x20 ![] bcast_S_S256x2048x20 main_cst_16
  let main_v51 : FVec F S256x2048x20 .f32 := addf main_v49 main_v50
  let main_v52 : FVec F S256x2048x20 .f32 := mulf main_v51 main_v35
  let main_cst_17 : FVec F S_ .f32 := constant S_ .f32 0x3C1AA57E#32
  fn_part3 (F := F) main_arg0 main_arg1 main_v5 main_v32 main_v35 main_v52 main_cst_17

def fn_part1 {F : FTy → Type} [FloatOps F] (main_arg0 : FVec F S256x2048x20 .f32) (main_arg1 : FVec F S256x2048x20 .f32) (main_v3 : FVec F S256x2048x20 .f32) (main_v5 : IVec S256x2048x20 1) (main_v7 : FVec F S256x2048x20 .f32) (main_v17 : FVec F S256x2048x20 .f32) : IVec S256x2048x20 1 :=
  let main_v18 : FVec F S256x2048x20 .f32 := mulf main_v17 main_v7
  let main_cst_5 : FVec F S_ .f32 := constant S_ .f32 0x396532DB#32
  let main_v19 : FVec F S256x2048x20 .f32 := broadcastInDim S256x2048x20 ![] bcast_S_S256x2048x20 main_cst_5
  let main_v20 : FVec F S256x2048x20 .f32 := addf main_v18 main_v19
  let main_v21 : FVec F S256x2048x20 .f32 := mulf main_v20 main_v7
  let main_cst_6 : FVec F S_ .f32 := constant S_ .f32 0xBAA45408#32
  let main_v22 : FVec F S256x2048x20 .f32 := broadcastInDim S256x2048x20 ![] bcast_S_S256x2048x20 main_cst_6
  let main_v23 : FVec F S256x2048x20 .f32 := addf main_v21 main_v22
  let main_v24 : FVec F S256x2048x20 .f32 := mulf main_v23 main_v7
  let main_cst_7 : FVec F S_ .f32 := constant S_ .f32 0xBB88E4EF#32
  let main_v25 : FVec F S256x2048x20 .f32 := broadcastInDim S256x2048x20 ![] bcast_S_S256x2048x20 main_cst_7
  let main_v26 : FVec F S256x2048x20 .f32 := addf main_v24 main_v25
  let main_v27 : FVec F S256x2048x20 .f32 := mulf main_v26 main_v7
  let main_cst_8 : FVec F S_ .f32 := constant S_ .f32 0x3E7C8F63#32
  let main_v28 : FVec F S256x2048x20 .f32 := broadcastInDim S256x2048x20 ![] bcast_S_S256x2048x20 main_cst_8
  let main_v29 : FVec F S256x2048x20 .f32 := addf main_v27 main_v28
  let main_v30 : FVec F S256x2048x20 .f32 := mulf main_v29 main_v7
  let main_cst_9 : FVec F S_ .f32 := constant S_ .f32 0x3FC02E2F#32
  let main_v31 : FVec F S256x2048x20 .f32 := broadcastInDim S256x2048x20 ![] bcast_S_S256x2048x20 main_cst_9
  let main_v32 : FVec F S256x2048x20 .f32 := addf main_v30 main_v31
  let main_v33 : FVec F S256x2048x20 .f32 := Host.sqrt main_v3
  let main_cst_10 : FVec F S_ .f32 := constant S_ .f32 0x40400000#32
  let main_v34 : FVec F S256x2048x20 .f32 := broadcastInDim S256x2048x20 ![] bcast_S_S256x2048x20 main_cst_10
  let main_v35 : FVec F S256x2048x20 .f32 := subf main_v33 main_v34
  fn_part2 (F := F) main_arg0 main_arg1 main_v5 main_v32 main_v35

def fn {F : FTy → Type} [FloatOps F] (main_arg0 : FVec F S256x2048x20 .f32) (main_arg1 : FVec F S256x2048x20 .f32) : IVec S256x2048x20 1 :=
  let main_v0 : FVec F S256x2048x20 .f32 := Host.negf main_arg0
  let main_v1 : FVec F S256x2048x20 .f32 := mulf main_v0 main_arg0
  let main_v2 : FVec F S256x2048x20 .f32 := Host.log1p main_v1
  let main_v3 : FVec F S256x2048x20 .f32 := Host.negf main_v2
  let main_cst : FVec F S_ .f32 := constant S_ .f32 0x40A00000#32
  let main_v4 : FVec F S256x2048x20 .f32 := broadcastInDim S256x2048x20 ![] bcast_S_S256x2048x20 main_cst
  let main_v5 : IVec S256x2048x20 1 := cmpf .olt main_v3 main_v4
  let main_cst_0 : FVec F S_ .f32 := constant S_ .f32 0x40200000#32
  let main_v6 : FVec F S256x2048x20 .f32 := broadcastInDim S256x2048x20 ![] bcast_S_S256x2048x20 main_cst_0
  let main_v7 : FVec F S256x2048x20 .f32 := subf main_v3 main_v6
  let main_cst_1 : FVec F S_ .f32 := constant S_ .f32 0x32F16588#32
  let main_v8 : FVec F S256x2048x20 .f32 := broadcastInDim S256x2048x20 ![] bcast_S_S256x2048x20 main_cst_1
  let main_v9 : FVec F S256x2048x20 .f32 := mulf main_v8 main_v7
  let main_cst_2 : FVec F S_ .f32 := constant S_ .f32 0x34B84B36#32
  let main_v10 : FVec F S256x2048x20 .f32 := broadcastInDim S256x2048x20 ![] bcast_S_S256x2048x20 main_cst_2
  let main_v11 : FVec F S256x2048x20 .f32 := addf main_v9 main_v10
  let main_v12 : FVec F S256x2048x20 .f32 := mulf main_v11 main_v7
  let main_cst_3 : FVec F S_ .f32 := constant S_ .f32 0xB66C7357#32
  let main_v13 : FVec F S256x2048x20 .f32 := broadcastInDim S256x2048x20 ![] bcast_S_S256x2048x20 main_cst_3
  let main_v14 : FVec F S256x2048x20 .f32 := addf main_v12 main_v13
  let main_v15 : FVec F S256x2048x20 .f32 := mulf main_v14 main_v7
  let main_cst_4 : FVec F S_ .f32 := constant S_ .f32 0xB6935AC1#32
  let main_v16 : FVec F S256x2048x20 .f32 := broadcastInDim S256x2048x20 ![] bcast_S_S256x2048x20 main_cst_4
  let main_v17 : FVec F S256x2048x20 .f32 := addf main_v15 main_v16
  fn_part1 (F := F) main_arg0 main_arg1 main_v3 main_v5 main_v7 main_v17
-- ==== Pre_drawable.lean ====
abbrev S256x2048x20 : Shape := ⟨3, ![256, 2048, 20]⟩
abbrev S_ : Shape := ⟨0, ![]⟩

class Facts : Prop where
  bcast_S_S256x2048x20 : S_.BroadcastsInDim S256x2048x20 (![] : Fin 0 → Fin S256x2048x20.rank)

variable [Facts]

def fn {F : FTy → Type} [FloatOps F] (main_arg0 : FVec F S256x2048x20 .f32) : IVec S256x2048x20 1 :=
  let main_v0 : FVec F S256x2048x20 .f32 := Host.absf main_arg0
  let main_cst : FVec F S_ .f32 := constant S_ .f32 0x3F7FFFFF#32
  let main_v1 : FVec F S256x2048x20 .f32 := broadcastInDim S256x2048x20 ![] bcast_S_S256x2048x20 main_cst
  let main_v2 : IVec S256x2048x20 1 := cmpf .ole main_v0 main_v1
  main_v2
-- ==== Pre_drawn.lean ====
abbrev S256x2048x20 : Shape := ⟨3, ![256, 2048, 20]⟩
abbrev S256x2048 : Shape := ⟨2, ![256, 2048]⟩
abbrev S256 : Shape := ⟨1, ![256]⟩
abbrev S_ : Shape := ⟨0, ![]⟩

class Facts : Prop where
  bcast_S_S256 : S_.BroadcastsInDim S256 (![] : Fin 0 → Fin S256.rank)
  bcast_S_S256x2048x20 : S_.BroadcastsInDim S256x2048x20 (![] : Fin 0 → Fin S256x2048x20.rank)

variable [Facts]

def fn {F : FTy → Type} [FloatOps F] (main_arg0 : FVec F S256x2048x20 .f32) (main_arg1 : IVec S256x2048 1) (main_arg2 : FVec F S256 .f32) (main_arg3 : IVec S256x2048 1) (main_arg4 : FVec F S256x2048x20 .f32) (main_arg5 : IVec S256 1) : IVec S256x2048 1 × IVec S256x2048 1 × IVec S256 1 × IVec S256 1 × IVec S256x2048x20 1 :=
  let main_v0 : FVec F S256 .f32 := Host.absf main_arg2
  let main_cst : FVec F S_ .f32 := constant S_ .f32 0x7F800000#32
  let main_v1 : FVec F S256 .f32 := broadcastInDim S256 ![] bcast_S_S256 main_cst
  let main_v2 : IVec S256 1 := cmpf .olt main_v0 main_v1
  let main_v3 : FVec F S256x2048x20 .f32 := Host.absf main_arg4
  let main_cst_0 : FVec F S_ .f32 := constant S_ .f32 0x7F800000#32
  let main_v4 : FVec F S256x2048x20 .f32 := broadcastInDim S256x2048x20 ![] bcast_S_S256x2048x20 main_cst_0
  let main_v5 : IVec S256x2048x20 1 := cmpf .olt main_v3 main_v4
  (main_arg1, main_arg3, main_arg5, main_v2, main_v5)
-- ==== Kernel.lean ====
abbrev S256x2048x20 : Shape := ⟨3, ![256, 2048, 20]⟩
abbrev S256x2048 : Shape := ⟨2, ![256, 2048]⟩
abbrev S256 : Shape := ⟨1, ![256]⟩
abbrev S20x256x2048 : Shape := ⟨3, ![20, 256, 2048]⟩
abbrev S20x8x2048 : Shape := ⟨3, ![20, 8, 2048]⟩
abbrev S8x8 : Shape := ⟨2, ![8, 8]⟩
abbrev S1 : Shape := ⟨1, ![1]⟩
abbrev S1x8x8 : Shape := ⟨3, ![1, 8, 8]⟩
abbrev S20x8x8 : Shape := ⟨3, ![20, 8, 8]⟩

abbrev nBuf : Space → Nat
  | .hbm => 12
  | .vmem => 8
  | .smem => 1
  | _ => 0

abbrev bufTy : (tb : Table) → Fin (tcTables nBuf tb) → BufTy
  | .hbm, ⟨0, _⟩ => ⟨S256x2048x20, .f32⟩
  | .hbm, ⟨1, _⟩ => ⟨S256x2048, .i1⟩
  | .hbm, ⟨2, _⟩ => ⟨S256, .f32⟩
  | .hbm, ⟨3, _⟩ => ⟨S256x2048, .i1⟩
  | .hbm, ⟨4, _⟩ => ⟨S256x2048x20, .f32⟩
  | .hbm, ⟨5, _⟩ => ⟨S256, .i1⟩
  | .hbm, ⟨6, _⟩ => ⟨S20x256x2048, .f32⟩
  | .hbm, ⟨7, _⟩ => ⟨S20x256x2048, .f32⟩
  | .hbm, ⟨8, _⟩ => ⟨S20x256x2048, .f32⟩
  | .hbm, ⟨9, _⟩ => ⟨S20x256x2048, .f32⟩
  | .hbm, ⟨10, _⟩ => ⟨S256x2048x20, .f32⟩
  | .hbm, ⟨11, _⟩ => ⟨S256x2048x20, .f32⟩
  | .local _ .vmem, ⟨0, _⟩ => ⟨S20x8x2048, .f32⟩
  | .local _ .vmem, ⟨1, _⟩ => ⟨S20x8x2048, .f32⟩
  | .local _ .vmem, ⟨2, _⟩ => ⟨S20x8x2048, .f32⟩
  | .local _ .vmem, ⟨3, _⟩ => ⟨S20x8x2048, .f32⟩
  | .local _ .vmem, ⟨4, _⟩ => ⟨S20x8x2048, .f32⟩
  | .local _ .vmem, ⟨5, _⟩ => ⟨S20x8x2048, .f32⟩
  | .local _ .vmem, ⟨6, _⟩ => ⟨S20x8x2048, .f32⟩
  | .local _ .vmem, ⟨7, _⟩ => ⟨S20x8x2048, .f32⟩
  | .local _ .smem, ⟨0, _⟩ => ⟨S256, .f32⟩
  | _, _ => ⟨S256x2048x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def k0_off1 (i : grid0.Coords) (c0_i32 : BitVec 32) : Fin 1 → Nat :=
  let arg0 : BitVec 32 := BitVec.ofNat 32 (i 0).val
  let c8_i32_61 : BitVec 32 := 8#32
  let v238 : BitVec 32 := Scalar.muli arg0 c8_i32_61
  let v239 : BitVec 32 := Scalar.addi v238 c0_i32
  let v240 : Index := Scalar.indexCast v239
  ![v240.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .smem S256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S20x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S20x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S20x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "a0" => some ((149414905615005 / 70368744177664 : ℝ) : EReal)
  | "a1" => some ((196358438430457 / 562949953421312 : ℝ) : EReal)
  | "a2" => some ((-106431479024349 / 18014398509481984 : ℝ) : EReal)
  | "a3" => some ((-15970078719091 / 9007199254740992 : ℝ) : EReal)
  | "a4" => some ((178195562344929 / 576460752303423488 : ℝ) : EReal)
  | "b0" => some ((70481935283789 / 17592186044416 : ℝ) : EReal)
  | "b1" => some ((99683026763233 / 70368744177664 : ℝ) : EReal)
  | "b2" => some ((60116652754765 / 4503599627370496 : ℝ) : EReal)
  | "b3" => some ((-194191396251413 / 18014398509481984 : ℝ) : EReal)
  | "b4" => some ((146220882753217 / 18014398509481984 : ℝ) : EReal)
  | "shift" => some ((-25165823 / 8388608 : ℝ) : EReal)
  | "span" => some ((33554431 / 16777216 : ℝ) : EReal)
  | _ => none
-- ==== ReferenceIdeal.lean ====
abbrev S256x2048x20 : Shape := ⟨3, ![256, 2048, 20]⟩
abbrev S256x2048 : Shape := ⟨2, ![256, 2048]⟩
abbrev S256 : Shape := ⟨1, ![256]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S256x2048x1 : Shape := ⟨3, ![256, 2048, 1]⟩
abbrev S256x1x1 : Shape := ⟨3, ![256, 1, 1]⟩
abbrev S10485760 : Shape := ⟨1, ![10485760]⟩
abbrev S10485760x1 : Shape := ⟨2, ![10485760, 1]⟩
abbrev S1x1x1 : Shape := ⟨3, ![1, 1, 1]⟩

abbrev nBuf : Space → Nat
  | .hbm => 975
  | .vmem => 0
  | .smem => 0
  | _ => 0

abbrev hbmTy0_0 (i : Nat) : BufTy := match i % 128 with
  | 0 => ⟨S256x2048x20, .f32⟩
  | 1 => ⟨S256x2048, .i1⟩
  | 2 => ⟨S256, .f32⟩
  | 3 => ⟨S256x2048, .i1⟩
  | 4 => ⟨S256x2048x20, .f32⟩
  | 5 => ⟨S256, .i1⟩
  | 6 => ⟨S_, .i32⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S_, .i32⟩
  | 14 => ⟨S1, .i32⟩
  | 15 => ⟨S2, .i32⟩
  | 16 => ⟨S1, .i32⟩
  | 17 => ⟨S_, .i32⟩
  | 18 => ⟨S1, .i32⟩
  | 19 => ⟨S_, .i32⟩
  | 20 => ⟨S2, .i64⟩
  | 21 => ⟨S_, .i64⟩
  | 22 => ⟨S2, .i64⟩
  | 23 => ⟨S2, .i64⟩
  | 24 => ⟨S_, .i64⟩
  | 25 => ⟨S2, .i64⟩
  | 26 => ⟨S2, .i64⟩
  | 27 => ⟨S2, .i32⟩
  | 28 => ⟨S2, .i32⟩
  | 29 => ⟨S_, .i32⟩
  | 30 => ⟨S_, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S256x2048x20, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S2x1, .i32⟩
  | 124 => ⟨S2x1, .i32⟩
  | 125 => ⟨S2x2, .i32⟩
  | 126 => ⟨S1x2, .i32⟩
  | 127 => ⟨S2, .i32⟩
  | _ => ⟨S256x2048x20, .f32⟩

abbrev hbmTy0_2 (i : Nat) : BufTy := match i % 128 with
  | 0 => ⟨S1x2, .i32⟩
  | 1 => ⟨S2, .i32⟩
  | 2 => ⟨S256x2048x1, .i1⟩
  | 3 => ⟨S256x1x1, .i1⟩
  | 4 => ⟨S256x2048x1, .i1⟩
  | 5 => ⟨S256x2048x1, .i1⟩
  | 6 => ⟨S256x2048x1, .i1⟩
  | 7 => ⟨S256x1x1, .i1⟩
  | 8 => ⟨S256x2048x1, .i1⟩
  | 9 => ⟨S256x2048x1, .i1⟩
  | 10 => ⟨S256x2048x20, .i1⟩
  | 11 => ⟨S256x2048x20, .i1⟩
  | 12 => ⟨S10485760, .f32⟩
  | 13 => ⟨S10485760, .i1⟩
  | 14 => ⟨S10485760, .i1⟩
  | 15 => ⟨S10485760, .i32⟩
  | 16 => ⟨S10485760, .i1⟩
  | 17 => ⟨S10485760, .i32⟩
  | 18 => ⟨S_, .i32⟩
  | 19 => ⟨S10485760, .i32⟩
  | 20 => ⟨S10485760, .i1⟩
  | 21 => ⟨S_, .i32⟩
  | 22 => ⟨S10485760, .i32⟩
  | 23 => ⟨S10485760, .i32⟩
  | 24 => ⟨S10485760, .i32⟩
  | 25 => ⟨S10485760x1, .i32⟩
  | 26 => ⟨S10485760, .f32⟩
  | 27 => ⟨S10485760, .f32⟩
  | 28 => ⟨S10485760, .i1⟩
  | 29 => ⟨S10485760, .i32⟩
  | 30 => ⟨S_, .i32⟩
  | 31 => ⟨S_, .i32⟩
  | 32 => ⟨S10485760, .i32⟩
  | 33 => ⟨S_, .i32⟩
  | 34 => ⟨S10485760, .i32⟩
  | 35 => ⟨S10485760, .i32⟩
  | 36 => ⟨S_, .i32⟩
  | 37 => ⟨S_, .i32⟩
  | 38 => ⟨S_, .i32⟩
  | 39 => ⟨S10485760, .i32⟩
  | 40 => ⟨S10485760, .i32⟩
  | 41 => ⟨S_, .i32⟩
  | 42 => ⟨S10485760, .i32⟩
  | 43 => ⟨S10485760, .i32⟩
  | 44 => ⟨S_, .i32⟩
  | 45 => ⟨S10485760, .i32⟩
  | 46 => ⟨S10485760, .i1⟩
  | 47 => ⟨S_, .i32⟩
  | 48 => ⟨S10485760, .i32⟩
  | 49 => ⟨S10485760, .i32⟩
  | 50 => ⟨S10485760, .i32⟩
  | 51 => ⟨S10485760x1, .i32⟩
  | 52 => ⟨S10485760, .f32⟩
  | 53 => ⟨S10485760, .f32⟩
  | 54 => ⟨S256x2048x20, .f32⟩
  | 55 => ⟨S_, .f32⟩
  | 56 => ⟨S_, .f32⟩
  | 57 => ⟨S1x1x1, .f32⟩
  | 58 => ⟨S1x1x1, .f32⟩
  | 59 => ⟨S1, .i32⟩
  | 60 => ⟨S_, .i32⟩
  | 61 => ⟨S1, .i32⟩
  | 62 => ⟨S_, .i32⟩
  | 63 => ⟨S256x2048x20, .i64⟩
  | 64 => ⟨S256x2048x20, .i64⟩
  | 65 => ⟨S256x2048x20, .i64⟩
  | 66 => ⟨S_, .i64⟩
  | 67 => ⟨S256x2048x20, .i64⟩
  | 68 => ⟨S256x2048x20, .i64⟩
  | 69 => ⟨S_, .i64⟩
  | 70 => ⟨S256x2048x20, .i64⟩
  | 71 => ⟨S256x2048x20, .i64⟩
  | 72 => ⟨S_, .i64⟩
  | 73 => ⟨S256x2048x20, .i64⟩
  | 74 => ⟨S256x2048x20, .i64⟩
  | 75 => ⟨S256x2048x20, .i64⟩
  | 76 => ⟨S256x2048x20, .i64⟩
  | 77 => ⟨S_, .i64⟩
  | 78 => ⟨S256x2048x20, .i64⟩
  | 79 => ⟨S256x2048x20, .i64⟩
  | 80 => ⟨S256x2048x20, .i32⟩
  | 81 => ⟨S256x2048x20, .i32⟩
  | 82 => ⟨S_, .i32⟩
  | 83 => ⟨S_, .i32⟩
  | 84 => ⟨S_, .i32⟩
  | 85 => ⟨S256x2048x20, .i32⟩
  | 86 => ⟨S256x2048x20, .i32⟩
  | 87 => ⟨S256x2048x20, .i32⟩
  | 88 => ⟨S256x2048x20, .i32⟩
  | 89 => ⟨S256x2048x20, .i32⟩
  | 90 => ⟨S_, .i32⟩
  | 91 => ⟨S256x2048x20, .i32⟩
  | 92 => ⟨S256x2048x20, .i32⟩
  | 93 => ⟨S_, .i32⟩
  | 94 => ⟨S256x2048x20, .i32⟩
  | 95 => ⟨S256x2048x20, .i32⟩
  | 96 => ⟨S256x2048x20, .i32⟩
  | 97 => ⟨S256x2048x20, .i32⟩
  | 98 => ⟨S256x2048x20, .i32⟩
  | 99 => ⟨S_, .i32⟩
  | 100 => ⟨S256x2048x20, .i32⟩
  | 101 => ⟨S256x2048x20, .i32⟩
  | 102 => ⟨S_, .i32⟩
  | 103 => ⟨S256x2048x20, .i32⟩
  | 104 => ⟨S256x2048x20, .i32⟩
  | 105 => ⟨S256x2048x20, .i32⟩
  | 106 => ⟨S256x2048x20, .i32⟩
  | 107 => ⟨S256x2048x20, .i32⟩
  | 108 => ⟨S_, .i32⟩
  | 109 => ⟨S256x2048x20, .i32⟩
  | 110 => ⟨S256x2048x20, .i32⟩
  | 111 => ⟨S_, .i32⟩
  | 112 => ⟨S256x2048x20, .i32⟩
  | 113 => ⟨S256x2048x20, .i32⟩
  | 114 => ⟨S256x2048x20, .i32⟩
  | 115 => ⟨S256x2048x20, .i32⟩
  | 116 => ⟨S256x2048x20, .i32⟩
  | 117 => ⟨S_, .i32⟩
  | 118 => ⟨S256x2048x20, .i32⟩
  | 119 => ⟨S256x2048x20, .i32⟩
  | 120 => ⟨S_, .i32⟩
  | 121 => ⟨S256x2048x20, .i32⟩
  | 122 => ⟨S256x2048x20, .i32⟩
  | 123 => ⟨S256x2048x20, .i32⟩
  | 124 => ⟨S256x2048x20, .i32⟩
  | 125 => ⟨S256x2048x20, .i32⟩
  | 126 => ⟨S256x2048x20, .i32⟩
  | 127 => ⟨S256x2048x20, .i32⟩
  | _ => ⟨S256x2048x20, .f32⟩

abbrev hbmTy0_3 (i : Nat) : BufTy := match i % 128 with
  | 0 => ⟨S256x2048x20, .i32⟩
  | 1 => ⟨S_, .i32⟩
  | 2 => ⟨S256x2048x20, .i32⟩
  | 3 => ⟨S256x2048x20, .i32⟩
  | 4 => ⟨S256x2048x20, .i32⟩
  | 5 => ⟨S_, .i32⟩
  | 6 => ⟨S256x2048x20, .i32⟩
  | 7 => ⟨S256x2048x20, .i32⟩
  | 8 => ⟨S_, .i32⟩
  | 9 => ⟨S256x2048x20, .i32⟩
  | 10 => ⟨S256x2048x20, .i32⟩
  | 11 => ⟨S256x2048x20, .i32⟩
  | 12 => ⟨S256x2048x20, .i32⟩
  | 13 => ⟨S256x2048x20, .i32⟩
  | 14 => ⟨S_, .i32⟩
  | 15 => ⟨S256x2048x20, .i32⟩
  | 16 => ⟨S256x2048x20, .i32⟩
  | 17 => ⟨S_, .i32⟩
  | 18 => ⟨S256x2048x20, .i32⟩
  | 19 => ⟨S256x2048x20, .i32⟩
  | 20 => ⟨S256x2048x20, .i32⟩
  | 21 => ⟨S256x2048x20, .i32⟩
  | 22 => ⟨S256x2048x20, .i32⟩
  | 23 => ⟨S_, .i32⟩
  | 24 => ⟨S256x2048x20, .i32⟩
  | 25 => ⟨S256x2048x20, .i32⟩
  | 26 => ⟨S_, .i32⟩
  | 27 => ⟨S256x2048x20, .i32⟩
  | 28 => ⟨S256x2048x20, .i32⟩
  | 29 => ⟨S256x2048x20, .i32⟩
  | 30 => ⟨S256x2048x20, .i32⟩
  | 31 => ⟨S256x2048x20, .i32⟩
  | 32 => ⟨S_, .i32⟩
  | 33 => ⟨S256x2048x20, .i32⟩
  | 34 => ⟨S256x2048x20, .i32⟩
  | 35 => ⟨S_, .i32⟩
  | 36 => ⟨S256x2048x20, .i32⟩
  | 37 => ⟨S256x2048x20, .i32⟩
  | 38 => ⟨S256x2048x20, .i32⟩
  | 39 => ⟨S256x2048x20, .i32⟩
  | 40 => ⟨S256x2048x20, .i32⟩
  | 41 => ⟨S256x2048x20, .i32⟩
  | 42 => ⟨S256x2048x20, .i32⟩
  | 43 => ⟨S256x2048x20, .i32⟩
  | 44 => ⟨S_, .i32⟩
  | 45 => ⟨S256x2048x20, .i32⟩
  | 46 => ⟨S256x2048x20, .i32⟩
  | 47 => ⟨S256x2048x20, .i32⟩
  | 48 => ⟨S_, .i32⟩
  | 49 => ⟨S256x2048x20, .i32⟩
  | 50 => ⟨S256x2048x20, .i32⟩
  | 51 => ⟨S_, .i32⟩
  | 52 => ⟨S256x2048x20, .i32⟩
  | 53 => ⟨S256x2048x20, .i32⟩
  | 54 => ⟨S256x2048x20, .i32⟩
  | 55 => ⟨S256x2048x20, .i32⟩
  | 56 => ⟨S256x2048x20, .i32⟩
  | 57 => ⟨S_, .i32⟩
  | 58 => ⟨S256x2048x20, .i32⟩
  | 59 => ⟨S256x2048x20, .i32⟩
  | 60 => ⟨S_, .i32⟩
  | 61 => ⟨S256x2048x20, .i32⟩
  | 62 => ⟨S256x2048x20, .i32⟩
  | 63 => ⟨S256x2048x20, .i32⟩
  | 64 => ⟨S256x2048x20, .i32⟩
  | 65 => ⟨S256x2048x20, .i32⟩
  | 66 => ⟨S_, .i32⟩
  | 67 => ⟨S256x2048x20, .i32⟩
  | 68 => ⟨S256x2048x20, .i32⟩
  | 69 => ⟨S_, .i32⟩
  | 70 => ⟨S256x2048x20, .i32⟩
  | 71 => ⟨S256x2048x20, .i32⟩
  | 72 => ⟨S256x2048x20, .i32⟩
  | 73 => ⟨S256x2048x20, .i32⟩
  | 74 => ⟨S256x2048x20, .i32⟩
  | 75 => ⟨S_, .i32⟩
  | 76 => ⟨S256x2048x20, .i32⟩
  | 77 => ⟨S256x2048x20, .i32⟩
  | 78 => ⟨S_, .i32⟩
  | 79 => ⟨S256x2048x20, .i32⟩
  | 80 => ⟨S256x2048x20, .i32⟩
  | 81 => ⟨S256x2048x20, .i32⟩
  | 82 => ⟨S256x2048x20, .i32⟩
  | 83 => ⟨S256x2048x20, .i32⟩
  | 84 => ⟨S256x2048x20, .i32⟩
  | 85 => ⟨S256x2048x20, .i32⟩
  | 86 => ⟨S256x2048x20, .i32⟩
  | 87 => ⟨S_, .i32⟩
  | 88 => ⟨S256x2048x20, .i32⟩
  | 89 => ⟨S256x2048x20, .i32⟩
  | 90 => ⟨S256x2048x20, .i32⟩
  | 91 => ⟨S_, .i32⟩
  | 92 => ⟨S256x2048x20, .i32⟩
  | 93 => ⟨S256x2048x20, .i32⟩
  | 94 => ⟨S_, .i32⟩
  | 95 => ⟨S256x2048x20, .i32⟩
  | 96 => ⟨S256x2048x20, .i32⟩
  | 97 => ⟨S256x2048x20, .i32⟩
  | 98 => ⟨S256x2048x20, .i32⟩
  | 99 => ⟨S256x2048x20, .i32⟩
  | 100 => ⟨S_, .i32⟩
  | 101 => ⟨S256x2048x20, .i32⟩
  | 102 => ⟨S256x2048x20, .i32⟩
  | 103 => ⟨S_, .i32⟩
  | 104 => ⟨S256x2048x20, .i32⟩
  | 105 => ⟨S256x2048x20, .i32⟩
  | 106 => ⟨S256x2048x20, .i32⟩
  | 107 => ⟨S256x2048x20, .i32⟩
  | 108 => ⟨S256x2048x20, .i32⟩
  | 109 => ⟨S_, .i32⟩
  | 110 => ⟨S256x2048x20, .i32⟩
  | 111 => ⟨S256x2048x20, .i32⟩
  | 112 => ⟨S_, .i32⟩
  | 113 => ⟨S256x2048x20, .i32⟩
  | 114 => ⟨S256x2048x20, .i32⟩
  | 115 => ⟨S256x2048x20, .i32⟩
  | 116 => ⟨S256x2048x20, .i32⟩
  | 117 => ⟨S256x2048x20, .i32⟩
  | 118 => ⟨S_, .i32⟩
  | 119 => ⟨S256x2048x20, .i32⟩
  | 120 => ⟨S256x2048x20, .i32⟩
  | 121 => ⟨S_, .i32⟩
  | 122 => ⟨S256x2048x20, .i32⟩
  | 123 => ⟨S256x2048x20, .i32⟩
  | 124 => ⟨S256x2048x20, .i32⟩
  | 125 => ⟨S256x2048x20, .i32⟩
  | 126 => ⟨S256x2048x20, .i32⟩
  | 127 => ⟨S256x2048x20, .i32⟩
  | _ => ⟨S256x2048x20, .f32⟩

abbrev hbmTy0_4 (i : Nat) : BufTy := match i % 128 with
  | 0 => ⟨S256x2048x20, .i32⟩
  | 1 => ⟨S256x2048x20, .i32⟩
  | 2 => ⟨S_, .i32⟩
  | 3 => ⟨S256x2048x20, .i32⟩
  | 4 => ⟨S256x2048x20, .i32⟩
  | 5 => ⟨S256x2048x20, .i32⟩
  | 6 => ⟨S_, .i32⟩
  | 7 => ⟨S256x2048x20, .i32⟩
  | 8 => ⟨S256x2048x20, .i32⟩
  | 9 => ⟨S_, .i32⟩
  | 10 => ⟨S256x2048x20, .i32⟩
  | 11 => ⟨S256x2048x20, .i32⟩
  | 12 => ⟨S256x2048x20, .i32⟩
  | 13 => ⟨S256x2048x20, .i32⟩
  | 14 => ⟨S256x2048x20, .i32⟩
  | 15 => ⟨S_, .i32⟩
  | 16 => ⟨S256x2048x20, .i32⟩
  | 17 => ⟨S256x2048x20, .i32⟩
  | 18 => ⟨S_, .i32⟩
  | 19 => ⟨S256x2048x20, .i32⟩
  | 20 => ⟨S256x2048x20, .i32⟩
  | 21 => ⟨S256x2048x20, .i32⟩
  | 22 => ⟨S256x2048x20, .i32⟩
  | 23 => ⟨S256x2048x20, .i32⟩
  | 24 => ⟨S_, .i32⟩
  | 25 => ⟨S256x2048x20, .i32⟩
  | 26 => ⟨S256x2048x20, .i32⟩
  | 27 => ⟨S_, .i32⟩
  | 28 => ⟨S256x2048x20, .i32⟩
  | 29 => ⟨S256x2048x20, .i32⟩
  | 30 => ⟨S256x2048x20, .i32⟩
  | 31 => ⟨S256x2048x20, .i32⟩
  | 32 => ⟨S256x2048x20, .i32⟩
  | 33 => ⟨S_, .i32⟩
  | 34 => ⟨S256x2048x20, .i32⟩
  | 35 => ⟨S256x2048x20, .i32⟩
  | 36 => ⟨S_, .i32⟩
  | 37 => ⟨S256x2048x20, .i32⟩
  | 38 => ⟨S256x2048x20, .i32⟩
  | 39 => ⟨S256x2048x20, .i32⟩
  | 40 => ⟨S256x2048x20, .i32⟩
  | 41 => ⟨S256x2048x20, .i32⟩
  | 42 => ⟨S256x2048x20, .i32⟩
  | 43 => ⟨S256x2048x20, .i32⟩
  | 44 => ⟨S256x2048x20, .i32⟩
  | 45 => ⟨S_, .i32⟩
  | 46 => ⟨S256x2048x20, .i32⟩
  | 47 => ⟨S256x2048x20, .i32⟩
  | 48 => ⟨S256x2048x20, .i32⟩
  | 49 => ⟨S_, .i32⟩
  | 50 => ⟨S256x2048x20, .i32⟩
  | 51 => ⟨S256x2048x20, .i32⟩
  | 52 => ⟨S_, .i32⟩
  | 53 => ⟨S256x2048x20, .i32⟩
  | 54 => ⟨S256x2048x20, .i32⟩
  | 55 => ⟨S256x2048x20, .f32⟩
  | 56 => ⟨S_, .f32⟩
  | 57 => ⟨S256x2048x20, .f32⟩
  | 58 => ⟨S256x2048x20, .f32⟩
  | 59 => ⟨S1x1x1, .f32⟩
  | 60 => ⟨S256x2048x20, .f32⟩
  | 61 => ⟨S256x2048x20, .f32⟩
  | 62 => ⟨S256x2048x20, .f32⟩
  | 63 => ⟨S256x2048x20, .f32⟩
  | 64 => ⟨S256x2048x20, .f32⟩
  | 65 => ⟨S256x2048x20, .f32⟩
  | 66 => ⟨S256x2048x20, .f32⟩
  | 67 => ⟨S256x2048x20, .f32⟩
  | 68 => ⟨S256x2048x20, .f32⟩
  | 69 => ⟨S256x2048x20, .f32⟩
  | 70 => ⟨S_, .f32⟩
  | 71 => ⟨S256x2048x20, .f32⟩
  | 72 => ⟨S256x2048x20, .i1⟩
  | 73 => ⟨S_, .f32⟩
  | 74 => ⟨S256x2048x20, .f32⟩
  | 75 => ⟨S256x2048x20, .f32⟩
  | 76 => ⟨S_, .f32⟩
  | 77 => ⟨S256x2048x20, .f32⟩
  | 78 => ⟨S256x2048x20, .f32⟩
  | 79 => ⟨S_, .f32⟩
  | 80 => ⟨S256x2048x20, .f32⟩
  | 81 => ⟨S256x2048x20, .f32⟩
  | 82 => ⟨S256x2048x20, .f32⟩
  | 83 => ⟨S_, .f32⟩
  | 84 => ⟨S256x2048x20, .f32⟩
  | 85 => ⟨S256x2048x20, .f32⟩
  | 86 => ⟨S256x2048x20, .f32⟩
  | 87 => ⟨S_, .f32⟩
  | 88 => ⟨S256x2048x20, .f32⟩
  | 89 => ⟨S256x2048x20, .f32⟩
  | 90 => ⟨S256x2048x20, .f32⟩
  | 91 => ⟨S_, .f32⟩
  | 92 => ⟨S256x2048x20, .f32⟩
  | 93 => ⟨S256x2048x20, .f32⟩
  | 94 => ⟨S256x2048x20, .f32⟩
  | 95 => ⟨S_, .f32⟩
  | 96 => ⟨S256x2048x20, .f32⟩
  | 97 => ⟨S256x2048x20, .f32⟩
  | 98 => ⟨S_, .f32⟩
  | 99 => ⟨S256x2048x20, .f32⟩
  | 100 => ⟨S256x2048x20, .f32⟩
  | 101 => ⟨S_, .f32⟩
  | 102 => ⟨S256x2048x20, .f32⟩
  | 103 => ⟨S256x2048x20, .f32⟩
  | 104 => ⟨S256x2048x20, .f32⟩
  | 105 => ⟨S_, .f32⟩
  | 106 => ⟨S256x2048x20, .f32⟩
  | 107 => ⟨S256x2048x20, .f32⟩
  | 108 => ⟨S256x2048x20, .f32⟩
  | 109 => ⟨S_, .f32⟩
  | 110 => ⟨S256x2048x20, .f32⟩
  | 111 => ⟨S256x2048x20, .f32⟩
  | 112 => ⟨S256x2048x20, .f32⟩
  | 113 => ⟨S_, .f32⟩
  | 114 => ⟨S256x2048x20, .f32⟩
  | 115 => ⟨S256x2048x20, .f32⟩
  | 116 => ⟨S256x2048x20, .f32⟩
  | 117 => ⟨S256x2048x20, .f32⟩
  | 118 => ⟨S_, .f32⟩
  | 119 => ⟨S256x2048x20, .f32⟩
  | 120 => ⟨S256x2048x20, .f32⟩
  | 121 => ⟨S256x2048x20, .f32⟩
  | 122 => ⟨S256x2048x1, .i1⟩
  | 123 => ⟨S256x2048x20, .i1⟩
  | 124 => ⟨S256x2048x20, .f32⟩
  | 125 => ⟨S_, .f32⟩
  | 126 => ⟨S_, .f32⟩
  | 127 => ⟨S1x1x1, .f32⟩
  | _ => ⟨S256x2048x20, .f32⟩

abbrev hbmTy0_5 (i : Nat) : BufTy := match i % 128 with
  | 0 => ⟨S1x1x1, .f32⟩
  | 1 => ⟨S1, .i32⟩
  | 2 => ⟨S_, .i32⟩
  | 3 => ⟨S1, .i32⟩
  | 4 => ⟨S_, .i32⟩
  | 5 => ⟨S256x2048x20, .i64⟩
  | 6 => ⟨S256x2048x20, .i64⟩
  | 7 => ⟨S256x2048x20, .i64⟩
  | 8 => ⟨S_, .i64⟩
  | 9 => ⟨S256x2048x20, .i64⟩
  | 10 => ⟨S256x2048x20, .i64⟩
  | 11 => ⟨S_, .i64⟩
  | 12 => ⟨S256x2048x20, .i64⟩
  | 13 => ⟨S256x2048x20, .i64⟩
  | 14 => ⟨S_, .i64⟩
  | 15 => ⟨S256x2048x20, .i64⟩
  | 16 => ⟨S256x2048x20, .i64⟩
  | 17 => ⟨S256x2048x20, .i64⟩
  | 18 => ⟨S256x2048x20, .i64⟩
  | 19 => ⟨S_, .i64⟩
  | 20 => ⟨S256x2048x20, .i64⟩
  | 21 => ⟨S256x2048x20, .i64⟩
  | 22 => ⟨S256x2048x20, .i32⟩
  | 23 => ⟨S256x2048x20, .i32⟩
  | 24 => ⟨S_, .i32⟩
  | 25 => ⟨S_, .i32⟩
  | 26 => ⟨S_, .i32⟩
  | 27 => ⟨S256x2048x20, .i32⟩
  | 28 => ⟨S256x2048x20, .i32⟩
  | 29 => ⟨S256x2048x20, .i32⟩
  | 30 => ⟨S256x2048x20, .i32⟩
  | 31 => ⟨S256x2048x20, .i32⟩
  | 32 => ⟨S_, .i32⟩
  | 33 => ⟨S256x2048x20, .i32⟩
  | 34 => ⟨S256x2048x20, .i32⟩
  | 35 => ⟨S_, .i32⟩
  | 36 => ⟨S256x2048x20, .i32⟩
  | 37 => ⟨S256x2048x20, .i32⟩
  | 38 => ⟨S256x2048x20, .i32⟩
  | 39 => ⟨S256x2048x20, .i32⟩
  | 40 => ⟨S256x2048x20, .i32⟩
  | 41 => ⟨S_, .i32⟩
  | 42 => ⟨S256x2048x20, .i32⟩
  | 43 => ⟨S256x2048x20, .i32⟩
  | 44 => ⟨S_, .i32⟩
  | 45 => ⟨S256x2048x20, .i32⟩
  | 46 => ⟨S256x2048x20, .i32⟩
  | 47 => ⟨S256x2048x20, .i32⟩
  | 48 => ⟨S256x2048x20, .i32⟩
  | 49 => ⟨S256x2048x20, .i32⟩
  | 50 => ⟨S_, .i32⟩
  | 51 => ⟨S256x2048x20, .i32⟩
  | 52 => ⟨S256x2048x20, .i32⟩
  | 53 => ⟨S_, .i32⟩
  | 54 => ⟨S256x2048x20, .i32⟩
  | 55 => ⟨S256x2048x20, .i32⟩
  | 56 => ⟨S256x2048x20, .i32⟩
  | 57 => ⟨S256x2048x20, .i32⟩
  | 58 => ⟨S256x2048x20, .i32⟩
  | 59 => ⟨S_, .i32⟩
  | 60 => ⟨S256x2048x20, .i32⟩
  | 61 => ⟨S256x2048x20, .i32⟩
  | 62 => ⟨S_, .i32⟩
  | 63 => ⟨S256x2048x20, .i32⟩
  | 64 => ⟨S256x2048x20, .i32⟩
  | 65 => ⟨S256x2048x20, .i32⟩
  | 66 => ⟨S256x2048x20, .i32⟩
  | 67 => ⟨S256x2048x20, .i32⟩
  | 68 => ⟨S256x2048x20, .i32⟩
  | 69 => ⟨S256x2048x20, .i32⟩
  | 70 => ⟨S256x2048x20, .i32⟩
  | 71 => ⟨S_, .i32⟩
  | 72 => ⟨S256x2048x20, .i32⟩
  | 73 => ⟨S256x2048x20, .i32⟩
  | 74 => ⟨S256x2048x20, .i32⟩
  | 75 => ⟨S_, .i32⟩
  | 76 => ⟨S256x2048x20, .i32⟩
  | 77 => ⟨S256x2048x20, .i32⟩
  | 78 => ⟨S_, .i32⟩
  | 79 => ⟨S256x2048x20, .i32⟩
  | 80 => ⟨S256x2048x20, .i32⟩
  | 81 => ⟨S256x2048x20, .i32⟩
  | 82 => ⟨S256x2048x20, .i32⟩
  | 83 => ⟨S256x2048x20, .i32⟩
  | 84 => ⟨S_, .i32⟩
  | 85 => ⟨S256x2048x20, .i32⟩
  | 86 => ⟨S256x2048x20, .i32⟩
  | 87 => ⟨S_, .i32⟩
  | 88 => ⟨S256x2048x20, .i32⟩
  | 89 => ⟨S256x2048x20, .i32⟩
  | 90 => ⟨S256x2048x20, .i32⟩
  | 91 => ⟨S256x2048x20, .i32⟩
  | 92 => ⟨S256x2048x20, .i32⟩
  | 93 => ⟨S_, .i32⟩
  | 94 => ⟨S256x2048x20, .i32⟩
  | 95 => ⟨S256x2048x20, .i32⟩
  | 96 => ⟨S_, .i32⟩
  | 97 => ⟨S256x2048x20, .i32⟩
  | 98 => ⟨S256x2048x20, .i32⟩
  | 99 => ⟨S256x2048x20, .i32⟩
  | 100 => ⟨S256x2048x20, .i32⟩
  | 101 => ⟨S256x2048x20, .i32⟩
  | 102 => ⟨S_, .i32⟩
  | 103 => ⟨S256x2048x20, .i32⟩
  | 104 => ⟨S256x2048x20, .i32⟩
  | 105 => ⟨S_, .i32⟩
  | 106 => ⟨S256x2048x20, .i32⟩
  | 107 => ⟨S256x2048x20, .i32⟩
  | 108 => ⟨S256x2048x20, .i32⟩
  | 109 => ⟨S256x2048x20, .i32⟩
  | 110 => ⟨S256x2048x20, .i32⟩
  | 111 => ⟨S256x2048x20, .i32⟩
  | 112 => ⟨S256x2048x20, .i32⟩
  | 113 => ⟨S256x2048x20, .i32⟩
  | 114 => ⟨S_, .i32⟩
  | 115 => ⟨S256x2048x20, .i32⟩
  | 116 => ⟨S256x2048x20, .i32⟩
  | 117 => ⟨S256x2048x20, .i32⟩
  | 118 => ⟨S_, .i32⟩
  | 119 => ⟨S256x2048x20, .i32⟩
  | 120 => ⟨S256x2048x20, .i32⟩
  | 121 => ⟨S_, .i32⟩
  | 122 => ⟨S256x2048x20, .i32⟩
  | 123 => ⟨S256x2048x20, .i32⟩
  | 124 => ⟨S256x2048x20, .i32⟩
  | 125 => ⟨S256x2048x20, .i32⟩
  | 126 => ⟨S256x2048x20, .i32⟩
  | 127 => ⟨S_, .i32⟩
  | _ => ⟨S256x2048x20, .f32⟩

abbrev hbmTy0_6 (i : Nat) : BufTy := match i % 128 with
  | 0 => ⟨S256x2048x20, .i32⟩
  | 1 => ⟨S256x2048x20, .i32⟩
  | 2 => ⟨S_, .i32⟩
  | 3 => ⟨S256x2048x20, .i32⟩
  | 4 => ⟨S256x2048x20, .i32⟩
  | 5 => ⟨S256x2048x20, .i32⟩
  | 6 => ⟨S256x2048x20, .i32⟩
  | 7 => ⟨S256x2048x20, .i32⟩
  | 8 => ⟨S_, .i32⟩
  | 9 => ⟨S256x2048x20, .i32⟩
  | 10 => ⟨S256x2048x20, .i32⟩
  | 11 => ⟨S_, .i32⟩
  | 12 => ⟨S256x2048x20, .i32⟩
  | 13 => ⟨S256x2048x20, .i32⟩
  | 14 => ⟨S256x2048x20, .i32⟩
  | 15 => ⟨S256x2048x20, .i32⟩
  | 16 => ⟨S256x2048x20, .i32⟩
  | 17 => ⟨S_, .i32⟩
  | 18 => ⟨S256x2048x20, .i32⟩
  | 19 => ⟨S256x2048x20, .i32⟩
  | 20 => ⟨S_, .i32⟩
  | 21 => ⟨S256x2048x20, .i32⟩
  | 22 => ⟨S256x2048x20, .i32⟩
  | 23 => ⟨S256x2048x20, .i32⟩
  | 24 => ⟨S256x2048x20, .i32⟩
  | 25 => ⟨S256x2048x20, .i32⟩
  | 26 => ⟨S256x2048x20, .i32⟩
  | 27 => ⟨S256x2048x20, .i32⟩
  | 28 => ⟨S256x2048x20, .i32⟩
  | 29 => ⟨S_, .i32⟩
  | 30 => ⟨S256x2048x20, .i32⟩
  | 31 => ⟨S256x2048x20, .i32⟩
  | 32 => ⟨S256x2048x20, .i32⟩
  | 33 => ⟨S_, .i32⟩
  | 34 => ⟨S256x2048x20, .i32⟩
  | 35 => ⟨S256x2048x20, .i32⟩
  | 36 => ⟨S_, .i32⟩
  | 37 => ⟨S256x2048x20, .i32⟩
  | 38 => ⟨S256x2048x20, .i32⟩
  | 39 => ⟨S256x2048x20, .i32⟩
  | 40 => ⟨S256x2048x20, .i32⟩
  | 41 => ⟨S256x2048x20, .i32⟩
  | 42 => ⟨S_, .i32⟩
  | 43 => ⟨S256x2048x20, .i32⟩
  | 44 => ⟨S256x2048x20, .i32⟩
  | 45 => ⟨S_, .i32⟩
  | 46 => ⟨S256x2048x20, .i32⟩
  | 47 => ⟨S256x2048x20, .i32⟩
  | 48 => ⟨S256x2048x20, .i32⟩
  | 49 => ⟨S256x2048x20, .i32⟩
  | 50 => ⟨S256x2048x20, .i32⟩
  | 51 => ⟨S_, .i32⟩
  | 52 => ⟨S256x2048x20, .i32⟩
  | 53 => ⟨S256x2048x20, .i32⟩
  | 54 => ⟨S_, .i32⟩
  | 55 => ⟨S256x2048x20, .i32⟩
  | 56 => ⟨S256x2048x20, .i32⟩
  | 57 => ⟨S256x2048x20, .i32⟩
  | 58 => ⟨S256x2048x20, .i32⟩
  | 59 => ⟨S256x2048x20, .i32⟩
  | 60 => ⟨S_, .i32⟩
  | 61 => ⟨S256x2048x20, .i32⟩
  | 62 => ⟨S256x2048x20, .i32⟩
  | 63 => ⟨S_, .i32⟩
  | 64 => ⟨S256x2048x20, .i32⟩
  | 65 => ⟨S256x2048x20, .i32⟩
  | 66 => ⟨S256x2048x20, .i32⟩
  | 67 => ⟨S256x2048x20, .i32⟩
  | 68 => ⟨S256x2048x20, .i32⟩
  | 69 => ⟨S256x2048x20, .i32⟩
  | 70 => ⟨S256x2048x20, .i32⟩
  | 71 => ⟨S256x2048x20, .i32⟩
  | 72 => ⟨S_, .i32⟩
  | 73 => ⟨S256x2048x20, .i32⟩
  | 74 => ⟨S256x2048x20, .i32⟩
  | 75 => ⟨S256x2048x20, .i32⟩
  | 76 => ⟨S_, .i32⟩
  | 77 => ⟨S256x2048x20, .i32⟩
  | 78 => ⟨S256x2048x20, .i32⟩
  | 79 => ⟨S_, .i32⟩
  | 80 => ⟨S256x2048x20, .i32⟩
  | 81 => ⟨S256x2048x20, .i32⟩
  | 82 => ⟨S256x2048x20, .i32⟩
  | 83 => ⟨S256x2048x20, .i32⟩
  | 84 => ⟨S256x2048x20, .i32⟩
  | 85 => ⟨S_, .i32⟩
  | 86 => ⟨S256x2048x20, .i32⟩
  | 87 => ⟨S256x2048x20, .i32⟩
  | 88 => ⟨S_, .i32⟩
  | 89 => ⟨S256x2048x20, .i32⟩
  | 90 => ⟨S256x2048x20, .i32⟩
  | 91 => ⟨S256x2048x20, .i32⟩
  | 92 => ⟨S256x2048x20, .i32⟩
  | 93 => ⟨S256x2048x20, .i32⟩
  | 94 => ⟨S_, .i32⟩
  | 95 => ⟨S256x2048x20, .i32⟩
  | 96 => ⟨S256x2048x20, .i32⟩
  | 97 => ⟨S_, .i32⟩
  | 98 => ⟨S256x2048x20, .i32⟩
  | 99 => ⟨S256x2048x20, .i32⟩
  | 100 => ⟨S256x2048x20, .i32⟩
  | 101 => ⟨S256x2048x20, .i32⟩
  | 102 => ⟨S256x2048x20, .i32⟩
  | 103 => ⟨S_, .i32⟩
  | 104 => ⟨S256x2048x20, .i32⟩
  | 105 => ⟨S256x2048x20, .i32⟩
  | 106 => ⟨S_, .i32⟩
  | 107 => ⟨S256x2048x20, .i32⟩
  | 108 => ⟨S256x2048x20, .i32⟩
  | 109 => ⟨S256x2048x20, .i32⟩
  | 110 => ⟨S256x2048x20, .i32⟩
  | 111 => ⟨S256x2048x20, .i32⟩
  | 112 => ⟨S256x2048x20, .i32⟩
  | 113 => ⟨S256x2048x20, .i32⟩
  | 114 => ⟨S256x2048x20, .i32⟩
  | 115 => ⟨S_, .i32⟩
  | 116 => ⟨S256x2048x20, .i32⟩
  | 117 => ⟨S256x2048x20, .i32⟩
  | 118 => ⟨S256x2048x20, .i32⟩
  | 119 => ⟨S_, .i32⟩
  | 120 => ⟨S256x2048x20, .i32⟩
  | 121 => ⟨S256x2048x20, .i32⟩
  | 122 => ⟨S_, .i32⟩
  | 123 => ⟨S256x2048x20, .i32⟩
  | 124 => ⟨S256x2048x20, .i32⟩
  | 125 => ⟨S256x2048x20, .f32⟩
  | 126 => ⟨S_, .f32⟩
  | 127 => ⟨S256x2048x20, .f32⟩
  | _ => ⟨S256x2048x20, .f32⟩

abbrev hbmTy0_7 (i : Nat) : BufTy := match i % 128 with
  | 0 => ⟨S256x2048x20, .f32⟩
  | 1 => ⟨S1x1x1, .f32⟩
  | 2 => ⟨S256x2048x20, .f32⟩
  | 3 => ⟨S256x2048x20, .f32⟩
  | 4 => ⟨S256x2048x20, .f32⟩
  | 5 => ⟨S256x2048x20, .f32⟩
  | 6 => ⟨S256x2048x20, .f32⟩
  | 7 => ⟨S256x2048x20, .f32⟩
  | 8 => ⟨S256x2048x20, .f32⟩
  | 9 => ⟨S256x2048x20, .f32⟩
  | 10 => ⟨S256x2048x20, .f32⟩
  | 11 => ⟨S256x2048x20, .f32⟩
  | 12 => ⟨S_, .f32⟩
  | 13 => ⟨S256x2048x20, .f32⟩
  | 14 => ⟨S256x2048x20, .i1⟩
  | 15 => ⟨S_, .f32⟩
  | 16 => ⟨S256x2048x20, .f32⟩
  | 17 => ⟨S256x2048x20, .f32⟩
  | 18 => ⟨S_, .f32⟩
  | 19 => ⟨S256x2048x20, .f32⟩
  | 20 => ⟨S256x2048x20, .f32⟩
  | 21 => ⟨S_, .f32⟩
  | 22 => ⟨S256x2048x20, .f32⟩
  | 23 => ⟨S256x2048x20, .f32⟩
  | 24 => ⟨S256x2048x20, .f32⟩
  | 25 => ⟨S_, .f32⟩
  | 26 => ⟨S256x2048x20, .f32⟩
  | 27 => ⟨S256x2048x20, .f32⟩
  | 28 => ⟨S256x2048x20, .f32⟩
  | 29 => ⟨S_, .f32⟩
  | 30 => ⟨S256x2048x20, .f32⟩
  | 31 => ⟨S256x2048x20, .f32⟩
  | 32 => ⟨S256x2048x20, .f32⟩
  | 33 => ⟨S_, .f32⟩
  | 34 => ⟨S256x2048x20, .f32⟩
  | 35 => ⟨S256x2048x20, .f32⟩
  | 36 => ⟨S256x2048x20, .f32⟩
  | 37 => ⟨S_, .f32⟩
  | 38 => ⟨S256x2048x20, .f32⟩
  | 39 => ⟨S256x2048x20, .f32⟩
  | 40 => ⟨S_, .f32⟩
  | 41 => ⟨S256x2048x20, .f32⟩
  | 42 => ⟨S256x2048x20, .f32⟩
  | 43 => ⟨S_, .f32⟩
  | 44 => ⟨S256x2048x20, .f32⟩
  | 45 => ⟨S256x2048x20, .f32⟩
  | 46 => ⟨S256x2048x20, .f32⟩
  | 47 => ⟨S_, .f32⟩
  | 48 => ⟨S256x2048x20, .f32⟩
  | 49 => ⟨S256x2048x20, .f32⟩
  | 50 => ⟨S256x2048x20, .f32⟩
  | 51 => ⟨S_, .f32⟩
  | 52 => ⟨S256x2048x20, .f32⟩
  | 53 => ⟨S256x2048x20, .f32⟩
  | 54 => ⟨S256x2048x20, .f32⟩
  | 55 => ⟨S_, .f32⟩
  | 56 => ⟨S256x2048x20, .f32⟩
  | 57 => ⟨S256x2048x20, .f32⟩
  | 58 => ⟨S256x2048x20, .f32⟩
  | 59 => ⟨S256x2048x20, .f32⟩
  | 60 => ⟨S_, .f32⟩
  | 61 => ⟨S256x2048x20, .f32⟩
  | 62 => ⟨S256x2048x20, .f32⟩
  | 63 => ⟨S256x2048x1, .i1⟩
  | 64 => ⟨S256x2048x20, .i1⟩
  | 65 => ⟨S256x2048x20, .f32⟩
  | 66 => ⟨S256x1x1, .i1⟩
  | 67 => ⟨S256x2048x20, .i1⟩
  | 68 => ⟨S256x2048x20, .f32⟩
  | 69 => ⟨S256x1x1, .f32⟩
  | 70 => ⟨S256x2048x20, .f32⟩
  | 71 => ⟨S256x2048x20, .f32⟩
  | 72 => ⟨S256x1x1, .f32⟩
  | 73 => ⟨S_, .f32⟩
  | 74 => ⟨S256x1x1, .f32⟩
  | 75 => ⟨S256x1x1, .f32⟩
  | 76 => ⟨S256x2048x20, .f32⟩
  | 77 => ⟨S256x2048x20, .f32⟩
  | 78 => ⟨S256x2048x20, .f32⟩
  | _ => ⟨S256x2048x20, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S256x2048x20, .f32⟩

abbrev bufTy : (tb : Table) → Fin (tcTables nBuf tb) → BufTy
  | .hbm, ⟨i, _⟩ => hbmTy i
  | _, _ => ⟨S256x2048x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c : Ref sig .tc := ⟨.hbm, 21, rfl⟩
abbrev main_call0_v5 : Ref sig .tc := ⟨.hbm, 22, rfl⟩
abbrev main_call0_v6 : Ref sig .tc := ⟨.hbm, 23, rfl⟩
abbrev main_call0_c_0 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_call0_v0 : Ref sig .tc := ⟨.hbm, 29, rfl⟩
abbrev main_call0_call0_c : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_c_0 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_c_1 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_call0_v12 : Ref sig .tc := ⟨.hbm, 44, rfl⟩
abbrev main_call0_call0_v13 : Ref sig .tc := ⟨.hbm, 45, rfl⟩
abbrev main_call0_call0_c_2 : Ref sig .tc := ⟨.hbm, 46, rfl⟩
abbrev main_call0_call0_v14 : Ref sig .tc := ⟨.hbm, 47, rfl⟩
abbrev main_call0_call0_v15 : Ref sig .tc := ⟨.hbm, 48, rfl⟩
abbrev main_call0_call0_c_3 : Ref sig .tc := ⟨.hbm, 49, rfl⟩
abbrev main_call0_call0_v16 : Ref sig .tc := ⟨.hbm, 50, rfl⟩
abbrev main_call0_call0_v17 : Ref sig .tc := ⟨.hbm, 51, rfl⟩
abbrev main_call0_call0_v18 : Ref sig .tc := ⟨.hbm, 52, rfl⟩
abbrev main_call0_call0_v19 : Ref sig .tc := ⟨.hbm, 53, rfl⟩
abbrev main_call0_call0_v20 : Ref sig .tc := ⟨.hbm, 54, rfl⟩
abbrev main_call0_call0_c_4 : Ref sig .tc := ⟨.hbm, 55, rfl⟩
abbrev main_call0_call0_v21 : Ref sig .tc := ⟨.hbm, 56, rfl⟩
abbrev main_call0_call0_v22 : Ref sig .tc := ⟨.hbm, 57, rfl⟩
abbrev main_call0_call0_c_5 : Ref sig .tc := ⟨.hbm, 58, rfl⟩
abbrev main_call0_call0_v23 : Ref sig .tc := ⟨.hbm, 59, rfl⟩
abbrev main_call0_call0_v24 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_v27 : Ref sig .tc := ⟨.hbm, 63, rfl⟩
abbrev main_call0_call0_c_6 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_c_7 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_v32 : Ref sig .tc := ⟨.hbm, 70, rfl⟩
abbrev main_call0_call0_v33 : Ref sig .tc := ⟨.hbm, 71, rfl⟩
abbrev main_call0_call0_v34 : Ref sig .tc := ⟨.hbm, 72, rfl⟩
abbrev main_call0_call0_v35 : Ref sig .tc := ⟨.hbm, 73, rfl⟩
abbrev main_call0_call0_v36 : Ref sig .tc := ⟨.hbm, 74, rfl⟩
abbrev main_call0_call0_v37 : Ref sig .tc := ⟨.hbm, 75, rfl⟩
abbrev main_call0_call0_c_8 : Ref sig .tc := ⟨.hbm, 76, rfl⟩
abbrev main_call0_call0_v38 : Ref sig .tc := ⟨.hbm, 77, rfl⟩
abbrev main_call0_call0_v39 : Ref sig .tc := ⟨.hbm, 78, rfl⟩
abbrev main_call0_call0_v40 : Ref sig .tc := ⟨.hbm, 79, rfl⟩
abbrev main_call0_call0_c_9 : Ref sig .tc := ⟨.hbm, 80, rfl⟩
abbrev main_call0_call0_v41 : Ref sig .tc := ⟨.hbm, 81, rfl⟩
abbrev main_call0_call0_v42 : Ref sig .tc := ⟨.hbm, 82, rfl⟩
abbrev main_call0_call0_c_10 : Ref sig .tc := ⟨.hbm, 83, rfl⟩
abbrev main_call0_call0_v43 : Ref sig .tc := ⟨.hbm, 84, rfl⟩
abbrev main_call0_call0_v44 : Ref sig .tc := ⟨.hbm, 85, rfl⟩
abbrev main_call0_call0_v45 : Ref sig .tc := ⟨.hbm, 86, rfl⟩
abbrev main_call0_call0_v46 : Ref sig .tc := ⟨.hbm, 87, rfl⟩
abbrev main_call0_call0_v47 : Ref sig .tc := ⟨.hbm, 88, rfl⟩
abbrev main_call0_call0_c_11 : Ref sig .tc := ⟨.hbm, 89, rfl⟩
abbrev main_call0_call0_v48 : Ref sig .tc := ⟨.hbm, 90, rfl⟩
abbrev main_call0_call0_v49 : Ref sig .tc := ⟨.hbm, 91, rfl⟩
abbrev main_call0_call0_c_12 : Ref sig .tc := ⟨.hbm, 92, rfl⟩
abbrev main_call0_call0_v50 : Ref sig .tc := ⟨.hbm, 93, rfl⟩
abbrev main_call0_call0_v51 : Ref sig .tc := ⟨.hbm, 94, rfl⟩
abbrev main_call0_call0_v52 : Ref sig .tc := ⟨.hbm, 95, rfl⟩
abbrev main_call0_call0_v53 : Ref sig .tc := ⟨.hbm, 96, rfl⟩
abbrev main_call0_call0_v54 : Ref sig .tc := ⟨.hbm, 97, rfl⟩
abbrev main_call0_call0_c_13 : Ref sig .tc := ⟨.hbm, 98, rfl⟩
abbrev main_call0_call0_v55 : Ref sig .tc := ⟨.hbm, 99, rfl⟩
abbrev main_call0_call0_v56 : Ref sig .tc := ⟨.hbm, 100, rfl⟩
abbrev main_call0_call0_c_14 : Ref sig .tc := ⟨.hbm, 101, rfl⟩
abbrev main_call0_call0_v57 : Ref sig .tc := ⟨.hbm, 102, rfl⟩
abbrev main_call0_call0_v58 : Ref sig .tc := ⟨.hbm, 103, rfl⟩
abbrev main_call0_call0_v59 : Ref sig .tc := ⟨.hbm, 104, rfl⟩
abbrev main_call0_call0_v60 : Ref sig .tc := ⟨.hbm, 105, rfl⟩
abbrev main_call0_call0_v61 : Ref sig .tc := ⟨.hbm, 106, rfl⟩
abbrev main_call0_call0_c_15 : Ref sig .tc := ⟨.hbm, 107, rfl⟩
abbrev main_call0_call0_v62 : Ref sig .tc := ⟨.hbm, 108, rfl⟩
abbrev main_call0_call0_v63 : Ref sig .tc := ⟨.hbm, 109, rfl⟩
abbrev main_call0_call0_c_16 : Ref sig .tc := ⟨.hbm, 110, rfl⟩
abbrev main_call0_call0_v64 : Ref sig .tc := ⟨.hbm, 111, rfl⟩
abbrev main_call0_call0_v65 : Ref sig .tc := ⟨.hbm, 112, rfl⟩
abbrev main_call0_call0_v66 : Ref sig .tc := ⟨.hbm, 113, rfl⟩
abbrev main_call0_call0_v67 : Ref sig .tc := ⟨.hbm, 114, rfl⟩
abbrev main_call0_call0_v68 : Ref sig .tc := ⟨.hbm, 115, rfl⟩
abbrev main_call0_call0_v69 : Ref sig .tc := ⟨.hbm, 116, rfl⟩
abbrev main_call0_call0_v70 : Ref sig .tc := ⟨.hbm, 117, rfl⟩
abbrev main_call0_call0_v71 : Ref sig .tc := ⟨.hbm, 118, rfl⟩
abbrev main_call0_call0_c_17 : Ref sig .tc := ⟨.hbm, 119, rfl⟩
abbrev main_call0_call0_v72 : Ref sig .tc := ⟨.hbm, 120, rfl⟩
abbrev main_call0_call0_v73 : Ref sig .tc := ⟨.hbm, 121, rfl⟩
abbrev main_call0_call0_v74 : Ref sig .tc := ⟨.hbm, 122, rfl⟩
abbrev main_call0_call0_c_18 : Ref sig .tc := ⟨.hbm, 123, rfl⟩
abbrev main_call0_call0_v75 : Ref sig .tc := ⟨.hbm, 124, rfl⟩
abbrev main_call0_call0_v76 : Ref sig .tc := ⟨.hbm, 125, rfl⟩
abbrev main_call0_call0_c_19 : Ref sig .tc := ⟨.hbm, 126, rfl⟩
abbrev main_call0_call0_v77 : Ref sig .tc := ⟨.hbm, 127, rfl⟩
abbrev main_call0_call0_v78 : Ref sig .tc := ⟨.hbm, 128, rfl⟩
abbrev main_call0_call0_v79 : Ref sig .tc := ⟨.hbm, 129, rfl⟩
abbrev main_call0_call0_v80 : Ref sig .tc := ⟨.hbm, 130, rfl⟩
abbrev main_call0_call0_v81 : Ref sig .tc := ⟨.hbm, 131, rfl⟩
abbrev main_call0_call0_c_20 : Ref sig .tc := ⟨.hbm, 132, rfl⟩
abbrev main_call0_call0_v82 : Ref sig .tc := ⟨.hbm, 133, rfl⟩
abbrev main_call0_call0_v83 : Ref sig .tc := ⟨.hbm, 134, rfl⟩
abbrev main_call0_call0_c_21 : Ref sig .tc := ⟨.hbm, 135, rfl⟩
abbrev main_call0_call0_v84 : Ref sig .tc := ⟨.hbm, 136, rfl⟩
abbrev main_call0_call0_v85 : Ref sig .tc := ⟨.hbm, 137, rfl⟩
abbrev main_call0_call0_v86 : Ref sig .tc := ⟨.hbm, 138, rfl⟩
abbrev main_call0_call0_v87 : Ref sig .tc := ⟨.hbm, 139, rfl⟩
abbrev main_call0_call0_v88 : Ref sig .tc := ⟨.hbm, 140, rfl⟩
abbrev main_call0_call0_c_22 : Ref sig .tc := ⟨.hbm, 141, rfl⟩
abbrev main_call0_call0_v89 : Ref sig .tc := ⟨.hbm, 142, rfl⟩
abbrev main_call0_call0_v90 : Ref sig .tc := ⟨.hbm, 143, rfl⟩
abbrev main_call0_call0_c_23 : Ref sig .tc := ⟨.hbm, 144, rfl⟩
abbrev main_call0_call0_v91 : Ref sig .tc := ⟨.hbm, 145, rfl⟩
abbrev main_call0_call0_v92 : Ref sig .tc := ⟨.hbm, 146, rfl⟩
abbrev main_call0_call0_v93 : Ref sig .tc := ⟨.hbm, 147, rfl⟩
abbrev main_call0_call0_v94 : Ref sig .tc := ⟨.hbm, 148, rfl⟩
abbrev main_call0_call0_v95 : Ref sig .tc := ⟨.hbm, 149, rfl⟩
abbrev main_call0_call0_c_24 : Ref sig .tc := ⟨.hbm, 150, rfl⟩
abbrev main_call0_call0_v96 : Ref sig .tc := ⟨.hbm, 151, rfl⟩
abbrev main_call0_call0_v97 : Ref sig .tc := ⟨.hbm, 152, rfl⟩
abbrev main_call0_call0_c_25 : Ref sig .tc := ⟨.hbm, 153, rfl⟩
abbrev main_call0_call0_v98 : Ref sig .tc := ⟨.hbm, 154, rfl⟩
abbrev main_call0_call0_v99 : Ref sig .tc := ⟨.hbm, 155, rfl⟩
abbrev main_call0_call0_v100 : Ref sig .tc := ⟨.hbm, 156, rfl⟩
abbrev main_call0_call0_v101 : Ref sig .tc := ⟨.hbm, 157, rfl⟩
abbrev main_call0_call0_v102 : Ref sig .tc := ⟨.hbm, 158, rfl⟩
abbrev main_call0_call0_v103 : Ref sig .tc := ⟨.hbm, 159, rfl⟩
abbrev main_call0_call0_v104 : Ref sig .tc := ⟨.hbm, 160, rfl⟩
abbrev main_call0_call0_v105 : Ref sig .tc := ⟨.hbm, 161, rfl⟩
abbrev main_call0_call0_c_26 : Ref sig .tc := ⟨.hbm, 162, rfl⟩
abbrev main_call0_call0_v106 : Ref sig .tc := ⟨.hbm, 163, rfl⟩
abbrev main_call0_call0_v107 : Ref sig .tc := ⟨.hbm, 164, rfl⟩
abbrev main_call0_call0_v108 : Ref sig .tc := ⟨.hbm, 165, rfl⟩
abbrev main_call0_call0_c_27 : Ref sig .tc := ⟨.hbm, 166, rfl⟩
abbrev main_call0_call0_v109 : Ref sig .tc := ⟨.hbm, 167, rfl⟩
abbrev main_call0_call0_v110 : Ref sig .tc := ⟨.hbm, 168, rfl⟩
abbrev main_call0_call0_c_28 : Ref sig .tc := ⟨.hbm, 169, rfl⟩
abbrev main_call0_call0_v111 : Ref sig .tc := ⟨.hbm, 170, rfl⟩
abbrev main_call0_call0_v112 : Ref sig .tc := ⟨.hbm, 171, rfl⟩
abbrev main_call0_call0_v113 : Ref sig .tc := ⟨.hbm, 172, rfl⟩
abbrev main_call0_call0_v114 : Ref sig .tc := ⟨.hbm, 173, rfl⟩
abbrev main_call0_call0_v115 : Ref sig .tc := ⟨.hbm, 174, rfl⟩
abbrev main_call0_call0_c_29 : Ref sig .tc := ⟨.hbm, 175, rfl⟩
abbrev main_call0_call0_v116 : Ref sig .tc := ⟨.hbm, 176, rfl⟩
abbrev main_call0_call0_v117 : Ref sig .tc := ⟨.hbm, 177, rfl⟩
abbrev main_call0_call0_c_30 : Ref sig .tc := ⟨.hbm, 178, rfl⟩
abbrev main_call0_call0_v118 : Ref sig .tc := ⟨.hbm, 179, rfl⟩
abbrev main_call0_call0_v119 : Ref sig .tc := ⟨.hbm, 180, rfl⟩
abbrev main_call0_call0_v120 : Ref sig .tc := ⟨.hbm, 181, rfl⟩
abbrev main_call0_call0_v121 : Ref sig .tc := ⟨.hbm, 182, rfl⟩
abbrev main_call0_call0_v122 : Ref sig .tc := ⟨.hbm, 183, rfl⟩
abbrev main_call0_call0_c_31 : Ref sig .tc := ⟨.hbm, 184, rfl⟩
abbrev main_call0_call0_v123 : Ref sig .tc := ⟨.hbm, 185, rfl⟩
abbrev main_call0_call0_v124 : Ref sig .tc := ⟨.hbm, 186, rfl⟩
abbrev main_call0_call0_c_32 : Ref sig .tc := ⟨.hbm, 187, rfl⟩
abbrev main_call0_call0_v125 : Ref sig .tc := ⟨.hbm, 188, rfl⟩
abbrev main_call0_call0_v126 : Ref sig .tc := ⟨.hbm, 189, rfl⟩
abbrev main_call0_call0_v127 : Ref sig .tc := ⟨.hbm, 190, rfl⟩
abbrev main_call0_call0_v128 : Ref sig .tc := ⟨.hbm, 191, rfl⟩
abbrev main_call0_call0_v129 : Ref sig .tc := ⟨.hbm, 192, rfl⟩
abbrev main_call0_call0_c_33 : Ref sig .tc := ⟨.hbm, 193, rfl⟩
abbrev main_call0_call0_v130 : Ref sig .tc := ⟨.hbm, 194, rfl⟩
abbrev main_call0_call0_v131 : Ref sig .tc := ⟨.hbm, 195, rfl⟩
abbrev main_call0_call0_c_34 : Ref sig .tc := ⟨.hbm, 196, rfl⟩
abbrev main_call0_call0_v132 : Ref sig .tc := ⟨.hbm, 197, rfl⟩
abbrev main_call0_call0_v133 : Ref sig .tc := ⟨.hbm, 198, rfl⟩
abbrev main_call0_call0_v134 : Ref sig .tc := ⟨.hbm, 199, rfl⟩
abbrev main_call0_call0_v135 : Ref sig .tc := ⟨.hbm, 200, rfl⟩
abbrev main_call0_call0_v136 : Ref sig .tc := ⟨.hbm, 201, rfl⟩
abbrev main_call0_call0_v137 : Ref sig .tc := ⟨.hbm, 202, rfl⟩
abbrev main_call0_call0_v138 : Ref sig .tc := ⟨.hbm, 203, rfl⟩
abbrev main_call0_call0_v139 : Ref sig .tc := ⟨.hbm, 204, rfl⟩
abbrev main_call0_call0_c_35 : Ref sig .tc := ⟨.hbm, 205, rfl⟩
abbrev main_call0_call0_v140 : Ref sig .tc := ⟨.hbm, 206, rfl⟩
abbrev main_call0_call0_v141 : Ref sig .tc := ⟨.hbm, 207, rfl⟩
abbrev main_call0_call0_v142 : Ref sig .tc := ⟨.hbm, 208, rfl⟩
abbrev main_call0_call0_c_36 : Ref sig .tc := ⟨.hbm, 209, rfl⟩
abbrev main_call0_call0_v143 : Ref sig .tc := ⟨.hbm, 210, rfl⟩
abbrev main_call0_call0_v144 : Ref sig .tc := ⟨.hbm, 211, rfl⟩
abbrev main_call0_call0_c_37 : Ref sig .tc := ⟨.hbm, 212, rfl⟩
abbrev main_call0_call0_v145 : Ref sig .tc := ⟨.hbm, 213, rfl⟩
abbrev main_call0_call0_v146 : Ref sig .tc := ⟨.hbm, 214, rfl⟩
abbrev main_call0_call0_v147 : Ref sig .tc := ⟨.hbm, 215, rfl⟩
abbrev main_call0_call0_v148 : Ref sig .tc := ⟨.hbm, 216, rfl⟩
abbrev main_call0_call0_v149 : Ref sig .tc := ⟨.hbm, 217, rfl⟩
abbrev main_call0_call0_c_38 : Ref sig .tc := ⟨.hbm, 218, rfl⟩
abbrev main_call0_call0_v150 : Ref sig .tc := ⟨.hbm, 219, rfl⟩
abbrev main_call0_call0_v151 : Ref sig .tc := ⟨.hbm, 220, rfl⟩
abbrev main_call0_call0_c_39 : Ref sig .tc := ⟨.hbm, 221, rfl⟩
abbrev main_call0_call0_v152 : Ref sig .tc := ⟨.hbm, 222, rfl⟩
abbrev main_call0_call0_v153 : Ref sig .tc := ⟨.hbm, 223, rfl⟩
abbrev main_call0_call0_v154 : Ref sig .tc := ⟨.hbm, 224, rfl⟩
abbrev main_call0_call0_v155 : Ref sig .tc := ⟨.hbm, 225, rfl⟩
abbrev main_call0_call0_v156 : Ref sig .tc := ⟨.hbm, 226, rfl⟩
abbrev main_call0_call0_c_40 : Ref sig .tc := ⟨.hbm, 227, rfl⟩
abbrev main_call0_call0_v157 : Ref sig .tc := ⟨.hbm, 228, rfl⟩
abbrev main_call0_call0_v158 : Ref sig .tc := ⟨.hbm, 229, rfl⟩
abbrev main_call0_call0_c_41 : Ref sig .tc := ⟨.hbm, 230, rfl⟩
abbrev main_call0_call0_v159 : Ref sig .tc := ⟨.hbm, 231, rfl⟩
abbrev main_call0_call0_v160 : Ref sig .tc := ⟨.hbm, 232, rfl⟩
abbrev main_call0_call0_v161 : Ref sig .tc := ⟨.hbm, 233, rfl⟩
abbrev main_call0_call0_v162 : Ref sig .tc := ⟨.hbm, 234, rfl⟩
abbrev main_call0_call0_v163 : Ref sig .tc := ⟨.hbm, 235, rfl⟩
abbrev main_call0_call0_c_42 : Ref sig .tc := ⟨.hbm, 236, rfl⟩
abbrev main_call0_call0_v164 : Ref sig .tc := ⟨.hbm, 237, rfl⟩
abbrev main_call0_call0_v165 : Ref sig .tc := ⟨.hbm, 238, rfl⟩
abbrev main_call0_call0_c_43 : Ref sig .tc := ⟨.hbm, 239, rfl⟩
abbrev main_call0_call0_v166 : Ref sig .tc := ⟨.hbm, 240, rfl⟩
abbrev main_call0_call0_v167 : Ref sig .tc := ⟨.hbm, 241, rfl⟩
abbrev main_call0_call0_v168 : Ref sig .tc := ⟨.hbm, 242, rfl⟩
abbrev main_call0_call0_v169 : Ref sig .tc := ⟨.hbm, 243, rfl⟩
abbrev main_call0_call0_v170 : Ref sig .tc := ⟨.hbm, 244, rfl⟩
abbrev main_call0_v11_0 : Ref sig .tc := ⟨.hbm, 245, rfl⟩
abbrev main_call0_call0_v172 : Ref sig .tc := ⟨.hbm, 246, rfl⟩
abbrev main_call0_call0_v173 : Ref sig .tc := ⟨.hbm, 247, rfl⟩
abbrev main_call0_call0_c_44 : Ref sig .tc := ⟨.hbm, 248, rfl⟩
abbrev main_call0_call0_v174 : Ref sig .tc := ⟨.hbm, 249, rfl⟩
abbrev main_call0_v11_1 : Ref sig .tc := ⟨.hbm, 250, rfl⟩
abbrev main_call0_v12 : Ref sig .tc := ⟨.hbm, 251, rfl⟩
abbrev main_call0_v13 : Ref sig .tc := ⟨.hbm, 252, rfl⟩
abbrev main_v7 : Ref sig .tc := ⟨.hbm, 253, rfl⟩
abbrev main_v8 : Ref sig .tc := ⟨.hbm, 254, rfl⟩
abbrev main_v9 : Ref sig .tc := ⟨.hbm, 255, rfl⟩
abbrev main_v10 : Ref sig .tc := ⟨.hbm, 256, rfl⟩
abbrev main_v11 : Ref sig .tc := ⟨.hbm, 257, rfl⟩
abbrev main_v12 : Ref sig .tc := ⟨.hbm, 258, rfl⟩
abbrev main_v13 : Ref sig .tc := ⟨.hbm, 259, rfl⟩
abbrev main_v14 : Ref sig .tc := ⟨.hbm, 260, rfl⟩
abbrev main_v15 : Ref sig .tc := ⟨.hbm, 261, rfl⟩
abbrev main_v16 : Ref sig .tc := ⟨.hbm, 262, rfl⟩
abbrev main_v17 : Ref sig .tc := ⟨.hbm, 263, rfl⟩
abbrev main_v18 : Ref sig .tc := ⟨.hbm, 264, rfl⟩
abbrev main_v19 : Ref sig .tc := ⟨.hbm, 265, rfl⟩
abbrev main_v20 : Ref sig .tc := ⟨.hbm, 266, rfl⟩
abbrev main_v21 : Ref sig .tc := ⟨.hbm, 267, rfl⟩
abbrev main_v22 : Ref sig .tc := ⟨.hbm, 268, rfl⟩
abbrev main_v23 : Ref sig .tc := ⟨.hbm, 269, rfl⟩
abbrev main_v24 : Ref sig .tc := ⟨.hbm, 270, rfl⟩
abbrev main_call1_v0 : Ref sig .tc := ⟨.hbm, 271, rfl⟩
abbrev main_call1_v1_0 : Ref sig .tc := ⟨.hbm, 272, rfl⟩
abbrev main_v25 : Ref sig .tc := ⟨.hbm, 273, rfl⟩
abbrev main_c_2 : Ref sig .tc := ⟨.hbm, 274, rfl⟩
abbrev main_v26 : Ref sig .tc := ⟨.hbm, 275, rfl⟩
abbrev main_v27 : Ref sig .tc := ⟨.hbm, 276, rfl⟩
abbrev main_c_3 : Ref sig .tc := ⟨.hbm, 277, rfl⟩
abbrev main_v28 : Ref sig .tc := ⟨.hbm, 278, rfl⟩
abbrev main_v29 : Ref sig .tc := ⟨.hbm, 279, rfl⟩
abbrev main_v30 : Ref sig .tc := ⟨.hbm, 280, rfl⟩
abbrev main_v31 : Ref sig .tc := ⟨.hbm, 281, rfl⟩
abbrev main_v32 : Ref sig .tc := ⟨.hbm, 282, rfl⟩
abbrev main_v33 : Ref sig .tc := ⟨.hbm, 283, rfl⟩
abbrev main_v34 : Ref sig .tc := ⟨.hbm, 284, rfl⟩
abbrev main_v35 : Ref sig .tc := ⟨.hbm, 285, rfl⟩
abbrev main_call2_call0_c : Ref sig .tc := ⟨.hbm, 286, rfl⟩
abbrev main_call2_call0_v0 : Ref sig .tc := ⟨.hbm, 287, rfl⟩
abbrev main_v36 : Ref sig .tc := ⟨.hbm, 288, rfl⟩
abbrev main_c_4 : Ref sig .tc := ⟨.hbm, 289, rfl⟩
abbrev main_v37 : Ref sig .tc := ⟨.hbm, 290, rfl⟩
abbrev main_v38 : Ref sig .tc := ⟨.hbm, 291, rfl⟩
abbrev main_c_5 : Ref sig .tc := ⟨.hbm, 292, rfl⟩
abbrev main_c_6 : Ref sig .tc := ⟨.hbm, 293, rfl⟩
abbrev main_call3_v0 : Ref sig .tc := ⟨.hbm, 294, rfl⟩
abbrev main_call3_v1 : Ref sig .tc := ⟨.hbm, 295, rfl⟩
abbrev main_call3_v2 : Ref sig .tc := ⟨.hbm, 296, rfl⟩
abbrev main_call3_v3 : Ref sig .tc := ⟨.hbm, 297, rfl⟩
abbrev main_call3_v4 : Ref sig .tc := ⟨.hbm, 298, rfl⟩
abbrev main_v39 : Ref sig .tc := ⟨.hbm, 299, rfl⟩
abbrev main_c_7 : Ref sig .tc := ⟨.hbm, 300, rfl⟩
abbrev main_v40 : Ref sig .tc := ⟨.hbm, 301, rfl⟩
abbrev main_v41 : Ref sig .tc := ⟨.hbm, 302, rfl⟩
abbrev main_c_8 : Ref sig .tc := ⟨.hbm, 303, rfl⟩
abbrev main_v42 : Ref sig .tc := ⟨.hbm, 304, rfl⟩
abbrev main_v43 : Ref sig .tc := ⟨.hbm, 305, rfl⟩
abbrev main_v44 : Ref sig .tc := ⟨.hbm, 306, rfl⟩
abbrev main_v45 : Ref sig .tc := ⟨.hbm, 307, rfl⟩
abbrev main_v46 : Ref sig .tc := ⟨.hbm, 308, rfl⟩
abbrev main_v47 : Ref sig .tc := ⟨.hbm, 309, rfl⟩
abbrev main_v48 : Ref sig .tc := ⟨.hbm, 310, rfl⟩
abbrev main_cst : Ref sig .tc := ⟨.hbm, 311, rfl⟩
abbrev main_cst_9 : Ref sig .tc := ⟨.hbm, 312, rfl⟩
abbrev main_call5_v0 : Ref sig .tc := ⟨.hbm, 313, rfl⟩
abbrev main_call5_v1 : Ref sig .tc := ⟨.hbm, 314, rfl⟩
abbrev main_call5_v2 : Ref sig .tc := ⟨.hbm, 315, rfl⟩
abbrev main_call5_v3 : Ref sig .tc := ⟨.hbm, 316, rfl⟩
abbrev main_call5_v4 : Ref sig .tc := ⟨.hbm, 317, rfl⟩
abbrev main_call5_v5 : Ref sig .tc := ⟨.hbm, 318, rfl⟩
abbrev main_call5_v6 : Ref sig .tc := ⟨.hbm, 319, rfl⟩
abbrev main_call5_v7 : Ref sig .tc := ⟨.hbm, 320, rfl⟩
abbrev main_call5_v8 : Ref sig .tc := ⟨.hbm, 321, rfl⟩
abbrev main_call5_c : Ref sig .tc := ⟨.hbm, 322, rfl⟩
abbrev main_call5_v9 : Ref sig .tc := ⟨.hbm, 323, rfl⟩
abbrev main_call5_v10 : Ref sig .tc := ⟨.hbm, 324, rfl⟩
abbrev main_call5_c_0 : Ref sig .tc := ⟨.hbm, 325, rfl⟩
abbrev main_call5_v11 : Ref sig .tc := ⟨.hbm, 326, rfl⟩
abbrev main_call5_v12 : Ref sig .tc := ⟨.hbm, 327, rfl⟩
abbrev main_call5_c_1 : Ref sig .tc := ⟨.hbm, 328, rfl⟩
abbrev main_call5_v13 : Ref sig .tc := ⟨.hbm, 329, rfl⟩
abbrev main_call5_v14 : Ref sig .tc := ⟨.hbm, 330, rfl⟩
abbrev main_call5_v15 : Ref sig .tc := ⟨.hbm, 331, rfl⟩
abbrev main_call5_v16 : Ref sig .tc := ⟨.hbm, 332, rfl⟩
abbrev main_call5_c_2 : Ref sig .tc := ⟨.hbm, 333, rfl⟩
abbrev main_call5_v17 : Ref sig .tc := ⟨.hbm, 334, rfl⟩
abbrev main_call5_v18 : Ref sig .tc := ⟨.hbm, 335, rfl⟩
abbrev main_call5_v19 : Ref sig .tc := ⟨.hbm, 336, rfl⟩
abbrev main_call5_v20 : Ref sig .tc := ⟨.hbm, 337, rfl⟩
abbrev main_call5_call0_v0 : Ref sig .tc := ⟨.hbm, 338, rfl⟩
abbrev main_call5_call0_c : Ref sig .tc := ⟨.hbm, 339, rfl⟩
abbrev main_call5_call0_v1 : Ref sig .tc := ⟨.hbm, 340, rfl⟩
abbrev main_call5_call0_v2 : Ref sig .tc := ⟨.hbm, 341, rfl⟩
abbrev main_call5_call0_v3 : Ref sig .tc := ⟨.hbm, 342, rfl⟩
abbrev main_call5_call0_v4 : Ref sig .tc := ⟨.hbm, 343, rfl⟩
abbrev main_call5_call0_v5 : Ref sig .tc := ⟨.hbm, 344, rfl⟩
abbrev main_call5_call0_v6 : Ref sig .tc := ⟨.hbm, 345, rfl⟩
abbrev main_call5_call0_c_0 : Ref sig .tc := ⟨.hbm, 346, rfl⟩
abbrev main_call5_call0_v7 : Ref sig .tc := ⟨.hbm, 347, rfl⟩
abbrev main_call5_call0_v8 : Ref sig .tc := ⟨.hbm, 348, rfl⟩
abbrev main_call5_call0_c_1 : Ref sig .tc := ⟨.hbm, 349, rfl⟩
abbrev main_call5_call0_v9 : Ref sig .tc := ⟨.hbm, 350, rfl⟩
abbrev main_call5_call0_v10 : Ref sig .tc := ⟨.hbm, 351, rfl⟩
abbrev main_call5_call0_v11 : Ref sig .tc := ⟨.hbm, 352, rfl⟩
abbrev main_call5_call0_v12 : Ref sig .tc := ⟨.hbm, 353, rfl⟩
abbrev main_call5_call0_v13 : Ref sig .tc := ⟨.hbm, 354, rfl⟩
abbrev main_call5_call0_c_2 : Ref sig .tc := ⟨.hbm, 355, rfl⟩
abbrev main_call5_call0_v14 : Ref sig .tc := ⟨.hbm, 356, rfl⟩
abbrev main_call5_call0_v15 : Ref sig .tc := ⟨.hbm, 357, rfl⟩
abbrev main_call5_call0_c_3 : Ref sig .tc := ⟨.hbm, 358, rfl⟩
abbrev main_call5_call0_v16 : Ref sig .tc := ⟨.hbm, 359, rfl⟩
abbrev main_call5_call0_v17 : Ref sig .tc := ⟨.hbm, 360, rfl⟩
abbrev main_call5_call0_v18 : Ref sig .tc := ⟨.hbm, 361, rfl⟩
abbrev main_call5_call0_v19 : Ref sig .tc := ⟨.hbm, 362, rfl⟩
abbrev main_call5_call0_v20 : Ref sig .tc := ⟨.hbm, 363, rfl⟩
abbrev main_call5_call0_c_4 : Ref sig .tc := ⟨.hbm, 364, rfl⟩
abbrev main_call5_call0_v21 : Ref sig .tc := ⟨.hbm, 365, rfl⟩
abbrev main_call5_call0_v22 : Ref sig .tc := ⟨.hbm, 366, rfl⟩
abbrev main_call5_call0_c_5 : Ref sig .tc := ⟨.hbm, 367, rfl⟩
abbrev main_call5_call0_v23 : Ref sig .tc := ⟨.hbm, 368, rfl⟩
abbrev main_call5_call0_v24 : Ref sig .tc := ⟨.hbm, 369, rfl⟩
abbrev main_call5_call0_v25 : Ref sig .tc := ⟨.hbm, 370, rfl⟩
abbrev main_call5_call0_v26 : Ref sig .tc := ⟨.hbm, 371, rfl⟩
abbrev main_call5_call0_v27 : Ref sig .tc := ⟨.hbm, 372, rfl⟩
abbrev main_call5_call0_c_6 : Ref sig .tc := ⟨.hbm, 373, rfl⟩
abbrev main_call5_call0_v28 : Ref sig .tc := ⟨.hbm, 374, rfl⟩
abbrev main_call5_call0_v29 : Ref sig .tc := ⟨.hbm, 375, rfl⟩
abbrev main_call5_call0_c_7 : Ref sig .tc := ⟨.hbm, 376, rfl⟩
abbrev main_call5_call0_v30 : Ref sig .tc := ⟨.hbm, 377, rfl⟩
abbrev main_call5_call0_v31 : Ref sig .tc := ⟨.hbm, 378, rfl⟩
abbrev main_call5_call0_v32 : Ref sig .tc := ⟨.hbm, 379, rfl⟩
abbrev main_call5_call0_v33 : Ref sig .tc := ⟨.hbm, 380, rfl⟩
abbrev main_call5_call0_v34 : Ref sig .tc := ⟨.hbm, 381, rfl⟩
abbrev main_call5_call0_v35 : Ref sig .tc := ⟨.hbm, 382, rfl⟩
abbrev main_call5_call0_v36 : Ref sig .tc := ⟨.hbm, 383, rfl⟩
abbrev main_call5_call0_v37 : Ref sig .tc := ⟨.hbm, 384, rfl⟩
abbrev main_call5_call0_c_8 : Ref sig .tc := ⟨.hbm, 385, rfl⟩
abbrev main_call5_call0_v38 : Ref sig .tc := ⟨.hbm, 386, rfl⟩
abbrev main_call5_call0_v39 : Ref sig .tc := ⟨.hbm, 387, rfl⟩
abbrev main_call5_call0_v40 : Ref sig .tc := ⟨.hbm, 388, rfl⟩
abbrev main_call5_call0_c_9 : Ref sig .tc := ⟨.hbm, 389, rfl⟩
abbrev main_call5_call0_v41 : Ref sig .tc := ⟨.hbm, 390, rfl⟩
abbrev main_call5_call0_v42 : Ref sig .tc := ⟨.hbm, 391, rfl⟩
abbrev main_call5_call0_c_10 : Ref sig .tc := ⟨.hbm, 392, rfl⟩
abbrev main_call5_call0_v43 : Ref sig .tc := ⟨.hbm, 393, rfl⟩
abbrev main_call5_call0_v44 : Ref sig .tc := ⟨.hbm, 394, rfl⟩
abbrev main_call5_call0_v45 : Ref sig .tc := ⟨.hbm, 395, rfl⟩
abbrev main_call5_call0_v46 : Ref sig .tc := ⟨.hbm, 396, rfl⟩
abbrev main_call5_call0_v47 : Ref sig .tc := ⟨.hbm, 397, rfl⟩
abbrev main_call5_call0_c_11 : Ref sig .tc := ⟨.hbm, 398, rfl⟩
abbrev main_call5_call0_v48 : Ref sig .tc := ⟨.hbm, 399, rfl⟩
abbrev main_call5_call0_v49 : Ref sig .tc := ⟨.hbm, 400, rfl⟩
abbrev main_call5_call0_c_12 : Ref sig .tc := ⟨.hbm, 401, rfl⟩
abbrev main_call5_call0_v50 : Ref sig .tc := ⟨.hbm, 402, rfl⟩
abbrev main_call5_call0_v51 : Ref sig .tc := ⟨.hbm, 403, rfl⟩
abbrev main_call5_call0_v52 : Ref sig .tc := ⟨.hbm, 404, rfl⟩
abbrev main_call5_call0_v53 : Ref sig .tc := ⟨.hbm, 405, rfl⟩
abbrev main_call5_call0_v54 : Ref sig .tc := ⟨.hbm, 406, rfl⟩
abbrev main_call5_call0_c_13 : Ref sig .tc := ⟨.hbm, 407, rfl⟩
abbrev main_call5_call0_v55 : Ref sig .tc := ⟨.hbm, 408, rfl⟩
abbrev main_call5_call0_v56 : Ref sig .tc := ⟨.hbm, 409, rfl⟩
abbrev main_call5_call0_c_14 : Ref sig .tc := ⟨.hbm, 410, rfl⟩
abbrev main_call5_call0_v57 : Ref sig .tc := ⟨.hbm, 411, rfl⟩
abbrev main_call5_call0_v58 : Ref sig .tc := ⟨.hbm, 412, rfl⟩
abbrev main_call5_call0_v59 : Ref sig .tc := ⟨.hbm, 413, rfl⟩
abbrev main_call5_call0_v60 : Ref sig .tc := ⟨.hbm, 414, rfl⟩
abbrev main_call5_call0_v61 : Ref sig .tc := ⟨.hbm, 415, rfl⟩
abbrev main_call5_call0_c_15 : Ref sig .tc := ⟨.hbm, 416, rfl⟩
abbrev main_call5_call0_v62 : Ref sig .tc := ⟨.hbm, 417, rfl⟩
abbrev main_call5_call0_v63 : Ref sig .tc := ⟨.hbm, 418, rfl⟩
abbrev main_call5_call0_c_16 : Ref sig .tc := ⟨.hbm, 419, rfl⟩
abbrev main_call5_call0_v64 : Ref sig .tc := ⟨.hbm, 420, rfl⟩
abbrev main_call5_call0_v65 : Ref sig .tc := ⟨.hbm, 421, rfl⟩
abbrev main_call5_call0_v66 : Ref sig .tc := ⟨.hbm, 422, rfl⟩
abbrev main_call5_call0_v67 : Ref sig .tc := ⟨.hbm, 423, rfl⟩
abbrev main_call5_call0_v68 : Ref sig .tc := ⟨.hbm, 424, rfl⟩
abbrev main_call5_call0_v69 : Ref sig .tc := ⟨.hbm, 425, rfl⟩
abbrev main_call5_call0_v70 : Ref sig .tc := ⟨.hbm, 426, rfl⟩
abbrev main_call5_call0_v71 : Ref sig .tc := ⟨.hbm, 427, rfl⟩
abbrev main_call5_call0_c_17 : Ref sig .tc := ⟨.hbm, 428, rfl⟩
abbrev main_call5_call0_v72 : Ref sig .tc := ⟨.hbm, 429, rfl⟩
abbrev main_call5_call0_v73 : Ref sig .tc := ⟨.hbm, 430, rfl⟩
abbrev main_call5_call0_v74 : Ref sig .tc := ⟨.hbm, 431, rfl⟩
abbrev main_call5_call0_c_18 : Ref sig .tc := ⟨.hbm, 432, rfl⟩
abbrev main_call5_call0_v75 : Ref sig .tc := ⟨.hbm, 433, rfl⟩
abbrev main_call5_call0_v76 : Ref sig .tc := ⟨.hbm, 434, rfl⟩
abbrev main_call5_call0_c_19 : Ref sig .tc := ⟨.hbm, 435, rfl⟩
abbrev main_call5_call0_v77 : Ref sig .tc := ⟨.hbm, 436, rfl⟩
abbrev main_call5_call0_v78 : Ref sig .tc := ⟨.hbm, 437, rfl⟩
abbrev main_call5_call0_v79 : Ref sig .tc := ⟨.hbm, 438, rfl⟩
abbrev main_call5_call0_v80 : Ref sig .tc := ⟨.hbm, 439, rfl⟩
abbrev main_call5_call0_v81 : Ref sig .tc := ⟨.hbm, 440, rfl⟩
abbrev main_call5_call0_c_20 : Ref sig .tc := ⟨.hbm, 441, rfl⟩
abbrev main_call5_call0_v82 : Ref sig .tc := ⟨.hbm, 442, rfl⟩
abbrev main_call5_call0_v83 : Ref sig .tc := ⟨.hbm, 443, rfl⟩
abbrev main_call5_call0_c_21 : Ref sig .tc := ⟨.hbm, 444, rfl⟩
abbrev main_call5_call0_v84 : Ref sig .tc := ⟨.hbm, 445, rfl⟩
abbrev main_call5_call0_v85 : Ref sig .tc := ⟨.hbm, 446, rfl⟩
abbrev main_call5_call0_v86 : Ref sig .tc := ⟨.hbm, 447, rfl⟩
abbrev main_call5_call0_v87 : Ref sig .tc := ⟨.hbm, 448, rfl⟩
abbrev main_call5_call0_v88 : Ref sig .tc := ⟨.hbm, 449, rfl⟩
abbrev main_call5_call0_c_22 : Ref sig .tc := ⟨.hbm, 450, rfl⟩
abbrev main_call5_call0_v89 : Ref sig .tc := ⟨.hbm, 451, rfl⟩
abbrev main_call5_call0_v90 : Ref sig .tc := ⟨.hbm, 452, rfl⟩
abbrev main_call5_call0_c_23 : Ref sig .tc := ⟨.hbm, 453, rfl⟩
abbrev main_call5_call0_v91 : Ref sig .tc := ⟨.hbm, 454, rfl⟩
abbrev main_call5_call0_v92 : Ref sig .tc := ⟨.hbm, 455, rfl⟩
abbrev main_call5_call0_v93 : Ref sig .tc := ⟨.hbm, 456, rfl⟩
abbrev main_call5_call0_v94 : Ref sig .tc := ⟨.hbm, 457, rfl⟩
abbrev main_call5_call0_v95 : Ref sig .tc := ⟨.hbm, 458, rfl⟩
abbrev main_call5_call0_c_24 : Ref sig .tc := ⟨.hbm, 459, rfl⟩
abbrev main_call5_call0_v96 : Ref sig .tc := ⟨.hbm, 460, rfl⟩
abbrev main_call5_call0_v97 : Ref sig .tc := ⟨.hbm, 461, rfl⟩
abbrev main_call5_call0_c_25 : Ref sig .tc := ⟨.hbm, 462, rfl⟩
abbrev main_call5_call0_v98 : Ref sig .tc := ⟨.hbm, 463, rfl⟩
abbrev main_call5_call0_v99 : Ref sig .tc := ⟨.hbm, 464, rfl⟩
abbrev main_call5_call0_v100 : Ref sig .tc := ⟨.hbm, 465, rfl⟩
abbrev main_call5_call0_v101 : Ref sig .tc := ⟨.hbm, 466, rfl⟩
abbrev main_call5_call0_v102 : Ref sig .tc := ⟨.hbm, 467, rfl⟩
abbrev main_call5_call0_v103 : Ref sig .tc := ⟨.hbm, 468, rfl⟩
abbrev main_call5_call0_v104 : Ref sig .tc := ⟨.hbm, 469, rfl⟩
abbrev main_call5_call0_v105 : Ref sig .tc := ⟨.hbm, 470, rfl⟩
abbrev main_call5_call0_c_26 : Ref sig .tc := ⟨.hbm, 471, rfl⟩
abbrev main_call5_call0_v106 : Ref sig .tc := ⟨.hbm, 472, rfl⟩
abbrev main_call5_call0_v107 : Ref sig .tc := ⟨.hbm, 473, rfl⟩
abbrev main_call5_call0_v108 : Ref sig .tc := ⟨.hbm, 474, rfl⟩
abbrev main_call5_call0_c_27 : Ref sig .tc := ⟨.hbm, 475, rfl⟩
abbrev main_call5_call0_v109 : Ref sig .tc := ⟨.hbm, 476, rfl⟩
abbrev main_call5_call0_v110 : Ref sig .tc := ⟨.hbm, 477, rfl⟩
abbrev main_call5_call0_c_28 : Ref sig .tc := ⟨.hbm, 478, rfl⟩
abbrev main_call5_call0_v111 : Ref sig .tc := ⟨.hbm, 479, rfl⟩
abbrev main_call5_call0_v112 : Ref sig .tc := ⟨.hbm, 480, rfl⟩
abbrev main_call5_call0_v113 : Ref sig .tc := ⟨.hbm, 481, rfl⟩
abbrev main_call5_call0_v114 : Ref sig .tc := ⟨.hbm, 482, rfl⟩
abbrev main_call5_call0_v115 : Ref sig .tc := ⟨.hbm, 483, rfl⟩
abbrev main_call5_call0_c_29 : Ref sig .tc := ⟨.hbm, 484, rfl⟩
abbrev main_call5_call0_v116 : Ref sig .tc := ⟨.hbm, 485, rfl⟩
abbrev main_call5_call0_v117 : Ref sig .tc := ⟨.hbm, 486, rfl⟩
abbrev main_call5_call0_c_30 : Ref sig .tc := ⟨.hbm, 487, rfl⟩
abbrev main_call5_call0_v118 : Ref sig .tc := ⟨.hbm, 488, rfl⟩
abbrev main_call5_call0_v119 : Ref sig .tc := ⟨.hbm, 489, rfl⟩
abbrev main_call5_call0_v120 : Ref sig .tc := ⟨.hbm, 490, rfl⟩
abbrev main_call5_call0_v121 : Ref sig .tc := ⟨.hbm, 491, rfl⟩
abbrev main_call5_call0_v122 : Ref sig .tc := ⟨.hbm, 492, rfl⟩
abbrev main_call5_call0_c_31 : Ref sig .tc := ⟨.hbm, 493, rfl⟩
abbrev main_call5_call0_v123 : Ref sig .tc := ⟨.hbm, 494, rfl⟩
abbrev main_call5_call0_v124 : Ref sig .tc := ⟨.hbm, 495, rfl⟩
abbrev main_call5_call0_c_32 : Ref sig .tc := ⟨.hbm, 496, rfl⟩
abbrev main_call5_call0_v125 : Ref sig .tc := ⟨.hbm, 497, rfl⟩
abbrev main_call5_call0_v126 : Ref sig .tc := ⟨.hbm, 498, rfl⟩
abbrev main_call5_call0_v127 : Ref sig .tc := ⟨.hbm, 499, rfl⟩
abbrev main_call5_call0_v128 : Ref sig .tc := ⟨.hbm, 500, rfl⟩
abbrev main_call5_call0_v129 : Ref sig .tc := ⟨.hbm, 501, rfl⟩
abbrev main_call5_call0_c_33 : Ref sig .tc := ⟨.hbm, 502, rfl⟩
abbrev main_call5_call0_v130 : Ref sig .tc := ⟨.hbm, 503, rfl⟩
abbrev main_call5_call0_v131 : Ref sig .tc := ⟨.hbm, 504, rfl⟩
abbrev main_call5_call0_c_34 : Ref sig .tc := ⟨.hbm, 505, rfl⟩
abbrev main_call5_call0_v132 : Ref sig .tc := ⟨.hbm, 506, rfl⟩
abbrev main_call5_call0_v133 : Ref sig .tc := ⟨.hbm, 507, rfl⟩
abbrev main_call5_call0_v134 : Ref sig .tc := ⟨.hbm, 508, rfl⟩
abbrev main_call5_call0_v135 : Ref sig .tc := ⟨.hbm, 509, rfl⟩
abbrev main_call5_call0_v136 : Ref sig .tc := ⟨.hbm, 510, rfl⟩
abbrev main_call5_call0_v137 : Ref sig .tc := ⟨.hbm, 511, rfl⟩
abbrev main_call5_call0_v138 : Ref sig .tc := ⟨.hbm, 512, rfl⟩
abbrev main_call5_call0_v139 : Ref sig .tc := ⟨.hbm, 513, rfl⟩
abbrev main_call5_call0_c_35 : Ref sig .tc := ⟨.hbm, 514, rfl⟩
abbrev main_call5_call0_v140 : Ref sig .tc := ⟨.hbm, 515, rfl⟩
abbrev main_call5_call0_v141 : Ref sig .tc := ⟨.hbm, 516, rfl⟩
abbrev main_call5_call0_v142 : Ref sig .tc := ⟨.hbm, 517, rfl⟩
abbrev main_call5_call0_c_36 : Ref sig .tc := ⟨.hbm, 518, rfl⟩
abbrev main_call5_call0_v143 : Ref sig .tc := ⟨.hbm, 519, rfl⟩
abbrev main_call5_call0_v144 : Ref sig .tc := ⟨.hbm, 520, rfl⟩
abbrev main_call5_call0_c_37 : Ref sig .tc := ⟨.hbm, 521, rfl⟩
abbrev main_call5_call0_v145 : Ref sig .tc := ⟨.hbm, 522, rfl⟩
abbrev main_call5_call0_v146 : Ref sig .tc := ⟨.hbm, 523, rfl⟩
abbrev main_call5_call0_v147 : Ref sig .tc := ⟨.hbm, 524, rfl⟩
abbrev main_call5_call0_v148 : Ref sig .tc := ⟨.hbm, 525, rfl⟩
abbrev main_call5_call0_v149 : Ref sig .tc := ⟨.hbm, 526, rfl⟩
abbrev main_call5_call0_c_38 : Ref sig .tc := ⟨.hbm, 527, rfl⟩
abbrev main_call5_call0_v150 : Ref sig .tc := ⟨.hbm, 528, rfl⟩
abbrev main_call5_call0_v151 : Ref sig .tc := ⟨.hbm, 529, rfl⟩
abbrev main_call5_call0_c_39 : Ref sig .tc := ⟨.hbm, 530, rfl⟩
abbrev main_call5_call0_v152 : Ref sig .tc := ⟨.hbm, 531, rfl⟩
abbrev main_call5_call0_v153 : Ref sig .tc := ⟨.hbm, 532, rfl⟩
abbrev main_call5_call0_v154 : Ref sig .tc := ⟨.hbm, 533, rfl⟩
abbrev main_call5_call0_v155 : Ref sig .tc := ⟨.hbm, 534, rfl⟩
abbrev main_call5_call0_v156 : Ref sig .tc := ⟨.hbm, 535, rfl⟩
abbrev main_call5_call0_c_40 : Ref sig .tc := ⟨.hbm, 536, rfl⟩
abbrev main_call5_call0_v157 : Ref sig .tc := ⟨.hbm, 537, rfl⟩
abbrev main_call5_call0_v158 : Ref sig .tc := ⟨.hbm, 538, rfl⟩
abbrev main_call5_call0_c_41 : Ref sig .tc := ⟨.hbm, 539, rfl⟩
abbrev main_call5_call0_v159 : Ref sig .tc := ⟨.hbm, 540, rfl⟩
abbrev main_call5_call0_v160 : Ref sig .tc := ⟨.hbm, 541, rfl⟩
abbrev main_call5_call0_v161 : Ref sig .tc := ⟨.hbm, 542, rfl⟩
abbrev main_call5_call0_v162 : Ref sig .tc := ⟨.hbm, 543, rfl⟩
abbrev main_call5_call0_v163 : Ref sig .tc := ⟨.hbm, 544, rfl⟩
abbrev main_call5_call0_c_42 : Ref sig .tc := ⟨.hbm, 545, rfl⟩
abbrev main_call5_call0_v164 : Ref sig .tc := ⟨.hbm, 546, rfl⟩
abbrev main_call5_call0_v165 : Ref sig .tc := ⟨.hbm, 547, rfl⟩
abbrev main_call5_call0_c_43 : Ref sig .tc := ⟨.hbm, 548, rfl⟩
abbrev main_call5_call0_v166 : Ref sig .tc := ⟨.hbm, 549, rfl⟩
abbrev main_call5_call0_v167 : Ref sig .tc := ⟨.hbm, 550, rfl⟩
abbrev main_call5_call0_v168 : Ref sig .tc := ⟨.hbm, 551, rfl⟩
abbrev main_call5_call0_v169 : Ref sig .tc := ⟨.hbm, 552, rfl⟩
abbrev main_call5_call0_v170 : Ref sig .tc := ⟨.hbm, 553, rfl⟩
abbrev main_call5_v21_0 : Ref sig .tc := ⟨.hbm, 554, rfl⟩
abbrev main_call5_call0_v172 : Ref sig .tc := ⟨.hbm, 555, rfl⟩
abbrev main_call5_call0_v173 : Ref sig .tc := ⟨.hbm, 556, rfl⟩
abbrev main_call5_call0_c_44 : Ref sig .tc := ⟨.hbm, 557, rfl⟩
abbrev main_call5_call0_v174 : Ref sig .tc := ⟨.hbm, 558, rfl⟩
abbrev main_call5_v21_1 : Ref sig .tc := ⟨.hbm, 559, rfl⟩
abbrev main_call5_v22 : Ref sig .tc := ⟨.hbm, 560, rfl⟩
abbrev main_call5_c_3 : Ref sig .tc := ⟨.hbm, 561, rfl⟩
abbrev main_call5_v23 : Ref sig .tc := ⟨.hbm, 562, rfl⟩
abbrev main_call5_v24 : Ref sig .tc := ⟨.hbm, 563, rfl⟩
abbrev main_call5_c_4 : Ref sig .tc := ⟨.hbm, 564, rfl⟩
abbrev main_call5_v25 : Ref sig .tc := ⟨.hbm, 565, rfl⟩
abbrev main_call5_v26 : Ref sig .tc := ⟨.hbm, 566, rfl⟩
abbrev main_call5_v27 : Ref sig .tc := ⟨.hbm, 567, rfl⟩
abbrev main_call5_cst : Ref sig .tc := ⟨.hbm, 568, rfl⟩
abbrev main_call5_v28 : Ref sig .tc := ⟨.hbm, 569, rfl⟩
abbrev main_call5_v29 : Ref sig .tc := ⟨.hbm, 570, rfl⟩
abbrev main_call5_v30 : Ref sig .tc := ⟨.hbm, 571, rfl⟩
abbrev main_call5_v31 : Ref sig .tc := ⟨.hbm, 572, rfl⟩
abbrev main_call5_v32 : Ref sig .tc := ⟨.hbm, 573, rfl⟩
abbrev main_call5_v33 : Ref sig .tc := ⟨.hbm, 574, rfl⟩
abbrev main_call5_v34 : Ref sig .tc := ⟨.hbm, 575, rfl⟩
abbrev main_call5_v35 : Ref sig .tc := ⟨.hbm, 576, rfl⟩
abbrev main_v49 : Ref sig .tc := ⟨.hbm, 577, rfl⟩
abbrev main_v50 : Ref sig .tc := ⟨.hbm, 578, rfl⟩
abbrev main_v51 : Ref sig .tc := ⟨.hbm, 579, rfl⟩
abbrev main_v52 : Ref sig .tc := ⟨.hbm, 580, rfl⟩
abbrev main_v53 : Ref sig .tc := ⟨.hbm, 581, rfl⟩
abbrev main_cst_10 : Ref sig .tc := ⟨.hbm, 582, rfl⟩
abbrev main_v54 : Ref sig .tc := ⟨.hbm, 583, rfl⟩
abbrev main_v55 : Ref sig .tc := ⟨.hbm, 584, rfl⟩
abbrev main_cst_11 : Ref sig .tc := ⟨.hbm, 585, rfl⟩
abbrev main_v56 : Ref sig .tc := ⟨.hbm, 586, rfl⟩
abbrev main_v57 : Ref sig .tc := ⟨.hbm, 587, rfl⟩
abbrev main_cst_12 : Ref sig .tc := ⟨.hbm, 588, rfl⟩
abbrev main_v58 : Ref sig .tc := ⟨.hbm, 589, rfl⟩
abbrev main_v59 : Ref sig .tc := ⟨.hbm, 590, rfl⟩
abbrev main_cst_13 : Ref sig .tc := ⟨.hbm, 591, rfl⟩
abbrev main_v60 : Ref sig .tc := ⟨.hbm, 592, rfl⟩
abbrev main_v61 : Ref sig .tc := ⟨.hbm, 593, rfl⟩
abbrev main_v62 : Ref sig .tc := ⟨.hbm, 594, rfl⟩
abbrev main_cst_14 : Ref sig .tc := ⟨.hbm, 595, rfl⟩
abbrev main_v63 : Ref sig .tc := ⟨.hbm, 596, rfl⟩
abbrev main_v64 : Ref sig .tc := ⟨.hbm, 597, rfl⟩
abbrev main_v65 : Ref sig .tc := ⟨.hbm, 598, rfl⟩
abbrev main_cst_15 : Ref sig .tc := ⟨.hbm, 599, rfl⟩
abbrev main_v66 : Ref sig .tc := ⟨.hbm, 600, rfl⟩
abbrev main_v67 : Ref sig .tc := ⟨.hbm, 601, rfl⟩
abbrev main_v68 : Ref sig .tc := ⟨.hbm, 602, rfl⟩
abbrev main_cst_16 : Ref sig .tc := ⟨.hbm, 603, rfl⟩
abbrev main_v69 : Ref sig .tc := ⟨.hbm, 604, rfl⟩
abbrev main_v70 : Ref sig .tc := ⟨.hbm, 605, rfl⟩
abbrev main_v71 : Ref sig .tc := ⟨.hbm, 606, rfl⟩
abbrev main_cst_17 : Ref sig .tc := ⟨.hbm, 607, rfl⟩
abbrev main_v72 : Ref sig .tc := ⟨.hbm, 608, rfl⟩
abbrev main_v73 : Ref sig .tc := ⟨.hbm, 609, rfl⟩
abbrev main_cst_18 : Ref sig .tc := ⟨.hbm, 610, rfl⟩
abbrev main_v74 : Ref sig .tc := ⟨.hbm, 611, rfl⟩
abbrev main_v75 : Ref sig .tc := ⟨.hbm, 612, rfl⟩
abbrev main_cst_19 : Ref sig .tc := ⟨.hbm, 613, rfl⟩
abbrev main_v76 : Ref sig .tc := ⟨.hbm, 614, rfl⟩
abbrev main_v77 : Ref sig .tc := ⟨.hbm, 615, rfl⟩
abbrev main_v78 : Ref sig .tc := ⟨.hbm, 616, rfl⟩
abbrev main_cst_20 : Ref sig .tc := ⟨.hbm, 617, rfl⟩
abbrev main_v79 : Ref sig .tc := ⟨.hbm, 618, rfl⟩
abbrev main_v80 : Ref sig .tc := ⟨.hbm, 619, rfl⟩
abbrev main_v81 : Ref sig .tc := ⟨.hbm, 620, rfl⟩
abbrev main_cst_21 : Ref sig .tc := ⟨.hbm, 621, rfl⟩
abbrev main_v82 : Ref sig .tc := ⟨.hbm, 622, rfl⟩
abbrev main_v83 : Ref sig .tc := ⟨.hbm, 623, rfl⟩
abbrev main_v84 : Ref sig .tc := ⟨.hbm, 624, rfl⟩
abbrev main_cst_22 : Ref sig .tc := ⟨.hbm, 625, rfl⟩
abbrev main_v85 : Ref sig .tc := ⟨.hbm, 626, rfl⟩
abbrev main_v86 : Ref sig .tc := ⟨.hbm, 627, rfl⟩
abbrev main_v87 : Ref sig .tc := ⟨.hbm, 628, rfl⟩
abbrev main_v88 : Ref sig .tc := ⟨.hbm, 629, rfl⟩
abbrev main_cst_23 : Ref sig .tc := ⟨.hbm, 630, rfl⟩
abbrev main_v89 : Ref sig .tc := ⟨.hbm, 631, rfl⟩
abbrev main_v90 : Ref sig .tc := ⟨.hbm, 632, rfl⟩
abbrev main_v91 : Ref sig .tc := ⟨.hbm, 633, rfl⟩
abbrev main_v92 : Ref sig .tc := ⟨.hbm, 634, rfl⟩
abbrev main_call7_v0 : Ref sig .tc := ⟨.hbm, 635, rfl⟩
abbrev main_v93 : Ref sig .tc := ⟨.hbm, 636, rfl⟩
abbrev main_cst_24 : Ref sig .tc := ⟨.hbm, 637, rfl⟩
abbrev main_cst_25 : Ref sig .tc := ⟨.hbm, 638, rfl⟩
abbrev main_call8_v0 : Ref sig .tc := ⟨.hbm, 639, rfl⟩
abbrev main_call8_v1 : Ref sig .tc := ⟨.hbm, 640, rfl⟩
abbrev main_call8_v2 : Ref sig .tc := ⟨.hbm, 641, rfl⟩
abbrev main_call8_v3 : Ref sig .tc := ⟨.hbm, 642, rfl⟩
abbrev main_call8_v4 : Ref sig .tc := ⟨.hbm, 643, rfl⟩
abbrev main_call8_v5 : Ref sig .tc := ⟨.hbm, 644, rfl⟩
abbrev main_call8_v6 : Ref sig .tc := ⟨.hbm, 645, rfl⟩
abbrev main_call8_v7 : Ref sig .tc := ⟨.hbm, 646, rfl⟩
abbrev main_call8_v8 : Ref sig .tc := ⟨.hbm, 647, rfl⟩
abbrev main_call8_c : Ref sig .tc := ⟨.hbm, 648, rfl⟩
abbrev main_call8_v9 : Ref sig .tc := ⟨.hbm, 649, rfl⟩
abbrev main_call8_v10 : Ref sig .tc := ⟨.hbm, 650, rfl⟩
abbrev main_call8_c_0 : Ref sig .tc := ⟨.hbm, 651, rfl⟩
abbrev main_call8_v11 : Ref sig .tc := ⟨.hbm, 652, rfl⟩
abbrev main_call8_v12 : Ref sig .tc := ⟨.hbm, 653, rfl⟩
abbrev main_call8_c_1 : Ref sig .tc := ⟨.hbm, 654, rfl⟩
abbrev main_call8_v13 : Ref sig .tc := ⟨.hbm, 655, rfl⟩
abbrev main_call8_v14 : Ref sig .tc := ⟨.hbm, 656, rfl⟩
abbrev main_call8_v15 : Ref sig .tc := ⟨.hbm, 657, rfl⟩
abbrev main_call8_v16 : Ref sig .tc := ⟨.hbm, 658, rfl⟩
abbrev main_call8_c_2 : Ref sig .tc := ⟨.hbm, 659, rfl⟩
abbrev main_call8_v17 : Ref sig .tc := ⟨.hbm, 660, rfl⟩
abbrev main_call8_v18 : Ref sig .tc := ⟨.hbm, 661, rfl⟩
abbrev main_call8_v19 : Ref sig .tc := ⟨.hbm, 662, rfl⟩
abbrev main_call8_v20 : Ref sig .tc := ⟨.hbm, 663, rfl⟩
abbrev main_call8_call0_v0 : Ref sig .tc := ⟨.hbm, 664, rfl⟩
abbrev main_call8_call0_c : Ref sig .tc := ⟨.hbm, 665, rfl⟩
abbrev main_call8_call0_v1 : Ref sig .tc := ⟨.hbm, 666, rfl⟩
abbrev main_call8_call0_v2 : Ref sig .tc := ⟨.hbm, 667, rfl⟩
abbrev main_call8_call0_v3 : Ref sig .tc := ⟨.hbm, 668, rfl⟩
abbrev main_call8_call0_v4 : Ref sig .tc := ⟨.hbm, 669, rfl⟩
abbrev main_call8_call0_v5 : Ref sig .tc := ⟨.hbm, 670, rfl⟩
abbrev main_call8_call0_v6 : Ref sig .tc := ⟨.hbm, 671, rfl⟩
abbrev main_call8_call0_c_0 : Ref sig .tc := ⟨.hbm, 672, rfl⟩
abbrev main_call8_call0_v7 : Ref sig .tc := ⟨.hbm, 673, rfl⟩
abbrev main_call8_call0_v8 : Ref sig .tc := ⟨.hbm, 674, rfl⟩
abbrev main_call8_call0_c_1 : Ref sig .tc := ⟨.hbm, 675, rfl⟩
abbrev main_call8_call0_v9 : Ref sig .tc := ⟨.hbm, 676, rfl⟩
abbrev main_call8_call0_v10 : Ref sig .tc := ⟨.hbm, 677, rfl⟩
abbrev main_call8_call0_v11 : Ref sig .tc := ⟨.hbm, 678, rfl⟩
abbrev main_call8_call0_v12 : Ref sig .tc := ⟨.hbm, 679, rfl⟩
abbrev main_call8_call0_v13 : Ref sig .tc := ⟨.hbm, 680, rfl⟩
abbrev main_call8_call0_c_2 : Ref sig .tc := ⟨.hbm, 681, rfl⟩
abbrev main_call8_call0_v14 : Ref sig .tc := ⟨.hbm, 682, rfl⟩
abbrev main_call8_call0_v15 : Ref sig .tc := ⟨.hbm, 683, rfl⟩
abbrev main_call8_call0_c_3 : Ref sig .tc := ⟨.hbm, 684, rfl⟩
abbrev main_call8_call0_v16 : Ref sig .tc := ⟨.hbm, 685, rfl⟩
abbrev main_call8_call0_v17 : Ref sig .tc := ⟨.hbm, 686, rfl⟩
abbrev main_call8_call0_v18 : Ref sig .tc := ⟨.hbm, 687, rfl⟩
abbrev main_call8_call0_v19 : Ref sig .tc := ⟨.hbm, 688, rfl⟩
abbrev main_call8_call0_v20 : Ref sig .tc := ⟨.hbm, 689, rfl⟩
abbrev main_call8_call0_c_4 : Ref sig .tc := ⟨.hbm, 690, rfl⟩
abbrev main_call8_call0_v21 : Ref sig .tc := ⟨.hbm, 691, rfl⟩
abbrev main_call8_call0_v22 : Ref sig .tc := ⟨.hbm, 692, rfl⟩
abbrev main_call8_call0_c_5 : Ref sig .tc := ⟨.hbm, 693, rfl⟩
abbrev main_call8_call0_v23 : Ref sig .tc := ⟨.hbm, 694, rfl⟩
abbrev main_call8_call0_v24 : Ref sig .tc := ⟨.hbm, 695, rfl⟩
abbrev main_call8_call0_v25 : Ref sig .tc := ⟨.hbm, 696, rfl⟩
abbrev main_call8_call0_v26 : Ref sig .tc := ⟨.hbm, 697, rfl⟩
abbrev main_call8_call0_v27 : Ref sig .tc := ⟨.hbm, 698, rfl⟩
abbrev main_call8_call0_c_6 : Ref sig .tc := ⟨.hbm, 699, rfl⟩
abbrev main_call8_call0_v28 : Ref sig .tc := ⟨.hbm, 700, rfl⟩
abbrev main_call8_call0_v29 : Ref sig .tc := ⟨.hbm, 701, rfl⟩
abbrev main_call8_call0_c_7 : Ref sig .tc := ⟨.hbm, 702, rfl⟩
abbrev main_call8_call0_v30 : Ref sig .tc := ⟨.hbm, 703, rfl⟩
abbrev main_call8_call0_v31 : Ref sig .tc := ⟨.hbm, 704, rfl⟩
abbrev main_call8_call0_v32 : Ref sig .tc := ⟨.hbm, 705, rfl⟩
abbrev main_call8_call0_v33 : Ref sig .tc := ⟨.hbm, 706, rfl⟩
abbrev main_call8_call0_v34 : Ref sig .tc := ⟨.hbm, 707, rfl⟩
abbrev main_call8_call0_v35 : Ref sig .tc := ⟨.hbm, 708, rfl⟩
abbrev main_call8_call0_v36 : Ref sig .tc := ⟨.hbm, 709, rfl⟩
abbrev main_call8_call0_v37 : Ref sig .tc := ⟨.hbm, 710, rfl⟩
abbrev main_call8_call0_c_8 : Ref sig .tc := ⟨.hbm, 711, rfl⟩
abbrev main_call8_call0_v38 : Ref sig .tc := ⟨.hbm, 712, rfl⟩
abbrev main_call8_call0_v39 : Ref sig .tc := ⟨.hbm, 713, rfl⟩
abbrev main_call8_call0_v40 : Ref sig .tc := ⟨.hbm, 714, rfl⟩
abbrev main_call8_call0_c_9 : Ref sig .tc := ⟨.hbm, 715, rfl⟩
abbrev main_call8_call0_v41 : Ref sig .tc := ⟨.hbm, 716, rfl⟩
abbrev main_call8_call0_v42 : Ref sig .tc := ⟨.hbm, 717, rfl⟩
abbrev main_call8_call0_c_10 : Ref sig .tc := ⟨.hbm, 718, rfl⟩
abbrev main_call8_call0_v43 : Ref sig .tc := ⟨.hbm, 719, rfl⟩
abbrev main_call8_call0_v44 : Ref sig .tc := ⟨.hbm, 720, rfl⟩
abbrev main_call8_call0_v45 : Ref sig .tc := ⟨.hbm, 721, rfl⟩
abbrev main_call8_call0_v46 : Ref sig .tc := ⟨.hbm, 722, rfl⟩
abbrev main_call8_call0_v47 : Ref sig .tc := ⟨.hbm, 723, rfl⟩
abbrev main_call8_call0_c_11 : Ref sig .tc := ⟨.hbm, 724, rfl⟩
abbrev main_call8_call0_v48 : Ref sig .tc := ⟨.hbm, 725, rfl⟩
abbrev main_call8_call0_v49 : Ref sig .tc := ⟨.hbm, 726, rfl⟩
abbrev main_call8_call0_c_12 : Ref sig .tc := ⟨.hbm, 727, rfl⟩
abbrev main_call8_call0_v50 : Ref sig .tc := ⟨.hbm, 728, rfl⟩
abbrev main_call8_call0_v51 : Ref sig .tc := ⟨.hbm, 729, rfl⟩
abbrev main_call8_call0_v52 : Ref sig .tc := ⟨.hbm, 730, rfl⟩
abbrev main_call8_call0_v53 : Ref sig .tc := ⟨.hbm, 731, rfl⟩
abbrev main_call8_call0_v54 : Ref sig .tc := ⟨.hbm, 732, rfl⟩
abbrev main_call8_call0_c_13 : Ref sig .tc := ⟨.hbm, 733, rfl⟩
abbrev main_call8_call0_v55 : Ref sig .tc := ⟨.hbm, 734, rfl⟩
abbrev main_call8_call0_v56 : Ref sig .tc := ⟨.hbm, 735, rfl⟩
abbrev main_call8_call0_c_14 : Ref sig .tc := ⟨.hbm, 736, rfl⟩
abbrev main_call8_call0_v57 : Ref sig .tc := ⟨.hbm, 737, rfl⟩
abbrev main_call8_call0_v58 : Ref sig .tc := ⟨.hbm, 738, rfl⟩
abbrev main_call8_call0_v59 : Ref sig .tc := ⟨.hbm, 739, rfl⟩
abbrev main_call8_call0_v60 : Ref sig .tc := ⟨.hbm, 740, rfl⟩
abbrev main_call8_call0_v61 : Ref sig .tc := ⟨.hbm, 741, rfl⟩
abbrev main_call8_call0_c_15 : Ref sig .tc := ⟨.hbm, 742, rfl⟩
abbrev main_call8_call0_v62 : Ref sig .tc := ⟨.hbm, 743, rfl⟩
abbrev main_call8_call0_v63 : Ref sig .tc := ⟨.hbm, 744, rfl⟩
abbrev main_call8_call0_c_16 : Ref sig .tc := ⟨.hbm, 745, rfl⟩
abbrev main_call8_call0_v64 : Ref sig .tc := ⟨.hbm, 746, rfl⟩
abbrev main_call8_call0_v65 : Ref sig .tc := ⟨.hbm, 747, rfl⟩
abbrev main_call8_call0_v66 : Ref sig .tc := ⟨.hbm, 748, rfl⟩
abbrev main_call8_call0_v67 : Ref sig .tc := ⟨.hbm, 749, rfl⟩
abbrev main_call8_call0_v68 : Ref sig .tc := ⟨.hbm, 750, rfl⟩
abbrev main_call8_call0_v69 : Ref sig .tc := ⟨.hbm, 751, rfl⟩
abbrev main_call8_call0_v70 : Ref sig .tc := ⟨.hbm, 752, rfl⟩
abbrev main_call8_call0_v71 : Ref sig .tc := ⟨.hbm, 753, rfl⟩
abbrev main_call8_call0_c_17 : Ref sig .tc := ⟨.hbm, 754, rfl⟩
abbrev main_call8_call0_v72 : Ref sig .tc := ⟨.hbm, 755, rfl⟩
abbrev main_call8_call0_v73 : Ref sig .tc := ⟨.hbm, 756, rfl⟩
abbrev main_call8_call0_v74 : Ref sig .tc := ⟨.hbm, 757, rfl⟩
abbrev main_call8_call0_c_18 : Ref sig .tc := ⟨.hbm, 758, rfl⟩
abbrev main_call8_call0_v75 : Ref sig .tc := ⟨.hbm, 759, rfl⟩
abbrev main_call8_call0_v76 : Ref sig .tc := ⟨.hbm, 760, rfl⟩
abbrev main_call8_call0_c_19 : Ref sig .tc := ⟨.hbm, 761, rfl⟩
abbrev main_call8_call0_v77 : Ref sig .tc := ⟨.hbm, 762, rfl⟩
abbrev main_call8_call0_v78 : Ref sig .tc := ⟨.hbm, 763, rfl⟩
abbrev main_call8_call0_v79 : Ref sig .tc := ⟨.hbm, 764, rfl⟩
abbrev main_call8_call0_v80 : Ref sig .tc := ⟨.hbm, 765, rfl⟩
abbrev main_call8_call0_v81 : Ref sig .tc := ⟨.hbm, 766, rfl⟩
abbrev main_call8_call0_c_20 : Ref sig .tc := ⟨.hbm, 767, rfl⟩
abbrev main_call8_call0_v82 : Ref sig .tc := ⟨.hbm, 768, rfl⟩
abbrev main_call8_call0_v83 : Ref sig .tc := ⟨.hbm, 769, rfl⟩
abbrev main_call8_call0_c_21 : Ref sig .tc := ⟨.hbm, 770, rfl⟩
abbrev main_call8_call0_v84 : Ref sig .tc := ⟨.hbm, 771, rfl⟩
abbrev main_call8_call0_v85 : Ref sig .tc := ⟨.hbm, 772, rfl⟩
abbrev main_call8_call0_v86 : Ref sig .tc := ⟨.hbm, 773, rfl⟩
abbrev main_call8_call0_v87 : Ref sig .tc := ⟨.hbm, 774, rfl⟩
abbrev main_call8_call0_v88 : Ref sig .tc := ⟨.hbm, 775, rfl⟩
abbrev main_call8_call0_c_22 : Ref sig .tc := ⟨.hbm, 776, rfl⟩
abbrev main_call8_call0_v89 : Ref sig .tc := ⟨.hbm, 777, rfl⟩
abbrev main_call8_call0_v90 : Ref sig .tc := ⟨.hbm, 778, rfl⟩
abbrev main_call8_call0_c_23 : Ref sig .tc := ⟨.hbm, 779, rfl⟩
abbrev main_call8_call0_v91 : Ref sig .tc := ⟨.hbm, 780, rfl⟩
abbrev main_call8_call0_v92 : Ref sig .tc := ⟨.hbm, 781, rfl⟩
abbrev main_call8_call0_v93 : Ref sig .tc := ⟨.hbm, 782, rfl⟩
abbrev main_call8_call0_v94 : Ref sig .tc := ⟨.hbm, 783, rfl⟩
abbrev main_call8_call0_v95 : Ref sig .tc := ⟨.hbm, 784, rfl⟩
abbrev main_call8_call0_c_24 : Ref sig .tc := ⟨.hbm, 785, rfl⟩
abbrev main_call8_call0_v96 : Ref sig .tc := ⟨.hbm, 786, rfl⟩
abbrev main_call8_call0_v97 : Ref sig .tc := ⟨.hbm, 787, rfl⟩
abbrev main_call8_call0_c_25 : Ref sig .tc := ⟨.hbm, 788, rfl⟩
abbrev main_call8_call0_v98 : Ref sig .tc := ⟨.hbm, 789, rfl⟩
abbrev main_call8_call0_v99 : Ref sig .tc := ⟨.hbm, 790, rfl⟩
abbrev main_call8_call0_v100 : Ref sig .tc := ⟨.hbm, 791, rfl⟩
abbrev main_call8_call0_v101 : Ref sig .tc := ⟨.hbm, 792, rfl⟩
abbrev main_call8_call0_v102 : Ref sig .tc := ⟨.hbm, 793, rfl⟩
abbrev main_call8_call0_v103 : Ref sig .tc := ⟨.hbm, 794, rfl⟩
abbrev main_call8_call0_v104 : Ref sig .tc := ⟨.hbm, 795, rfl⟩
abbrev main_call8_call0_v105 : Ref sig .tc := ⟨.hbm, 796, rfl⟩
abbrev main_call8_call0_c_26 : Ref sig .tc := ⟨.hbm, 797, rfl⟩
abbrev main_call8_call0_v106 : Ref sig .tc := ⟨.hbm, 798, rfl⟩
abbrev main_call8_call0_v107 : Ref sig .tc := ⟨.hbm, 799, rfl⟩
abbrev main_call8_call0_v108 : Ref sig .tc := ⟨.hbm, 800, rfl⟩
abbrev main_call8_call0_c_27 : Ref sig .tc := ⟨.hbm, 801, rfl⟩
abbrev main_call8_call0_v109 : Ref sig .tc := ⟨.hbm, 802, rfl⟩
abbrev main_call8_call0_v110 : Ref sig .tc := ⟨.hbm, 803, rfl⟩
abbrev main_call8_call0_c_28 : Ref sig .tc := ⟨.hbm, 804, rfl⟩
abbrev main_call8_call0_v111 : Ref sig .tc := ⟨.hbm, 805, rfl⟩
abbrev main_call8_call0_v112 : Ref sig .tc := ⟨.hbm, 806, rfl⟩
abbrev main_call8_call0_v113 : Ref sig .tc := ⟨.hbm, 807, rfl⟩
abbrev main_call8_call0_v114 : Ref sig .tc := ⟨.hbm, 808, rfl⟩
abbrev main_call8_call0_v115 : Ref sig .tc := ⟨.hbm, 809, rfl⟩
abbrev main_call8_call0_c_29 : Ref sig .tc := ⟨.hbm, 810, rfl⟩
abbrev main_call8_call0_v116 : Ref sig .tc := ⟨.hbm, 811, rfl⟩
abbrev main_call8_call0_v117 : Ref sig .tc := ⟨.hbm, 812, rfl⟩
abbrev main_call8_call0_c_30 : Ref sig .tc := ⟨.hbm, 813, rfl⟩
abbrev main_call8_call0_v118 : Ref sig .tc := ⟨.hbm, 814, rfl⟩
abbrev main_call8_call0_v119 : Ref sig .tc := ⟨.hbm, 815, rfl⟩
abbrev main_call8_call0_v120 : Ref sig .tc := ⟨.hbm, 816, rfl⟩
abbrev main_call8_call0_v121 : Ref sig .tc := ⟨.hbm, 817, rfl⟩
abbrev main_call8_call0_v122 : Ref sig .tc := ⟨.hbm, 818, rfl⟩
abbrev main_call8_call0_c_31 : Ref sig .tc := ⟨.hbm, 819, rfl⟩
abbrev main_call8_call0_v123 : Ref sig .tc := ⟨.hbm, 820, rfl⟩
abbrev main_call8_call0_v124 : Ref sig .tc := ⟨.hbm, 821, rfl⟩
abbrev main_call8_call0_c_32 : Ref sig .tc := ⟨.hbm, 822, rfl⟩
abbrev main_call8_call0_v125 : Ref sig .tc := ⟨.hbm, 823, rfl⟩
abbrev main_call8_call0_v126 : Ref sig .tc := ⟨.hbm, 824, rfl⟩
abbrev main_call8_call0_v127 : Ref sig .tc := ⟨.hbm, 825, rfl⟩
abbrev main_call8_call0_v128 : Ref sig .tc := ⟨.hbm, 826, rfl⟩
abbrev main_call8_call0_v129 : Ref sig .tc := ⟨.hbm, 827, rfl⟩
abbrev main_call8_call0_c_33 : Ref sig .tc := ⟨.hbm, 828, rfl⟩
abbrev main_call8_call0_v130 : Ref sig .tc := ⟨.hbm, 829, rfl⟩
abbrev main_call8_call0_v131 : Ref sig .tc := ⟨.hbm, 830, rfl⟩
abbrev main_call8_call0_c_34 : Ref sig .tc := ⟨.hbm, 831, rfl⟩
abbrev main_call8_call0_v132 : Ref sig .tc := ⟨.hbm, 832, rfl⟩
abbrev main_call8_call0_v133 : Ref sig .tc := ⟨.hbm, 833, rfl⟩
abbrev main_call8_call0_v134 : Ref sig .tc := ⟨.hbm, 834, rfl⟩
abbrev main_call8_call0_v135 : Ref sig .tc := ⟨.hbm, 835, rfl⟩
abbrev main_call8_call0_v136 : Ref sig .tc := ⟨.hbm, 836, rfl⟩
abbrev main_call8_call0_v137 : Ref sig .tc := ⟨.hbm, 837, rfl⟩
abbrev main_call8_call0_v138 : Ref sig .tc := ⟨.hbm, 838, rfl⟩
abbrev main_call8_call0_v139 : Ref sig .tc := ⟨.hbm, 839, rfl⟩
abbrev main_call8_call0_c_35 : Ref sig .tc := ⟨.hbm, 840, rfl⟩
abbrev main_call8_call0_v140 : Ref sig .tc := ⟨.hbm, 841, rfl⟩
abbrev main_call8_call0_v141 : Ref sig .tc := ⟨.hbm, 842, rfl⟩
abbrev main_call8_call0_v142 : Ref sig .tc := ⟨.hbm, 843, rfl⟩
abbrev main_call8_call0_c_36 : Ref sig .tc := ⟨.hbm, 844, rfl⟩
abbrev main_call8_call0_v143 : Ref sig .tc := ⟨.hbm, 845, rfl⟩
abbrev main_call8_call0_v144 : Ref sig .tc := ⟨.hbm, 846, rfl⟩
abbrev main_call8_call0_c_37 : Ref sig .tc := ⟨.hbm, 847, rfl⟩
abbrev main_call8_call0_v145 : Ref sig .tc := ⟨.hbm, 848, rfl⟩
abbrev main_call8_call0_v146 : Ref sig .tc := ⟨.hbm, 849, rfl⟩
abbrev main_call8_call0_v147 : Ref sig .tc := ⟨.hbm, 850, rfl⟩
abbrev main_call8_call0_v148 : Ref sig .tc := ⟨.hbm, 851, rfl⟩
abbrev main_call8_call0_v149 : Ref sig .tc := ⟨.hbm, 852, rfl⟩
abbrev main_call8_call0_c_38 : Ref sig .tc := ⟨.hbm, 853, rfl⟩
abbrev main_call8_call0_v150 : Ref sig .tc := ⟨.hbm, 854, rfl⟩
abbrev main_call8_call0_v151 : Ref sig .tc := ⟨.hbm, 855, rfl⟩
abbrev main_call8_call0_c_39 : Ref sig .tc := ⟨.hbm, 856, rfl⟩
abbrev main_call8_call0_v152 : Ref sig .tc := ⟨.hbm, 857, rfl⟩
abbrev main_call8_call0_v153 : Ref sig .tc := ⟨.hbm, 858, rfl⟩
abbrev main_call8_call0_v154 : Ref sig .tc := ⟨.hbm, 859, rfl⟩
abbrev main_call8_call0_v155 : Ref sig .tc := ⟨.hbm, 860, rfl⟩
abbrev main_call8_call0_v156 : Ref sig .tc := ⟨.hbm, 861, rfl⟩
abbrev main_call8_call0_c_40 : Ref sig .tc := ⟨.hbm, 862, rfl⟩
abbrev main_call8_call0_v157 : Ref sig .tc := ⟨.hbm, 863, rfl⟩
abbrev main_call8_call0_v158 : Ref sig .tc := ⟨.hbm, 864, rfl⟩
abbrev main_call8_call0_c_41 : Ref sig .tc := ⟨.hbm, 865, rfl⟩
abbrev main_call8_call0_v159 : Ref sig .tc := ⟨.hbm, 866, rfl⟩
abbrev main_call8_call0_v160 : Ref sig .tc := ⟨.hbm, 867, rfl⟩
abbrev main_call8_call0_v161 : Ref sig .tc := ⟨.hbm, 868, rfl⟩
abbrev main_call8_call0_v162 : Ref sig .tc := ⟨.hbm, 869, rfl⟩
abbrev main_call8_call0_v163 : Ref sig .tc := ⟨.hbm, 870, rfl⟩
abbrev main_call8_call0_c_42 : Ref sig .tc := ⟨.hbm, 871, rfl⟩
abbrev main_call8_call0_v164 : Ref sig .tc := ⟨.hbm, 872, rfl⟩
abbrev main_call8_call0_v165 : Ref sig .tc := ⟨.hbm, 873, rfl⟩
abbrev main_call8_call0_c_43 : Ref sig .tc := ⟨.hbm, 874, rfl⟩
abbrev main_call8_call0_v166 : Ref sig .tc := ⟨.hbm, 875, rfl⟩
abbrev main_call8_call0_v167 : Ref sig .tc := ⟨.hbm, 876, rfl⟩
abbrev main_call8_call0_v168 : Ref sig .tc := ⟨.hbm, 877, rfl⟩
abbrev main_call8_call0_v169 : Ref sig .tc := ⟨.hbm, 878, rfl⟩
abbrev main_call8_call0_v170 : Ref sig .tc := ⟨.hbm, 879, rfl⟩
abbrev main_call8_v21_0 : Ref sig .tc := ⟨.hbm, 880, rfl⟩
abbrev main_call8_call0_v172 : Ref sig .tc := ⟨.hbm, 881, rfl⟩
abbrev main_call8_call0_v173 : Ref sig .tc := ⟨.hbm, 882, rfl⟩
abbrev main_call8_call0_c_44 : Ref sig .tc := ⟨.hbm, 883, rfl⟩
abbrev main_call8_call0_v174 : Ref sig .tc := ⟨.hbm, 884, rfl⟩
abbrev main_call8_v21_1 : Ref sig .tc := ⟨.hbm, 885, rfl⟩
abbrev main_call8_v22 : Ref sig .tc := ⟨.hbm, 886, rfl⟩
abbrev main_call8_c_3 : Ref sig .tc := ⟨.hbm, 887, rfl⟩
abbrev main_call8_v23 : Ref sig .tc := ⟨.hbm, 888, rfl⟩
abbrev main_call8_v24 : Ref sig .tc := ⟨.hbm, 889, rfl⟩
abbrev main_call8_c_4 : Ref sig .tc := ⟨.hbm, 890, rfl⟩
abbrev main_call8_v25 : Ref sig .tc := ⟨.hbm, 891, rfl⟩
abbrev main_call8_v26 : Ref sig .tc := ⟨.hbm, 892, rfl⟩
abbrev main_call8_v27 : Ref sig .tc := ⟨.hbm, 893, rfl⟩
abbrev main_call8_cst : Ref sig .tc := ⟨.hbm, 894, rfl⟩
abbrev main_call8_v28 : Ref sig .tc := ⟨.hbm, 895, rfl⟩
abbrev main_call8_v29 : Ref sig .tc := ⟨.hbm, 896, rfl⟩
abbrev main_call8_v30 : Ref sig .tc := ⟨.hbm, 897, rfl⟩
abbrev main_call8_v31 : Ref sig .tc := ⟨.hbm, 898, rfl⟩
abbrev main_call8_v32 : Ref sig .tc := ⟨.hbm, 899, rfl⟩
abbrev main_call8_v33 : Ref sig .tc := ⟨.hbm, 900, rfl⟩
abbrev main_call8_v34 : Ref sig .tc := ⟨.hbm, 901, rfl⟩
abbrev main_call8_v35 : Ref sig .tc := ⟨.hbm, 902, rfl⟩
abbrev main_v94 : Ref sig .tc := ⟨.hbm, 903, rfl⟩
abbrev main_v95 : Ref sig .tc := ⟨.hbm, 904, rfl⟩
abbrev main_v96 : Ref sig .tc := ⟨.hbm, 905, rfl⟩
abbrev main_v97 : Ref sig .tc := ⟨.hbm, 906, rfl⟩
abbrev main_v98 : Ref sig .tc := ⟨.hbm, 907, rfl⟩
abbrev main_cst_26 : Ref sig .tc := ⟨.hbm, 908, rfl⟩
abbrev main_v99 : Ref sig .tc := ⟨.hbm, 909, rfl⟩
abbrev main_v100 : Ref sig .tc := ⟨.hbm, 910, rfl⟩
abbrev main_cst_27 : Ref sig .tc := ⟨.hbm, 911, rfl⟩
abbrev main_v101 : Ref sig .tc := ⟨.hbm, 912, rfl⟩
abbrev main_v102 : Ref sig .tc := ⟨.hbm, 913, rfl⟩
abbrev main_cst_28 : Ref sig .tc := ⟨.hbm, 914, rfl⟩
abbrev main_v103 : Ref sig .tc := ⟨.hbm, 915, rfl⟩
abbrev main_v104 : Ref sig .tc := ⟨.hbm, 916, rfl⟩
abbrev main_cst_29 : Ref sig .tc := ⟨.hbm, 917, rfl⟩
abbrev main_v105 : Ref sig .tc := ⟨.hbm, 918, rfl⟩
abbrev main_v106 : Ref sig .tc := ⟨.hbm, 919, rfl⟩
abbrev main_v107 : Ref sig .tc := ⟨.hbm, 920, rfl⟩
abbrev main_cst_30 : Ref sig .tc := ⟨.hbm, 921, rfl⟩
abbrev main_v108 : Ref sig .tc := ⟨.hbm, 922, rfl⟩
abbrev main_v109 : Ref sig .tc := ⟨.hbm, 923, rfl⟩
abbrev main_v110 : Ref sig .tc := ⟨.hbm, 924, rfl⟩
abbrev main_cst_31 : Ref sig .tc := ⟨.hbm, 925, rfl⟩
abbrev main_v111 : Ref sig .tc := ⟨.hbm, 926, rfl⟩
abbrev main_v112 : Ref sig .tc := ⟨.hbm, 927, rfl⟩
abbrev main_v113 : Ref sig .tc := ⟨.hbm, 928, rfl⟩
abbrev main_cst_32 : Ref sig .tc := ⟨.hbm, 929, rfl⟩
abbrev main_v114 : Ref sig .tc := ⟨.hbm, 930, rfl⟩
abbrev main_v115 : Ref sig .tc := ⟨.hbm, 931, rfl⟩
abbrev main_v116 : Ref sig .tc := ⟨.hbm, 932, rfl⟩
abbrev main_cst_33 : Ref sig .tc := ⟨.hbm, 933, rfl⟩
abbrev main_v117 : Ref sig .tc := ⟨.hbm, 934, rfl⟩
abbrev main_v118 : Ref sig .tc := ⟨.hbm, 935, rfl⟩
abbrev main_cst_34 : Ref sig .tc := ⟨.hbm, 936, rfl⟩
abbrev main_v119 : Ref sig .tc := ⟨.hbm, 937, rfl⟩
abbrev main_v120 : Ref sig .tc := ⟨.hbm, 938, rfl⟩
abbrev main_cst_35 : Ref sig .tc := ⟨.hbm, 939, rfl⟩
abbrev main_v121 : Ref sig .tc := ⟨.hbm, 940, rfl⟩
abbrev main_v122 : Ref sig .tc := ⟨.hbm, 941, rfl⟩
abbrev main_v123 : Ref sig .tc := ⟨.hbm, 942, rfl⟩
abbrev main_cst_36 : Ref sig .tc := ⟨.hbm, 943, rfl⟩
abbrev main_v124 : Ref sig .tc := ⟨.hbm, 944, rfl⟩
abbrev main_v125 : Ref sig .tc := ⟨.hbm, 945, rfl⟩
abbrev main_v126 : Ref sig .tc := ⟨.hbm, 946, rfl⟩
abbrev main_cst_37 : Ref sig .tc := ⟨.hbm, 947, rfl⟩
abbrev main_v127 : Ref sig .tc := ⟨.hbm, 948, rfl⟩
abbrev main_v128 : Ref sig .tc := ⟨.hbm, 949, rfl⟩
abbrev main_v129 : Ref sig .tc := ⟨.hbm, 950, rfl⟩
abbrev main_cst_38 : Ref sig .tc := ⟨.hbm, 951, rfl⟩
abbrev main_v130 : Ref sig .tc := ⟨.hbm, 952, rfl⟩
abbrev main_v131 : Ref sig .tc := ⟨.hbm, 953, rfl⟩
abbrev main_v132 : Ref sig .tc := ⟨.hbm, 954, rfl⟩
abbrev main_v133 : Ref sig .tc := ⟨.hbm, 955, rfl⟩
abbrev main_cst_39 : Ref sig .tc := ⟨.hbm, 956, rfl⟩
abbrev main_v134 : Ref sig .tc := ⟨.hbm, 957, rfl⟩
abbrev main_v135 : Ref sig .tc := ⟨.hbm, 958, rfl⟩
abbrev main_v136 : Ref sig .tc := ⟨.hbm, 959, rfl⟩
abbrev main_call10_v0 : Ref sig .tc := ⟨.hbm, 960, rfl⟩
abbrev main_v137 : Ref sig .tc := ⟨.hbm, 961, rfl⟩
abbrev main_v138 : Ref sig .tc := ⟨.hbm, 962, rfl⟩
abbrev main_call11_v0 : Ref sig .tc := ⟨.hbm, 963, rfl⟩
abbrev main_v139 : Ref sig .tc := ⟨.hbm, 964, rfl⟩
abbrev main_v140 : Ref sig .tc := ⟨.hbm, 965, rfl⟩
abbrev main_v141 : Ref sig .tc := ⟨.hbm, 966, rfl⟩
abbrev main_v142 : Ref sig .tc := ⟨.hbm, 967, rfl⟩
abbrev main_v143 : Ref sig .tc := ⟨.hbm, 968, rfl⟩
abbrev main_cst_40 : Ref sig .tc := ⟨.hbm, 969, rfl⟩
abbrev main_v144 : Ref sig .tc := ⟨.hbm, 970, rfl⟩
abbrev main_v145 : Ref sig .tc := ⟨.hbm, 971, rfl⟩
abbrev main_v146 : Ref sig .tc := ⟨.hbm, 972, rfl⟩
abbrev main_v147 : Ref sig .tc := ⟨.hbm, 973, rfl⟩
abbrev main_v148 : Ref sig .tc := ⟨.hbm, 974, rfl⟩

abbrev nD : Nat := 1
abbrev τ : Topo := Topo.v7x

variable {F : FTy → Type} [FloatOps F]
-- ==== VariateIdeal.lean ====
abbrev S256x2048x20 : Shape := ⟨3, ![256, 2048, 20]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S256x2048x20, .f32⟩
  | .hbm, ⟨1, _⟩ => ⟨S256x2048x20, .f32⟩
  | .hbm, ⟨2, _⟩ => ⟨S256x2048x20, .f32⟩
  | .hbm, ⟨3, _⟩ => ⟨S256x2048x20, .f32⟩
  | .hbm, ⟨4, _⟩ => ⟨S256x2048x20, .f32⟩
  | .hbm, ⟨5, _⟩ => ⟨S_, .f32⟩
  | .hbm, ⟨6, _⟩ => ⟨S256x2048x20, .f32⟩
  | .hbm, ⟨7, _⟩ => ⟨S256x2048x20, .i1⟩
  | .hbm, ⟨8, _⟩ => ⟨S_, .f32⟩
  | .hbm, ⟨9, _⟩ => ⟨S256x2048x20, .f32⟩
  | .hbm, ⟨10, _⟩ => ⟨S256x2048x20, .f32⟩
  | .hbm, ⟨11, _⟩ => ⟨S_, .f32⟩
  | .hbm, ⟨12, _⟩ => ⟨S256x2048x20, .f32⟩
  | .hbm, ⟨13, _⟩ => ⟨S256x2048x20, .f32⟩
  | .hbm, ⟨14, _⟩ => ⟨S_, .f32⟩
  | .hbm, ⟨15, _⟩ => ⟨S256x2048x20, .f32⟩
  | .hbm, ⟨16, _⟩ => ⟨S256x2048x20, .f32⟩
  | .hbm, ⟨17, _⟩ => ⟨S256x2048x20, .f32⟩
  | .hbm, ⟨18, _⟩ => ⟨S_, .f32⟩
  | .hbm, ⟨19, _⟩ => ⟨S256x2048x20, .f32⟩
  | .hbm, ⟨20, _⟩ => ⟨S256x2048x20, .f32⟩
  | .hbm, ⟨21, _⟩ => ⟨S256x2048x20, .f32⟩
  | .hbm, ⟨22, _⟩ => ⟨S_, .f32⟩
  | .hbm, ⟨23, _⟩ => ⟨S256x2048x20, .f32⟩
  | .hbm, ⟨24, _⟩ => ⟨S256x2048x20, .f32⟩
  | .hbm, ⟨25, _⟩ => ⟨S256x2048x20, .f32⟩
  | .hbm, ⟨26, _⟩ => ⟨S_, .f32⟩
  | .hbm, ⟨27, _⟩ => ⟨S256x2048x20, .f32⟩
  | .hbm, ⟨28, _⟩ => ⟨S256x2048x20, .f32⟩
  | .hbm, ⟨29, _⟩ => ⟨S256x2048x20, .f32⟩
  | .hbm, ⟨30, _⟩ => ⟨S_, .f32⟩
  | .hbm, ⟨31, _⟩ => ⟨S256x2048x20, .f32⟩
  | .hbm, ⟨32, _⟩ => ⟨S256x2048x20, .f32⟩
  | .hbm, ⟨33, _⟩ => ⟨S_, .f32⟩
  | .hbm, ⟨34, _⟩ => ⟨S256x2048x20, .f32⟩
  | .hbm, ⟨35, _⟩ => ⟨S256x2048x20, .f32⟩
  | .hbm, ⟨36, _⟩ => ⟨S_, .f32⟩
  | .hbm, ⟨37, _⟩ => ⟨S256x2048x20, .f32⟩
  | .hbm, ⟨38, _⟩ => ⟨S256x2048x20, .f32⟩
  | .hbm, ⟨39, _⟩ => ⟨S256x2048x20, .f32⟩
  | .hbm, ⟨40, _⟩ => ⟨S_, .f32⟩
  | .hbm, ⟨41, _⟩ => ⟨S256x2048x20, .f32⟩
  | .hbm, ⟨42, _⟩ => ⟨S256x2048x20, .f32⟩
  | .hbm, ⟨43, _⟩ => ⟨S256x2048x20, .f32⟩
  | .hbm, ⟨44, _⟩ => ⟨S_, .f32⟩
  | .hbm, ⟨45, _⟩ => ⟨S256x2048x20, .f32⟩
  | .hbm, ⟨46, _⟩ => ⟨S256x2048x20, .f32⟩
  | .hbm, ⟨47, _⟩ => ⟨S256x2048x20, .f32⟩
  | .hbm, ⟨48, _⟩ => ⟨S_, .f32⟩
  | .hbm, ⟨49, _⟩ => ⟨S256x2048x20, .f32⟩
  | .hbm, ⟨50, _⟩ => ⟨S256x2048x20, .f32⟩
  | .hbm, ⟨51, _⟩ => ⟨S256x2048x20, .f32⟩
  | .hbm, ⟨52, _⟩ => ⟨S256x2048x20, .f32⟩
  | .hbm, ⟨53, _⟩ => ⟨S_, .f32⟩
  | .hbm, ⟨54, _⟩ => ⟨S256x2048x20, .f32⟩
  | .hbm, ⟨55, _⟩ => ⟨S256x2048x20, .f32⟩
  | _, _ => ⟨S256x2048x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_4 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_cst_7 : Ref sig .tc := ⟨.hbm, 33, rfl⟩
abbrev main_v24 : Ref sig .tc := ⟨.hbm, 34, rfl⟩
abbrev main_v25 : Ref sig .tc := ⟨.hbm, 35, rfl⟩
abbrev main_cst_8 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_9 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_10 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_11 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_12 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Proof.Line.lean ====
/-
  A straight line of host operations whose k-th operation writes the k-th of a row of consecutively numbered buffers.
  Every buffer is written once, after the buffers it is computed from, so the contents at the end satisfy each
  operation's equation: no stage of the run has to be looked at.
-/
module

public import proofs.«01_k».proof.Defs
public import Idealize.ShloMosaic.Lib.StableHlo.RunHlo
public import Idealize.ShloMosaic.Lib.StableHlo.RunRead

@[expose] public section
noncomputable section
namespace Cert.Own
open Idealize.ShloMosaic Idealize.ShloMosaic.StableHlo Idealize.SL Idealize.SL.Sem

variable {nD : Nat} {τ : Topo} {sig : RefSig} {Val : EltTy → Type} {Λ : Labels}

/-- `p` runs the operations `ops`, whose results are `W` in order; they touch tensor buffers only and determine what
    they write. -/
structure Line (p : Prog (TpuEff nD τ sig Val Λ .tc) PUnit) (ops : List (HloOp τ sig Val)) (W : List (Ref sig .tc)) :
    Prop where
  prog : p = seq ops
  writes : ops.map HloOp.writes = W.map fun w => {Proc.devRef (τ := τ) .tc w}
  bufs : ops.Forall fun op => op.bufs ⊆ tcRefs τ sig
  fresh : ∀ op ∈ ops, op.fresh = ∅

theorem Line.nil : Line (nD := nD) (Λ := Λ) (pure ⟨⟩) ([] : List (HloOp τ sig Val)) [] :=
  ⟨rfl, rfl, trivial, fun _ h => nomatch h⟩

theorem Line.cons {op : HloOp τ sig Val} {y : Ref sig .tc} {k : Prog (TpuEff nD τ sig Val Λ .tc) PUnit}
    {ops : List (HloOp τ sig Val)} {W : List (Ref sig .tc)} (hy : op.writes = {Proc.devRef .tc y})
    (hb : op.bufs ⊆ tcRefs τ sig) (hf : op.fresh = ∅) (h : Line k ops W) :
    Line ((hlo rfl op fun _ => .ret (⟨⟩ : PUnit)) >>= fun _ => k) (op :: ops) (y :: W) where
  prog := by rw [h.prog]; rfl
  writes := by rw [List.map_cons, List.map_cons, h.writes, hy]
  bufs := (List.forall_cons _ _ _).mpr ⟨hb, h.bufs⟩
  fresh o ho := by
    rcases List.mem_cons.mp ho with rfl | ho
    · exact hf
    · exact h.fresh o ho

theorem Line.append {p k : Prog (TpuEff nD τ sig Val Λ .tc) PUnit} {l₁ l₂ : List (HloOp τ sig Val)}
    {W₁ W₂ : List (Ref sig .tc)} (h₁ : Line p l₁ W₁) (h₂ : Line k l₂ W₂) :
    Line (p >>= fun _ => k) (l₁ ++ l₂) (W₁ ++ W₂) where
  prog := by rw [h₁.prog, h₂.prog, seq_append]
  writes := by rw [List.map_append, List.map_append, h₁.writes, h₂.writes]
  bufs := by
    refine List.forall_iff_forall_mem.mpr fun o ho => ?_
    rcases List.mem_append.mp ho with ho | ho
    · exact List.forall_iff_forall_mem.mp h₁.bufs o ho
    · exact List.forall_iff_forall_mem.mp h₂.bufs o ho
  fresh o ho := by
    rcases List.mem_append.mp ho with ho | ho
    · exact h₁.fresh o ho
    · exact h₂.fresh o ho

section Builders
variable {k : Prog (TpuEff nD τ sig Val Λ .tc) PUnit} {ops : List (HloOp τ sig Val)} {W : List (Ref sig .tc)}
  {x y a b c : Ref sig .tc}

theorem Line.nullary {v : y.ty.Contents Val} {hy} (h : Line k ops W) :
    Line ((hlo rfl (StableHlo.nullary y v hy) fun _ => .ret (⟨⟩ : PUnit)) >>= fun _ => k)
      (StableHlo.nullary y v hy :: ops) (y :: W) :=
  .cons (nullary_writes ..) (nullary_bufs_sub ..) rfl h

theorem Line.unary {f : x.ty.Contents Val → y.ty.Contents Val} {hx hy} (h : Line k ops W) :
    Line ((hlo rfl (StableHlo.unary x y f hx hy) fun _ => .ret (⟨⟩ : PUnit)) >>= fun _ => k)
      (StableHlo.unary x y f hx hy :: ops) (y :: W) :=
  .cons (unary_writes ..) (unary_bufs_sub ..) rfl h

theorem Line.binary {f : a.ty.Contents Val → b.ty.Contents Val → y.ty.Contents Val} {ha hb hy} (h : Line k ops W) :
    Line ((hlo rfl (StableHlo.binary a b y f ha hb hy) fun _ => .ret (⟨⟩ : PUnit)) >>= fun _ => k)
      (StableHlo.binary a b y f ha hb hy :: ops) (y :: W) :=
  .cons (binary_writes ..) (binary_bufs_sub ..) rfl h

theorem Line.ternary {f : c.ty.Contents Val → a.ty.Contents Val → b.ty.Contents Val → y.ty.Contents Val} {hc ha hb hy}
    (h : Line k ops W) :
    Line ((hlo rfl (StableHlo.ternary c a b y f hc ha hb hy) fun _ => .ret (⟨⟩ : PUnit)) >>= fun _ => k)
      (StableHlo.ternary c a b y f hc ha hb hy :: ops) (y :: W) :=
  .cons (ternary_writes ..) (ternary_bufs_sub ..) rfl h

theorem Line.reshape {he hn hx hy} (h : Line k ops W) :
    Line ((hlo rfl (StableHlo.reshape (Val := Val) x y he hn hx hy) fun _ => .ret (⟨⟩ : PUnit)) >>= fun _ => k)
      (StableHlo.reshape x y he hn hx hy :: ops) (y :: W) :=
  .cons (reshape_writes ..) (reshape_bufs_sub ..) rfl h

end Builders

/-! ## The contents at the end -/

/-- The buffer's number. -/
def num (r : Ref sig .tc) : ℕ := r.idx.val

/-- The results' numbers are `n`, `n + 1`, …. -/
structure Row (ops : List (HloOp τ sig Val)) (W : List (Ref sig .tc)) (n : ℕ) : Prop where
  writes : ops.map HloOp.writes = W.map fun w => {Proc.devRef (τ := τ) .tc w}
  nums : W.map num = List.range' n W.length

namespace Row
variable {ops : List (HloOp τ sig Val)} {W : List (Ref sig .tc)} {n : ℕ}

theorem length_eq (h : Row ops W n) : ops.length = W.length := by
  have := congrArg List.length h.writes
  simpa using this

/-- No result from position `i` on has a number below `n + i`. -/
theorem not_mem_drop (h : Row ops W n) {i : ℕ} {r : Ref sig .tc} (hr : num r < n + i) : r ∉ W.drop i := by
  intro hm
  have hm' : num r ∈ (W.drop i).map num := List.mem_map_of_mem hm
  rw [List.map_drop, h.nums, List.drop_range', List.mem_range'] at hm'
  obtain ⟨j, _, hj⟩ := hm'
  omega

/-- The operation at position `i` writes `y`, numbered `n + i`. -/
theorem num_at (h : Row ops W n) {i : ℕ} {op : HloOp τ sig Val} {y : Ref sig .tc} (hop : ops[i]? = some op)
    (hy : op.writes = {Proc.devRef (τ := τ) .tc y}) : num y = n + i := by
  have h1 : (ops.map HloOp.writes)[i]? = some op.writes := by rw [List.getElem?_map, hop]; rfl
  rw [h.writes, List.getElem?_map] at h1
  cases hw : W[i]? with
  | none => rw [hw] at h1; cases h1
  | some w =>
    rw [hw, Option.map_some, Option.some.injEq, hy, Finset.singleton_inj] at h1
    have hwy := Proc.devRef_injective _ h1
    have h2 : (W.map num)[i]? = some (num w) := by rw [List.getElem?_map, hw]; rfl
    rw [h.nums, List.getElem?_range'] at h2
    · rw [← hwy]; simpa using (Option.some.inj h2).symm
    · exact (List.getElem?_eq_some_iff.mp hw).1

theorem drop_writes (h : Row ops W n) (i : ℕ) :
    (ops.drop i).map HloOp.writes = (W.drop i).map fun w => {Proc.devRef (τ := τ) .tc w} := by
  rw [List.map_drop, List.map_drop, h.writes]

/-- An operand numbered below the operation's result holds at the end what the operation read. -/
theorem kept (h : Row ops W n) {i : ℕ} {r : Ref sig .tc} (hr : num r < n + i) (V : Valuation τ sig Val) :
    upto ops V i (Proc.devRef .tc r) = after ops V (Proc.devRef .tc r) := by
  have e : after ops V = after (ops.drop i) (upto ops V i) := by
    have hsplit : ∀ (l₁ l₂ : List (HloOp τ sig Val)) (V : Valuation τ sig Val),
        after (l₁ ++ l₂) V = after l₂ (after l₁ V) := by
      intro l₁
      induction l₁ with
      | nil => intro _ _; rfl
      | cons o l ih => intro l₂ V; exact ih l₂ _
    have := hsplit (ops.take i) (ops.drop i) V
    rwa [List.take_append_drop] at this
  rw [e]
  exact (after_unwritten (W.drop i) (h.drop_writes i) (h.not_mem_drop hr) _).symm

/-- At its result a line leaves what the operation at position `i` computed. -/
theorem at_result (h : Row ops W n) {i : ℕ} {op : HloOp τ sig Val} {y : Ref sig .tc} (hop : ops[i]? = some op)
    (hy : op.writes = {Proc.devRef (τ := τ) .tc y}) (V : Valuation τ sig Val) :
    after ops V (Proc.devRef .tc y) = op.result (upto ops V i) (Proc.devRef .tc y) := by
  have hi := List.getElem?_eq_some_iff.mp hop
  have hseg : ops.drop i = op :: ops.drop (i + 1) := by
    rw [List.drop_eq_getElem_cons hi.1, hi.2]
  refine after_last_write (W.drop (i + 1)) hseg (h.drop_writes (i + 1)) (h.not_mem_drop ?_) V
  rw [h.num_at hop hy]; omega

/-- A buffer numbered below the row is not written. -/
theorem unwritten (h : Row ops W n) {r : Ref sig .tc} (hr : num r < n) (V : Valuation τ sig Val) :
    after ops V (Proc.devRef .tc r) = V (Proc.devRef .tc r) :=
  (h.kept (i := 0) (by omega) V).symm

variable {Tx Ty Ta Tb Tc : BufTy} {V : Valuation τ sig Val}

/-- The contents of a typed buffer. -/
abbrev rd (V : Valuation τ sig Val) (x : TRef sig Tx) : Tx.Contents Val := x.ofBuf (V (Proc.devRef .tc x.ref))

theorem cast_cancel {α β : Type} (h : α = β) (h' : β = α) (v : α) : cast h' (cast h v) = v := by
  subst h; rfl

theorem nullary (h : Row ops W n) (i : ℕ) {y : TRef sig Ty} {v : Ty.Contents Val}
    (hop : ops[i]? = some (TRef.nullary y v)) : rd (after ops V) y = v := by
  unfold rd
  rw [h.at_result hop (nullary_writes ..), nullary_result]
  exact cast_cancel ..

theorem unary (h : Row ops W n) (i : ℕ) {x : TRef sig Tx} {y : TRef sig Ty} {f : Tx.Contents Val → Ty.Contents Val}
    (hop : ops[i]? = some (TRef.unary x y f)) (hx : num x.ref < n + i) :
    rd (after ops V) y = f (rd (after ops V) x) := by
  unfold rd
  rw [h.at_result hop (unary_writes ..), unary_result, h.kept hx]
  exact cast_cancel ..

theorem binary (h : Row ops W n) (i : ℕ) {a : TRef sig Ta} {b : TRef sig Tb} {y : TRef sig Ty}
    {f : Ta.Contents Val → Tb.Contents Val → Ty.Contents Val}
    (hop : ops[i]? = some (TRef.binary a b y f)) (ha : num a.ref < n + i) (hb : num b.ref < n + i) :
    rd (after ops V) y = f (rd (after ops V) a) (rd (after ops V) b) := by
  unfold rd
  rw [h.at_result hop (binary_writes ..), binary_result, h.kept ha, h.kept hb]
  exact cast_cancel ..

theorem ternary (h : Row ops W n) (i : ℕ) {c : TRef sig Tc} {a : TRef sig Ta} {b : TRef sig Tb} {y : TRef sig Ty}
    {f : Tc.Contents Val → Ta.Contents Val → Tb.Contents Val → Ty.Contents Val}
    (hop : ops[i]? = some (TRef.ternary c a b y f)) (hc : num c.ref < n + i) (ha : num a.ref < n + i)
    (hb : num b.ref < n + i) :
    rd (after ops V) y = f (rd (after ops V) c) (rd (after ops V) a) (rd (after ops V) b) := by
  unfold rd
  rw [h.at_result hop (ternary_writes ..), ternary_result, h.kept hc, h.kept ha, h.kept hb]
  exact cast_cancel ..

theorem reshape (h : Row ops W n) (i : ℕ) {S S' : Shape} {e : EltTy} {x : TRef sig ⟨S, e⟩} {y : TRef sig ⟨S', e⟩}
    {hn : S.ShapeCasts S'} (hop : ops[i]? = some (TRef.reshape x y rfl hn)) (hx : num x.ref < n + i) :
    rd (after ops V) y = shapeCast S' (rd (after ops V) x) hn := by
  have key : ∀ {Tx Ty : BufTy} (x : TRef sig Tx) (y : TRef sig Ty) (he : Tx.elt = Ty.elt)
      (hn : Tx.shape.ShapeCasts Ty.shape), ops[i]? = some (TRef.reshape x y he hn) → num x.ref < n + i →
      rd (after ops V) y = fun j => he ▸ shapeCast Ty.shape (rd (after ops V) x) hn j := by
    intro Tx Ty x y he hn hop hx
    obtain ⟨x, rfl, _, _⟩ := x
    obtain ⟨y, rfl, _, _⟩ := y
    unfold rd
    rw [h.at_result hop (reshape_writes ..), reshape_result, h.kept hx]
    rfl
  exact key x y rfl hn hop hx

end Row

end Cert.Own
end
-- ==== Proof.RunOps.lean ====
/-
  The reference as one straight line: the operations of each of its functions, then of @main, and their results, read off
  the printed text by unification.
-/
module

public import proofs.«01_k».proof.Proof.Line
public import proofs.«01_k».proof.Proof.Gen.ReferenceIdeal

@[expose] public section
set_option maxRecDepth 100000
noncomputable section
namespace Cert.Own.Ref
open Idealize.ShloMosaic Idealize.ShloMosaic.StableHlo Idealize.SL Idealize.SL.Sem
open Cert.ReferenceIdeal Cert.ReferenceIdeal.Gen

/-- A program of the reference with its operations and their results. -/
abbrev Read (p : Prog (TpuEff nD τ sig (Elt Ideal) (Pipeline.Sig Λ₀ (Fin 0) fun p => (pcfgs (F := Ideal) p).Adm) .tc) PUnit) :=
  { l : List (HloOp τ sig (Elt Ideal)) × List (Idealize.ShloMosaic.Ref sig .tc) // Line p l.1 l.2 }

def Read.of {p : Prog (TpuEff nD τ sig (Elt Ideal) (Pipeline.Sig Λ₀ (Fin 0) fun p => (pcfgs (F := Ideal) p).Adm) .tc) PUnit}
    {ops : List (HloOp τ sig (Elt Ideal))} {W : List (Idealize.ShloMosaic.Ref sig .tc)} (h : Line p ops W) : Read p :=
  ⟨(ops, W), h⟩

set_option maxHeartbeats 4000000 in
open Cert.ReferenceIdeal in
/-- The line of fn_threefry2x32.body_part0. -/
def r_threefry2x32_part0 (arg0 : TRef sig ⟨S_, .i32⟩) (arg1 : TRef sig ⟨S_, .i32⟩) (arg2 : TRef sig ⟨S2, .i32⟩) (arg3 : TRef sig ⟨S2, .i32⟩) (φ : fn_threefry2x32.Bufs) : Read (fn_threefry2x32.body_part0 (F := Ideal) arg0 arg1 arg2 arg3 φ) := by
  apply Read.of
  unfold fn_threefry2x32.body_part0
  repeat (first | exact Line.nil | apply Line.unary | apply Line.binary | apply Line.nullary | apply Line.ternary | apply Line.reshape)

set_option maxHeartbeats 4000000 in
open Cert.ReferenceIdeal in
/-- The line of fn_threefry2x32.body_part1. -/
def r_threefry2x32_part1 (arg0 : TRef sig ⟨S_, .i32⟩) (arg1 : TRef sig ⟨S_, .i32⟩) (arg2 : TRef sig ⟨S2, .i32⟩) (arg3 : TRef sig ⟨S2, .i32⟩) (φ : fn_threefry2x32.Bufs) : Read (fn_threefry2x32.body_part1 (F := Ideal) arg0 arg1 arg2 arg3 φ) := by
  apply Read.of
  unfold fn_threefry2x32.body_part1
  repeat (first | exact Line.nil | apply Line.unary | apply Line.binary | apply Line.nullary | apply Line.ternary | apply Line.reshape)

set_option maxHeartbeats 4000000 in
open Cert.ReferenceIdeal in
/-- The line of fn_threefry2x32.body_part2. -/
def r_threefry2x32_part2 (arg0 : TRef sig ⟨S_, .i32⟩) (arg1 : TRef sig ⟨S_, .i32⟩) (arg2 : TRef sig ⟨S2, .i32⟩) (arg3 : TRef sig ⟨S2, .i32⟩) (φ : fn_threefry2x32.Bufs) : Read (fn_threefry2x32.body_part2 (F := Ideal) arg0 arg1 arg2 arg3 φ) := by
  apply Read.of
  unfold fn_threefry2x32.body_part2
  repeat (first | exact Line.nil | apply Line.unary | apply Line.binary | apply Line.nullary | apply Line.ternary | apply Line.reshape)

set_option maxHeartbeats 4000000 in
open Cert.ReferenceIdeal in
/-- The line of fn_threefry2x32.body_part3. -/
def r_threefry2x32_part3 (arg0 : TRef sig ⟨S_, .i32⟩) (arg1 : TRef sig ⟨S_, .i32⟩) (arg2 : TRef sig ⟨S2, .i32⟩) (arg3 : TRef sig ⟨S2, .i32⟩) (φ : fn_threefry2x32.Bufs) : Read (fn_threefry2x32.body_part3 (F := Ideal) arg0 arg1 arg2 arg3 φ) := by
  apply Read.of
  unfold fn_threefry2x32.body_part3
  repeat (first | exact Line.nil | apply Line.unary | apply Line.binary | apply Line.nullary | apply Line.ternary | apply Line.reshape)

set_option maxHeartbeats 4000000 in
open Cert.ReferenceIdeal in
/-- The line of fn_threefry2x32.body. -/
def r_threefry2x32 (arg0 : TRef sig ⟨S_, .i32⟩) (arg1 : TRef sig ⟨S_, .i32⟩) (arg2 : TRef sig ⟨S2, .i32⟩) (arg3 : TRef sig ⟨S2, .i32⟩) (φ : fn_threefry2x32.Bufs) : Read (fn_threefry2x32.body (F := Ideal) arg0 arg1 arg2 arg3 φ) := by
  apply Read.of
  unfold fn_threefry2x32.body
  repeat (first | exact Line.nil | apply Line.unary | apply Line.binary | apply Line.nullary | apply Line.ternary | apply Line.reshape | refine Line.append (r_threefry2x32_part0 _ _ _ _ _).2 ?_ | refine Line.append (r_threefry2x32_part1 _ _ _ _ _).2 ?_ | refine Line.append (r_threefry2x32_part2 _ _ _ _ _).2 ?_ | refine Line.append (r_threefry2x32_part3 _ _ _ _ _).2 ?_)

set_option maxHeartbeats 4000000 in
open Cert.ReferenceIdeal in
/-- The line of fn_threefry_split.body. -/
def r_threefry_split (arg0 : TRef sig ⟨S2, .i32⟩) (φ : fn_threefry_split.Bufs) : Read (fn_threefry_split.body (F := Ideal) arg0 φ) := by
  apply Read.of
  unfold fn_threefry_split.body
  repeat (first | exact Line.nil | apply Line.unary | apply Line.binary | apply Line.nullary | apply Line.ternary | apply Line.reshape | refine Line.append (r_threefry2x32 _ _ _ _ _).2 ?_)

set_option maxHeartbeats 4000000 in
open Cert.ReferenceIdeal in
/-- The line of fn_argsort.body. -/
def r_argsort (arg0 : TRef sig ⟨S10485760, .i1⟩) (φ : fn_argsort.Bufs) : Read (fn_argsort.body (F := Ideal) arg0 φ) := by
  apply Read.of
  unfold fn_argsort.body
  repeat (first | exact Line.nil | apply Line.unary | apply Line.binary | apply Line.nullary | apply Line.ternary | apply Line.reshape)

set_option maxHeartbeats 4000000 in
open Cert.ReferenceIdeal in
/-- The line of fn_cumsum_0.body. -/
def r_cumsum_0 (arg0 : TRef sig ⟨S10485760, .i32⟩) (φ : fn_cumsum_0.Bufs) : Read (fn_cumsum_0.body (F := Ideal) arg0 φ) := by
  apply Read.of
  unfold fn_cumsum_0.body
  repeat (first | exact Line.nil | apply Line.unary | apply Line.binary | apply Line.nullary | apply Line.ternary | apply Line.reshape)

set_option maxHeartbeats 4000000 in
open Cert.ReferenceIdeal in
/-- The line of fn_cumsum.body. -/
def r_cumsum (arg0 : TRef sig ⟨S10485760, .i32⟩) (φ : fn_cumsum.Bufs) : Read (fn_cumsum.body (F := Ideal) arg0 φ) := by
  apply Read.of
  unfold fn_cumsum.body
  repeat (first | exact Line.nil | apply Line.unary | apply Line.binary | apply Line.nullary | apply Line.ternary | apply Line.reshape | refine Line.append (r_cumsum_0 _ _).2 ?_)

set_option maxHeartbeats 4000000 in
open Cert.ReferenceIdeal in
/-- The line of fn_clip.body. -/
def r_clip (arg0 : TRef sig ⟨S10485760, .i32⟩) (arg1 : TRef sig ⟨S_, .i32⟩) (arg2 : TRef sig ⟨S_, .i32⟩) (φ : fn_clip.Bufs) : Read (fn_clip.body (F := Ideal) arg0 arg1 arg2 φ) := by
  apply Read.of
  unfold fn_clip.body
  repeat (first | exact Line.nil | apply Line.unary | apply Line.binary | apply Line.nullary | apply Line.ternary | apply Line.reshape)

set_option maxHeartbeats 4000000 in
open Cert.ReferenceIdeal in
/-- The line of fn_where.body. -/
def r_where (arg0 : TRef sig ⟨S10485760, .i1⟩) (arg1 : TRef sig ⟨S10485760, .f32⟩) (arg2 : TRef sig ⟨S10485760, .f32⟩) (φ : fn_where.Bufs) : Read (fn_where.body (F := Ideal) arg0 arg1 arg2 φ) := by
  apply Read.of
  unfold fn_where.body
  repeat (first | exact Line.nil | apply Line.unary | apply Line.binary | apply Line.nullary | apply Line.ternary | apply Line.reshape)

set_option maxHeartbeats 4000000 in
open Cert.ReferenceIdeal in
/-- The line of fn_threefry2x32_1.body_part0. -/
def r_threefry2x32_1_part0 (arg0 : TRef sig ⟨S_, .i32⟩) (arg1 : TRef sig ⟨S_, .i32⟩) (arg2 : TRef sig ⟨S256x2048x20, .i32⟩) (arg3 : TRef sig ⟨S256x2048x20, .i32⟩) (φ : fn_threefry2x32_1.Bufs) : Read (fn_threefry2x32_1.body_part0 (F := Ideal) arg0 arg1 arg2 arg3 φ) := by
  apply Read.of
  unfold fn_threefry2x32_1.body_part0
  repeat (first | exact Line.nil | apply Line.unary | apply Line.binary | apply Line.nullary | apply Line.ternary | apply Line.reshape)

set_option maxHeartbeats 4000000 in
open Cert.ReferenceIdeal in
/-- The line of fn_threefry2x32_1.body_part1. -/
def r_threefry2x32_1_part1 (arg0 : TRef sig ⟨S_, .i32⟩) (arg1 : TRef sig ⟨S_, .i32⟩) (arg2 : TRef sig ⟨S256x2048x20, .i32⟩) (arg3 : TRef sig ⟨S256x2048x20, .i32⟩) (φ : fn_threefry2x32_1.Bufs) : Read (fn_threefry2x32_1.body_part1 (F := Ideal) arg0 arg1 arg2 arg3 φ) := by
  apply Read.of
  unfold fn_threefry2x32_1.body_part1
  repeat (first | exact Line.nil | apply Line.unary | apply Line.binary | apply Line.nullary | apply Line.ternary | apply Line.reshape)

set_option maxHeartbeats 4000000 in
open Cert.ReferenceIdeal in
/-- The line of fn_threefry2x32_1.body_part2. -/
def r_threefry2x32_1_part2 (arg0 : TRef sig ⟨S_, .i32⟩) (arg1 : TRef sig ⟨S_, .i32⟩) (arg2 : TRef sig ⟨S256x2048x20, .i32⟩) (arg3 : TRef sig ⟨S256x2048x20, .i32⟩) (φ : fn_threefry2x32_1.Bufs) : Read (fn_threefry2x32_1.body_part2 (F := Ideal) arg0 arg1 arg2 arg3 φ) := by
  apply Read.of
  unfold fn_threefry2x32_1.body_part2
  repeat (first | exact Line.nil | apply Line.unary | apply Line.binary | apply Line.nullary | apply Line.ternary | apply Line.reshape)

set_option maxHeartbeats 4000000 in
open Cert.ReferenceIdeal in
/-- The line of fn_threefry2x32_1.body_part3. -/
def r_threefry2x32_1_part3 (arg0 : TRef sig ⟨S_, .i32⟩) (arg1 : TRef sig ⟨S_, .i32⟩) (arg2 : TRef sig ⟨S256x2048x20, .i32⟩) (arg3 : TRef sig ⟨S256x2048x20, .i32⟩) (φ : fn_threefry2x32_1.Bufs) : Read (fn_threefry2x32_1.body_part3 (F := Ideal) arg0 arg1 arg2 arg3 φ) := by
  apply Read.of
  unfold fn_threefry2x32_1.body_part3
  repeat (first | exact Line.nil | apply Line.unary | apply Line.binary | apply Line.nullary | apply Line.ternary | apply Line.reshape)

set_option maxHeartbeats 4000000 in
open Cert.ReferenceIdeal in
/-- The line of fn_threefry2x32_1.body. -/
def r_threefry2x32_1 (arg0 : TRef sig ⟨S_, .i32⟩) (arg1 : TRef sig ⟨S_, .i32⟩) (arg2 : TRef sig ⟨S256x2048x20, .i32⟩) (arg3 : TRef sig ⟨S256x2048x20, .i32⟩) (φ : fn_threefry2x32_1.Bufs) : Read (fn_threefry2x32_1.body (F := Ideal) arg0 arg1 arg2 arg3 φ) := by
  apply Read.of
  unfold fn_threefry2x32_1.body
  repeat (first | exact Line.nil | apply Line.unary | apply Line.binary | apply Line.nullary | apply Line.ternary | apply Line.reshape | refine Line.append (r_threefry2x32_1_part0 _ _ _ _ _).2 ?_ | refine Line.append (r_threefry2x32_1_part1 _ _ _ _ _).2 ?_ | refine Line.append (r_threefry2x32_1_part2 _ _ _ _ _).2 ?_ | refine Line.append (r_threefry2x32_1_part3 _ _ _ _ _).2 ?_)

set_option maxHeartbeats 4000000 in
open Cert.ReferenceIdeal in
/-- The line of fn_uniform.body. -/
def r_uniform (arg0 : TRef sig ⟨S2, .i32⟩) (arg1 : TRef sig ⟨S_, .f32⟩) (arg2 : TRef sig ⟨S_, .f32⟩) (φ : fn_uniform.Bufs) : Read (fn_uniform.body (F := Ideal) arg0 arg1 arg2 φ) := by
  apply Read.of
  unfold fn_uniform.body
  repeat (first | exact Line.nil | apply Line.unary | apply Line.binary | apply Line.nullary | apply Line.ternary | apply Line.reshape | refine Line.append (r_threefry2x32_1 _ _ _ _ _).2 ?_)

set_option maxHeartbeats 4000000 in
open Cert.ReferenceIdeal in
/-- The line of fn_where_2.body. -/
def r_where_2 (arg0 : TRef sig ⟨S256x2048x20, .i1⟩) (arg1 : TRef sig ⟨S256x2048x20, .f32⟩) (arg2 : TRef sig ⟨S256x2048x20, .f32⟩) (φ : fn_where_2.Bufs) : Read (fn_where_2.body (F := Ideal) arg0 arg1 arg2 φ) := by
  apply Read.of
  unfold fn_where_2.body
  repeat (first | exact Line.nil | apply Line.unary | apply Line.binary | apply Line.nullary | apply Line.ternary | apply Line.reshape)

set_option maxHeartbeats 4000000 in
open Cert.ReferenceIdeal in
/-- The line of fn_where_3.body. -/
def r_where_3 (arg0 : TRef sig ⟨S256x2048x1, .i1⟩) (arg1 : TRef sig ⟨S256x2048x20, .f32⟩) (arg2 : TRef sig ⟨S256x2048x20, .f32⟩) (φ : fn_where_3.Bufs) : Read (fn_where_3.body (F := Ideal) arg0 arg1 arg2 φ) := by
  apply Read.of
  unfold fn_where_3.body
  repeat (first | exact Line.nil | apply Line.unary | apply Line.binary | apply Line.nullary | apply Line.ternary | apply Line.reshape)

set_option maxHeartbeats 4000000 in
open Cert.ReferenceIdeal in
/-- The line of fn_where_4.body. -/
def r_where_4 (arg0 : TRef sig ⟨S256x1x1, .i1⟩) (arg1 : TRef sig ⟨S256x2048x20, .f32⟩) (arg2 : TRef sig ⟨S256x2048x20, .f32⟩) (φ : fn_where_4.Bufs) : Read (fn_where_4.body (F := Ideal) arg0 arg1 arg2 φ) := by
  apply Read.of
  unfold fn_where_4.body
  repeat (first | exact Line.nil | apply Line.unary | apply Line.binary | apply Line.nullary | apply Line.ternary | apply Line.reshape)

set_option maxHeartbeats 4000000 in
/-- The line of main_part0. -/
def r_main_part0 (d : Dev nD) : Read (main_part0 (F := Ideal) d) := by
  apply Read.of
  unfold main_part0
  repeat (first | exact Line.nil | apply Line.unary | apply Line.binary | apply Line.nullary | apply Line.ternary | apply Line.reshape | refine Line.append (r_threefry_split _ _).2 ?_ | refine Line.append (r_argsort _ _).2 ?_ | refine Line.append (r_cumsum _ _).2 ?_ | refine Line.append (r_clip _ _ _ _).2 ?_ | refine Line.append (r_where _ _ _ _).2 ?_)

set_option maxHeartbeats 4000000 in
/-- The line of main_part1. -/
def r_main_part1 (d : Dev nD) : Read (main_part1 (F := Ideal) d) := by
  apply Read.of
  unfold main_part1
  repeat (first | exact Line.nil | apply Line.unary | apply Line.binary | apply Line.nullary | apply Line.ternary | apply Line.reshape | refine Line.append (r_uniform _ _ _ _).2 ?_ | refine Line.append (r_where_2 _ _ _ _).2 ?_ | refine Line.append (r_where_3 _ _ _ _).2 ?_)

set_option maxHeartbeats 4000000 in
/-- The line of main_part2. -/
def r_main_part2 (d : Dev nD) : Read (main_part2 (F := Ideal) d) := by
  apply Read.of
  unfold main_part2
  repeat (first | exact Line.nil | apply Line.unary | apply Line.binary | apply Line.nullary | apply Line.ternary | apply Line.reshape | refine Line.append (r_uniform _ _ _ _).2 ?_ | refine Line.append (r_where_2 _ _ _ _).2 ?_ | refine Line.append (r_where_3 _ _ _ _).2 ?_)

set_option maxHeartbeats 4000000 in
/-- The line of main_part3. -/
def r_main_part3 (d : Dev nD) : Read (main_part3 (F := Ideal) d) := by
  apply Read.of
  unfold main_part3
  repeat (first | exact Line.nil | apply Line.unary | apply Line.binary | apply Line.nullary | apply Line.ternary | apply Line.reshape | refine Line.append (r_where_4 _ _ _ _).2 ?_)

/-- The line of @main. -/
def r_main (d : Dev nD) : Read (main (F := Ideal) d) := Read.of (p := main (F := Ideal) d) (Line.append (r_main_part0 d).2 (Line.append (r_main_part1 d).2 (Line.append (r_main_part2 d).2 ((r_main_part3 d).2))))

/-- The reference's operations, in order. -/
def ops : List (HloOp τ sig (Elt Ideal)) := (r_main 0).1.1

end Cert.Own.Ref
end
-- ==== Proof.Run.lean ====
/-
  The reference's run: it ends with every tensor at the fold of its operations, the arguments unchanged and no counter
  moved; its results are numbered in order.
-/
module

public import proofs.«01_k».proof.Proof.RunOps
public import Idealize.ShloMosaic.Lib.Quiescent
public import Idealize.ShloMosaic.Lib.Tactic

@[expose] public section
set_option maxRecDepth 100000
noncomputable section
namespace Cert.Own.Ref
open Idealize.ShloMosaic Idealize.ShloMosaic.StableHlo Idealize.ShloMosaic.Tactic Idealize.SL Idealize.SL.Sem
open Cert.ReferenceIdeal Cert.ReferenceIdeal.Gen

/-- The operations' results, in order. -/
def results : List (Idealize.ShloMosaic.Ref sig .tc) := (r_main 0).1.2

/-- The results are the tensors after the six arguments, in order. -/
theorem row : Row ops results 6 where
  writes := (r_main 0).2.writes
  nums := by sl_kernel_rfl

/-- The contents the program ends with. -/
abbrev final (m : (ℓ : Loc nD τ sig) → Buf (Elt Ideal) ℓ) (c : Dev nD) : Valuation τ sig (Elt Ideal) :=
  after ops (launchContents m c)

theorem run (m : (ℓ : Loc nD τ sig) → Buf (Elt Ideal) ℓ) (g : Dev nD → PrngReg) :
    θ_run defs (onTc (τ := τ) (main (F := Ideal))) ⟨m, fun _ => 0, g⟩ fun r =>
      ∀ (c : Dev nD) (b : Idealize.ShloMosaic.Ref sig .tc), r.2.mem ((c.tc : Thread nD τ).loc b) = final m c (Proc.devRef .tc b) := by
  have hd : ∀ d : Dev nD, d = 0 := fun d => Subsingleton.elim _ _
  refine run_seq (by decide) (by decide) _ _ (fun _ => ops) (fun d => ?_) (fun _ => ?_) m g (fun _ => ?_)
  · rw [hd d]; exact (r_main 0).2.prog
  · exact (r_main 0).2.bufs
  · exact (r_main 0).2.fresh

/-- An argument ends as it began. -/
theorem final_arg (m : (ℓ : Loc nD τ sig) → Buf (Elt Ideal) ℓ) (c : Dev nD) {b : Idealize.ShloMosaic.Ref sig .tc} (hb : num b < 6) :
    final m c (Proc.devRef .tc b) = m ((c.tc : Thread nD τ).loc b) :=
  row.unwritten hb _

theorem frame (m : (ℓ : Loc nD τ sig) → Buf (Elt Ideal) ℓ) (g : Dev nD → PrngReg) :
    θ_run defs (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 := by
  refine θ_run_mono (run m g) fun r hr => ⟨fun c => ⟨?_, ?_, ?_, ?_, ?_, ?_⟩, sem_eq_zero_of_no_sems rfl _⟩ <;>
    exact (hr c _).trans (final_arg m c (by decide))

end Cert.Own.Ref
end
-- ==== Proof.Ledger.lean ====
/-
  The named constants: each kernel literal with the number it is named.
-/
module

public import proofs.«01_k».proof.Defs

@[expose] public section
noncomputable section
namespace Cert.Own
open Idealize.ShloMosaic

theorem ledger : Cert.preserves_Kernel_KernelIdeal :=
  ⟨IdealRules.named_const.statement Cert.KernelIdeal.κ "span" .f32 0x40000000#32 ((33554431 / 16777216 : ℝ) : EReal) rfl,
    IdealRules.named_const.statement Cert.KernelIdeal.κ "shift" .f32 0xC0400000#32 ((-25165823 / 8388608 : ℝ) : EReal) rfl,
    IdealRules.named_const.statement Cert.KernelIdeal.κ "a4" .f32 0x39A21163#32 ((178195562344929 / 576460752303423488 : ℝ) : EReal) rfl,
    IdealRules.named_const.statement Cert.KernelIdeal.κ "a3" .f32 0xBAE8652E#32 ((-15970078719091 / 9007199254740992 : ℝ) : EReal) rfl,
    IdealRules.named_const.statement Cert.KernelIdeal.κ "a2" .f32 0xBBC19905#32 ((-106431479024349 / 18014398509481984 : ℝ) : EReal) rfl,
    IdealRules.named_const.statement Cert.KernelIdeal.κ "a1" .f32 0x3EB29643#32 ((196358438430457 / 562949953421312 : ℝ) : EReal) rfl,
    IdealRules.named_const.statement Cert.KernelIdeal.κ "a0" .f32 0x4007E45E#32 ((149414905615005 / 70368744177664 : ℝ) : EReal) rfl,
    IdealRules.named_const.statement Cert.KernelIdeal.κ "b4" .f32 0x3C04FCB4#32 ((146220882753217 / 18014398509481984 : ℝ) : EReal) rfl,
    IdealRules.named_const.statement Cert.KernelIdeal.κ "b3" .f32 0xBC309DB5#32 ((-194191396251413 / 18014398509481984 : ℝ) : EReal) rfl,
    IdealRules.named_const.statement Cert.KernelIdeal.κ "b2" .f32 0x3C5AB3FF#32 ((60116652754765 / 4503599627370496 : ℝ) : EReal) rfl,
    IdealRules.named_const.statement Cert.KernelIdeal.κ "b1" .f32 0x3FB55287#32 ((99683026763233 / 70368744177664 : ℝ) : EReal) rfl,
    IdealRules.named_const.statement Cert.KernelIdeal.κ "b0" .f32 0x408034B5#32 ((70481935283789 / 17592186044416 : ℝ) : EReal) rfl⟩

end Cert.Own
end
-- ==== Proof.Words.lean ====
/-
  The counter-based generator on words: one round, one injection of the key schedule, the twenty rounds. Nothing here
  names a program.
-/
module

public import Idealize.ShloMosaic.PureOps

@[expose] public section
namespace Cert.Own.Words
open Idealize.ShloMosaic

/-- One round: the sum, and the second word rotated left by `r` (`r' = 32 - r`) against the sum. -/
def mix (r r' : BitVec 32) (p : BitVec 32 × BitVec 32) : BitVec 32 × BitVec 32 :=
  (p.1 + p.2, (p.1 + p.2) ^^^ ((p.2 <<< r) ||| (p.2 >>> r')))

/-- One injection of the key schedule. -/
def inject (k k' : BitVec 32) (p : BitVec 32 × BitVec 32) : BitVec 32 × BitVec 32 := (p.1 + k, p.2 + k')

/-- The four rounds before an odd injection, and those before an even one. -/
def rounds₀ (p : BitVec 32 × BitVec 32) : BitVec 32 × BitVec 32 := mix 6 26 (mix 26 6 (mix 15 17 (mix 13 19 p)))
def rounds₁ (p : BitVec 32 × BitVec 32) : BitVec 32 × BitVec 32 := mix 24 8 (mix 16 16 (mix 29 3 (mix 17 15 p)))

/-- Threefry-2x32 with twenty rounds, at the key `(k₀, k₁)` and the counter `p`. -/
def threefry (k₀ k₁ : BitVec 32) (p : BitVec 32 × BitVec 32) : BitVec 32 × BitVec 32 :=
  let k₂ := k₀ ^^^ k₁ ^^^ 466688986#32
  inject k₂ (k₀ + 5) (rounds₀ (inject k₁ (k₂ + 4) (rounds₁ (inject k₀ (k₁ + 3) (rounds₀ (inject k₂ (k₀ + 2)
    (rounds₁ (inject k₁ (k₂ + 1) (rounds₀ (inject k₀ k₁ p))))))))))

/-- The key that the seed 42 splits off first. -/
def keyA₀ : BitVec 32 := 1832780943#32
def keyA₁ : BitVec 32 := 270669613#32

theorem split_key : threefry 0#32 42#32 (0#32, 0#32) = (keyA₀, keyA₁) := by decide

/-- The word of the draw at the flat position `n`. -/
def bits (n : BitVec 32) : BitVec 32 :=
  (threefry keyA₀ keyA₁ (0#32, n)).1 ^^^ (threefry keyA₀ keyA₁ (0#32, n)).2

theorem shl_lit (u : ArithUnit) (x r : BitVec 32) (h : r.toNat < 32) : IntOp.shli u x r = x <<< r := if_pos h
theorem shr_lit (u : ArithUnit) (x r : BitVec 32) (h : r.toNat < 32) : IntOp.shrui u x r = x >>> r := if_pos h

end Cert.Own.Words
end
-- ==== Proof.KerWords.lean ====
/-
  The kernel's word arithmetic at one index of a block: what its bits are.
-/
module

public import proofs.«01_k».proof.Proof.Gen.KernelIdeal.Frame
public import proofs.«01_k».proof.Proof.Words
public import Idealize.ShloMosaic.Lib.Pipeline.Value

@[expose] public section
set_option maxRecDepth 100000
noncomputable section
namespace Cert.Own.Ker
open Idealize.ShloMosaic
open Cert.KernelIdeal Cert.KernelIdeal.Gen

/-- A block of words. -/
abbrev Block := IVec S20x8x2048 32

/-- `b` rotated left by `r`, against `a`, as the kernel writes it. -/
abbrev turn (r r' : BitVec 32) (a b : Block) : Block :=
  xori a (ori (shli b (broadcast S20x8x2048 r)) (shrui b (broadcast S20x8x2048 r')))

theorem mixed (r r' : BitVec 32) (hr : r.toNat < 32) (hr' : r'.toNat < 32) (a b : Block) (j : S20x8x2048.Idx) :
    Words.mix r r' (a j, b j) = (addi a b j, turn r r' (addi a b) b j) := by
  have h := congrArg₂ (fun x y : BitVec 32 => (a j + b j) ^^^ (x ||| y))
    (Words.shl_lit .vector (b j) r hr) (Words.shr_lit .vector (b j) r' hr')
  exact Prod.ext rfl h.symm

/-- Four rounds in a row, over blocks. -/
theorem rounds₀_apply (a₀ b₀ a₁ b₁ a₂ b₂ a₃ b₃ a₄ b₄ : Block) (ea₁ : a₁ = addi a₀ b₀) (eb₁ : b₁ = turn 13 19 a₁ b₀)
    (ea₂ : a₂ = addi a₁ b₁) (eb₂ : b₂ = turn 15 17 a₂ b₁) (ea₃ : a₃ = addi a₂ b₂) (eb₃ : b₃ = turn 26 6 a₃ b₂)
    (ea₄ : a₄ = addi a₃ b₃) (eb₄ : b₄ = turn 6 26 a₄ b₃) (j : S20x8x2048.Idx) :
    Words.rounds₀ (a₀ j, b₀ j) = (a₄ j, b₄ j) := by
  subst ea₁; subst eb₁; subst ea₂; subst eb₂; subst ea₃; subst eb₃; subst ea₄; subst eb₄
  unfold Words.rounds₀
  rw [mixed 13 19 (by decide) (by decide), mixed 15 17 (by decide) (by decide), mixed 26 6 (by decide) (by decide),
    mixed 6 26 (by decide) (by decide)]

theorem rounds₁_apply (a₀ b₀ a₁ b₁ a₂ b₂ a₃ b₃ a₄ b₄ : Block) (ea₁ : a₁ = addi a₀ b₀) (eb₁ : b₁ = turn 17 15 a₁ b₀)
    (ea₂ : a₂ = addi a₁ b₁) (eb₂ : b₂ = turn 29 3 a₂ b₁) (ea₃ : a₃ = addi a₂ b₂) (eb₃ : b₃ = turn 16 16 a₃ b₂)
    (ea₄ : a₄ = addi a₃ b₃) (eb₄ : b₄ = turn 24 8 a₄ b₃) (j : S20x8x2048.Idx) :
    Words.rounds₁ (a₀ j, b₀ j) = (a₄ j, b₄ j) := by
  subst ea₁; subst eb₁; subst ea₂; subst eb₂; subst ea₃; subst eb₃; subst ea₄; subst eb₄
  unfold Words.rounds₁
  rw [mixed 17 15 (by decide) (by decide), mixed 29 3 (by decide) (by decide), mixed 16 16 (by decide) (by decide),
    mixed 24 8 (by decide) (by decide)]

/-- The kernel's intermediate blocks, at one grid point. -/
abbrev b₁ (i : grid0.Coords) : Block := k0_pay10 i
abbrev a₁ (i : grid0.Coords) : Block := k0_pay11 i
abbrev b₂ (i : grid0.Coords) : Block := k0_pay22 (b₁ i) (a₁ i)
abbrev a₂ (i : grid0.Coords) : Block := k0_pay23 (b₁ i) (a₁ i)
abbrev a₃ (i : grid0.Coords) : Block := k0_pay33 (b₂ i) (a₂ i) 15#32
abbrev b₃ (i : grid0.Coords) : Block := k0_pay34 (b₂ i) (a₂ i) 15#32
abbrev b₄ (i : grid0.Coords) : Block := k0_pay44 (a₃ i) (b₃ i)
abbrev a₄ (i : grid0.Coords) : Block := k0_pay45 (a₃ i) (b₃ i)

/-- The position in the whole array of a block's element, as a word. -/
abbrev place (i : grid0.Coords) (j : S20x8x2048.Idx) : BitVec 32 :=
  BitVec.ofNat 32 (40960 * (8 * (i 0).val + (j 1).val) + 20 * (j 2).val + (j 0).val)

theorem place_apply (i : grid0.Coords) (j : S20x8x2048.Idx) : k0_pay2 i j = place i j + Words.keyA₁ := by
  unfold k0_pay2
  show (((BitVec.ofNat 32 (i 0).val * 327680#32) + iota .tc S20x8x2048 32 [1] _ j * 40960#32)
    + iota .tc S20x8x2048 32 [2] _ j * 20#32 + iota .tc S20x8x2048 32 [0] _ j) + 270669613#32 = _
  rw [iota_single_apply, iota_single_apply, iota_single_apply]
  refine congrArg (· + 270669613#32) ?_
  refine BitVec.eq_of_toNat_eq ?_
  have h0 : (i 0).val < 32 := (i 0).isLt
  have h1 : (j 0).val < 20 := (j 0).isLt
  have h2 : (j 1).val < 8 := (j 1).isLt
  have h3 : (j 2).val < 2048 := (j 2).isLt
  simp only [BitVec.toNat_add, BitVec.toNat_mul, BitVec.toNat_ofNat]
  omega

theorem rounds_a (i : grid0.Coords) (j : S20x8x2048.Idx) :
    Words.rounds₀ (Words.keyA₀, k0_pay2 i j) = (k0_pay9 i j, b₁ i j) :=
  rounds₀_apply (broadcast S20x8x2048 Words.keyA₀) (k0_pay2 i) (k0_pay3 i) (k0_pay4 i) (k0_pay5 i) (k0_pay6 i)
    (k0_pay7 i) (k0_pay8 i) _ _ rfl rfl rfl rfl rfl rfl rfl rfl j

theorem rounds_b (v w : Block) (j : S20x8x2048.Idx) :
    Words.rounds₁ (w j, k0_pay12 v j) = (k0_pay19 v w j, turn 24 8 (k0_pay19 v w) (k0_pay18 v w) j) :=
  rounds₁_apply w (k0_pay12 v) (k0_pay13 v w) (k0_pay14 v w) (k0_pay15 v w) (k0_pay16 v w)
    (k0_pay17 v w) (k0_pay18 v w) _ _ rfl rfl rfl rfl rfl rfl rfl rfl j

theorem rounds_c (v w : Block) (j : S20x8x2048.Idx) (x : Block) (hx : k0_pay21 v w = addi x (k0_pay20 v w)) :
    Words.rounds₀ (x j, k0_pay20 v w j) = (k0_pay27 (k0_pay22 v w) (k0_pay23 v w) 15#32 j,
      turn 6 26 (k0_pay27 (k0_pay22 v w) (k0_pay23 v w) 15#32) (k0_pay26 (k0_pay22 v w) (k0_pay23 v w) 15#32) j) :=
  rounds₀_apply x (k0_pay20 v w) (k0_pay21 v w) (k0_pay22 v w) (k0_pay23 v w) (k0_pay24 (k0_pay22 v w) (k0_pay23 v w) 15#32)
    (k0_pay25 (k0_pay22 v w) (k0_pay23 v w) 15#32) (k0_pay26 (k0_pay22 v w) (k0_pay23 v w) 15#32) _ _
    hx rfl rfl rfl rfl rfl rfl rfl j

theorem rounds_d (v w : Block) (j : S20x8x2048.Idx) (x : Block) (hx : k0_pay29 v w 15#32 = addi x (k0_pay28 v w 15#32)) :
    Words.rounds₁ (x j, k0_pay28 v w 15#32 j) = (k0_pay35 (k0_pay33 v w 15#32) (k0_pay34 v w 15#32) j,
      turn 24 8 (k0_pay35 (k0_pay33 v w 15#32) (k0_pay34 v w 15#32)) (k0_pay34 v w 15#32) j) :=
  rounds₁_apply x (k0_pay28 v w 15#32) (k0_pay29 v w 15#32) (k0_pay30 v w 15#32) (k0_pay31 v w 15#32) (k0_pay32 v w 15#32)
    (k0_pay33 v w 15#32) (k0_pay34 v w 15#32) _ _ hx rfl rfl rfl rfl rfl rfl rfl j

theorem rounds_e (v w : Block) (j : S20x8x2048.Idx) (x : Block) (hx : k0_pay37 v w = addi x (k0_pay36 v w)) :
    Words.rounds₀ (x j, k0_pay36 v w j) = (k0_pay43 v w j, k0_pay44 v w j) :=
  rounds₀_apply x (k0_pay36 v w) (k0_pay37 v w) (k0_pay38 v w) (k0_pay39 v w) (k0_pay40 v w)
    (k0_pay41 v w) (k0_pay42 v w) _ _ hx rfl rfl rfl rfl rfl rfl rfl j

/-- The bits that the kernel turns into a number are the draw's at the element's place. -/
theorem bits_apply (i : grid0.Coords) (j : S20x8x2048.Idx) :
    a₄ i j ^^^ (b₄ i j + k0_pay46 j) = Words.bits (place i j) := by
  have hk : Words.keyA₀ ^^^ Words.keyA₁ ^^^ 466688986#32 = 1724713080#32 := by decide
  unfold Words.bits
  have h : Words.threefry Words.keyA₀ Words.keyA₁ (0#32, place i j) = (a₄ i j, b₄ i j + k0_pay46 j) := by
    unfold Words.threefry
    simp only [hk]
    have e₀ : Words.inject Words.keyA₀ Words.keyA₁ (0#32, place i j) = (Words.keyA₀, k0_pay2 i j) := by
      unfold Words.inject
      rw [place_apply]
      exact Prod.ext (BitVec.zero_add _) rfl
    have e₁ : Words.inject Words.keyA₁ (1724713080#32 + 1) (k0_pay9 i j, b₁ i j) = (a₁ i j, k0_pay12 (b₁ i) j) := rfl
    have e₂ : Words.inject 1724713080#32 (Words.keyA₀ + 2)
        (k0_pay19 (b₁ i) (a₁ i) j, turn 24 8 (k0_pay19 (b₁ i) (a₁ i)) (k0_pay18 (b₁ i) (a₁ i)) j)
        = (addi (k0_pay19 (b₁ i) (a₁ i)) (broadcast S20x8x2048 1724713080#32) j, k0_pay20 (b₁ i) (a₁ i) j) := rfl
    have e₃ : Words.inject Words.keyA₀ (Words.keyA₁ + 3)
        (k0_pay27 (b₂ i) (a₂ i) 15#32 j, turn 6 26 (k0_pay27 (b₂ i) (a₂ i) 15#32) (k0_pay26 (b₂ i) (a₂ i) 15#32) j)
        = (addi (k0_pay27 (b₂ i) (a₂ i) 15#32) (broadcast S20x8x2048 Words.keyA₀) j, k0_pay28 (b₂ i) (a₂ i) 15#32 j) := rfl
    have e₄ : Words.inject Words.keyA₁ (1724713080#32 + 4)
        (k0_pay35 (a₃ i) (b₃ i) j, turn 24 8 (k0_pay35 (a₃ i) (b₃ i)) (b₃ i) j)
        = (addi (k0_pay35 (a₃ i) (b₃ i)) (broadcast S20x8x2048 Words.keyA₁) j, k0_pay36 (a₃ i) (b₃ i) j) := rfl
    have e₅ : Words.inject 1724713080#32 (Words.keyA₀ + 5) (k0_pay43 (a₃ i) (b₃ i) j, k0_pay44 (a₃ i) (b₃ i) j)
        = (a₄ i j, b₄ i j + k0_pay46 j) := rfl
    rw [e₀, rounds_a, e₁, rounds_b, e₂, rounds_c _ _ _ (addi (k0_pay19 (b₁ i) (a₁ i)) (broadcast S20x8x2048 1724713080#32)) rfl, e₃,
      rounds_d _ _ _ (addi (k0_pay27 (b₂ i) (a₂ i) 15#32) (broadcast S20x8x2048 Words.keyA₀)) rfl, e₄,
      rounds_e _ _ _ (addi (k0_pay35 (a₃ i) (b₃ i)) (broadcast S20x8x2048 Words.keyA₁)) rfl, e₅]
  rw [h]

end Cert.Own.Ker
end
end
-- ==== Proof.Value.lean ====
/-
  The two results as formulas over the extended reals, one element at a time: as the reference writes them, and as the
  kernel does. Nothing here names a program.
-/
module

public import proofs.«01_k».proof.Proof.Words
public import Idealize.ShloMosaic.PureOps.Ideal
public import Idealize.ShloMosaic.Lib.IdealHost

@[expose] public section
noncomputable section
namespace Cert.Own.Value
open Idealize.ShloMosaic

/-- An f32 word's value. -/
abbrev f32 (b : BitVec 32) : EReal := Ideal.ofBits .f32 b

/-- The draw's 23 bits under the exponent of one: a number in [1, 2). -/
def frac (n : BitVec 32) : EReal := f32 ((Words.bits n >>> (9#32)) ||| 1065353216#32)

/-- The uniform draw on (-1, 1), as the reference scales and clamps it. -/
def uniform (n : BitVec 32) : EReal :=
  max (f32 0xBF7FFFFF#32) ((frac n - f32 0x3F800000#32) * (f32 0x3F800000#32 - f32 0xBF7FFFFF#32) + f32 0xBF7FFFFF#32)

/-- The two polynomials of the inverse error function, near the middle and in the tails. -/
def near (w : EReal) : EReal :=
  (((f32 0x396532DB#32 * (w - f32 0x40200000#32) + f32 0xBAA45408#32) * (w - f32 0x40200000#32) + f32 0xBB88E4EF#32)
    * (w - f32 0x40200000#32) + f32 0x3E7C8F63#32) * (w - f32 0x40200000#32) + f32 0x3FC02E2F#32
def far (w : EReal) : EReal :=
  (((f32 0x3BBC127B#32 * (Ideal.sqrt w - f32 0x40400000#32) + f32 0xBBF9C5D7#32) * (Ideal.sqrt w - f32 0x40400000#32)
    + f32 0x3C1AA57E#32) * (Ideal.sqrt w - f32 0x40400000#32) + f32 0x3F8036DB#32) * (Ideal.sqrt w - f32 0x40400000#32)
    + f32 0x40354F7E#32

/-- The normal draw from the uniform one, as the reference writes it. -/
def normal (u : EReal) : EReal :=
  f32 0x3FB504F3#32 * (Scalar.select (Ideal.cmp .olt (-(Ideal.log1p (-u * u))) (f32 0x40A00000#32))
    (near (-(Ideal.log1p (-u * u)))) (far (-(Ideal.log1p (-u * u)))) * u)

/-- The noised start, and the point between it and the target, as the reference writes them. -/
def start (x : EReal) (n : BitVec 32) : EReal := x + normal (uniform n)
def between (t x₀ s : EReal) : EReal := t * x₀ + (f32 0x3F800000#32 - t) * s

end Cert.Own.Value
end
-- ==== Proof.Form.lean ====
/-
  The kernel's formulas over the extended reals, one element at a time, and why they are the reference's: the draw is a
  real number strictly between -1 and 1, so everything up to the last line is an identity between real numbers.
-/
module

public import proofs.«01_k».proof.Proof.Value
public import Mathlib.Tactic.Ring
public import Mathlib.Tactic.NormNum
public import Mathlib.Tactic.Linarith
public import Mathlib.Tactic.FieldSimp

@[expose] public section
noncomputable section
namespace Cert.Own.Value
open Idealize.ShloMosaic

/-- The kernel's uniform draw: one multiply and one add, no clamp. -/
def kUniform (n : BitVec 32) : EReal :=
  frac n * ((33554431 / 16777216 : ℝ) : EReal) + ((-25165823 / 8388608 : ℝ) : EReal)

/-- The kernel's logarithm, and its two polynomials with the factor folded in. -/
def kLog (u : EReal) : EReal := f32 0x00000000#32 - Ideal.log (f32 0x3F800000#32 - u * u)
def kNear (w : EReal) : EReal :=
  (((((178195562344929 / 576460752303423488 : ℝ) : EReal) * (w - f32 0x40200000#32) + ((-15970078719091 / 9007199254740992 : ℝ) : EReal)) * (w - f32 0x40200000#32)
    + ((-106431479024349 / 18014398509481984 : ℝ) : EReal)) * (w - f32 0x40200000#32) + ((196358438430457 / 562949953421312 : ℝ) : EReal)) * (w - f32 0x40200000#32)
    + ((149414905615005 / 70368744177664 : ℝ) : EReal)
def kFar (w : EReal) : EReal :=
  (((((146220882753217 / 18014398509481984 : ℝ) : EReal) * (Ideal.sqrt w - f32 0x40400000#32) + ((-194191396251413 / 18014398509481984 : ℝ) : EReal)) * (Ideal.sqrt w - f32 0x40400000#32)
    + ((60116652754765 / 4503599627370496 : ℝ) : EReal)) * (Ideal.sqrt w - f32 0x40400000#32) + ((99683026763233 / 70368744177664 : ℝ) : EReal)) * (Ideal.sqrt w - f32 0x40400000#32)
    + ((70481935283789 / 17592186044416 : ℝ) : EReal)

/-- The kernel's normal draw, its noised start, and the point between. -/
def kNormal (u : EReal) : EReal :=
  Scalar.select (Ideal.cmp .olt (kLog u) (f32 0x40A00000#32)) (kNear (kLog u)) (kFar (kLog u)) * u
def kStart (x : EReal) (n : BitVec 32) : EReal := x + kNormal (kUniform n)
def kBetween (t x₀ s : EReal) : EReal := s + t * (x₀ - s)

/-! The comparisons' one-bit answers. -/

theorem olt_iff {x y : EReal} : Ideal.cmp .olt x y = 1#1 ↔ x < y := by
  by_cases h : x < y <;> simp [Ideal.cmp, h]
theorem ole_iff {x y : EReal} : Ideal.cmp .ole x y = 1#1 ↔ x ≤ y := by
  by_cases h : x ≤ y <;> simp [Ideal.cmp, h]

namespace Lit
theorem zero : f32 0x00000000#32 = ((0 : ℝ) : EReal) := by
  simp [Ideal.ofBits, Ideal.ieee, -EReal.coe_mul]
theorem lo : f32 0xBF7FFFFF#32 = ((-16777215 / 16777216 : ℝ) : EReal) := by
  simp [Ideal.ofBits, Ideal.ieee, -EReal.coe_mul]; norm_num
theorem one : f32 0x3F800000#32 = ((1 : ℝ) : EReal) := by
  simp [Ideal.ofBits, Ideal.ieee, -EReal.coe_mul]
theorem five : f32 0x40A00000#32 = ((5 : ℝ) : EReal) := by
  simp [Ideal.ofBits, Ideal.ieee, -EReal.coe_mul]; norm_num
theorem mid : f32 0x40200000#32 = ((5 / 2 : ℝ) : EReal) := by
  simp [Ideal.ofBits, Ideal.ieee, -EReal.coe_mul]; norm_num
theorem three : f32 0x40400000#32 = ((3 : ℝ) : EReal) := by
  simp [Ideal.ofBits, Ideal.ieee, -EReal.coe_mul]; norm_num
theorem root2 : f32 0x3FB504F3#32 = ((11863283 / 8388608 : ℝ) : EReal) := by
  simp [Ideal.ofBits, Ideal.ieee, -EReal.coe_mul]; norm_num
theorem near₄ : f32 0x396532DB#32 = ((15020763 / 68719476736 : ℝ) : EReal) := by
  simp [Ideal.ofBits, Ideal.ieee, -EReal.coe_mul]; norm_num
theorem near₃ : f32 0xBAA45408#32 = ((-1346177 / 1073741824 : ℝ) : EReal) := by
  simp [Ideal.ofBits, Ideal.ieee, -EReal.coe_mul]; norm_num
theorem near₂ : f32 0xBB88E4EF#32 = ((-8971503 / 2147483648 : ℝ) : EReal) := by
  simp [Ideal.ofBits, Ideal.ieee, -EReal.coe_mul]; norm_num
theorem near₁ : f32 0x3E7C8F63#32 = ((16551779 / 67108864 : ℝ) : EReal) := by
  simp [Ideal.ofBits, Ideal.ieee, -EReal.coe_mul]; norm_num
theorem near₀ : f32 0x3FC02E2F#32 = ((12594735 / 8388608 : ℝ) : EReal) := by
  simp [Ideal.ofBits, Ideal.ieee, -EReal.coe_mul]; norm_num
theorem far₄ : f32 0x3BBC127B#32 = ((12325499 / 2147483648 : ℝ) : EReal) := by
  simp [Ideal.ofBits, Ideal.ieee, -EReal.coe_mul]; norm_num
theorem far₃ : f32 0xBBF9C5D7#32 = ((-16369111 / 2147483648 : ℝ) : EReal) := by
  simp [Ideal.ofBits, Ideal.ieee, -EReal.coe_mul]; norm_num
theorem far₂ : f32 0x3C1AA57E#32 = ((5067455 / 536870912 : ℝ) : EReal) := by
  simp [Ideal.ofBits, Ideal.ieee, -EReal.coe_mul]; norm_num
theorem far₁ : f32 0x3F8036DB#32 = ((8402651 / 8388608 : ℝ) : EReal) := by
  simp [Ideal.ofBits, Ideal.ieee, -EReal.coe_mul]; norm_num
theorem far₀ : f32 0x40354F7E#32 = ((5941183 / 2097152 : ℝ) : EReal) := by
  simp [Ideal.ofBits, Ideal.ieee, -EReal.coe_mul]; norm_num
end Lit

/-! The number whose exponent is that of one and whose other bits are the draw's is `1 + k / 2 ^ 23`. -/

theorem frac_toNat (x : BitVec 32) : ∃ k : ℕ, k < 8388608 ∧ ((x >>> (9#32)) ||| 1065353216#32).toNat = 1065353216 + k := by
  have hk : (x >>> (9#32)).toNat < 8388608 := by
    have := x.isLt
    have h9 : (9#32).toNat = 9 := by decide
    rw [BitVec.ushiftRight_eq', h9, BitVec.toNat_ushiftRight, Nat.shiftRight_eq_div_pow]
    omega
  refine ⟨_, hk, ?_⟩
  have h := Nat.shiftLeft_add_eq_or_of_lt (i := 23) (b := (x >>> (9#32)).toNat) (by omega) 127
  have h₁ : 127 <<< 23 = 1065353216 := by decide
  have h₂ : (1065353216#32).toNat = 1065353216 := by decide
  rw [h₁] at h
  rw [BitVec.toNat_or, Nat.or_comm, h₂, h]

theorem ieee_frac (b : BitVec 32) (k : ℕ) (hk : k < 8388608) (hb : b.toNat = 1065353216 + k) :
    Ideal.ieee 8 23 b = ((1 + k / 8388608 : ℝ) : EReal) := by
  have h₁ : (b.extractLsb' (8 + 23) 1 == 1#1) = false := by
    refine beq_eq_false_iff_ne.mpr fun h => ?_
    have := congrArg BitVec.toNat h
    simp only [BitVec.extractLsb'_toNat, Nat.shiftRight_eq_div_pow, hb, BitVec.toNat_ofNat] at this
    omega
  have h₂ : (b.extractLsb' 23 8).toNat = 127 := by
    simp only [BitVec.extractLsb'_toNat, Nat.shiftRight_eq_div_pow, hb]
    omega
  have h₃ : (b.extractLsb' 0 23).toNat = k := by
    simp only [BitVec.extractLsb'_toNat, Nat.shiftRight_eq_div_pow, hb]
    omega
  unfold Ideal.ieee
  simp only [h₁, h₂, h₃]
  rw [if_neg (by norm_num), if_neg (by norm_num)]
  congr 1
  norm_num
  ring

theorem frac_real (n : BitVec 32) : ∃ k : ℕ, k < 8388608 ∧ frac n = ((1 + k / 8388608 : ℝ) : EReal) := by
  obtain ⟨k, hk, hb⟩ := frac_toNat (Words.bits n)
  exact ⟨k, hk, ieee_frac _ k hk hb⟩

theorem inside {u : ℝ} (h : |u| ≤ 16777215 / 16777216) : -1 < u ∧ u < 1 := by
  have := abs_le.mp h
  constructor <;> linarith

/-- The draw as a real number, in both spellings. -/
theorem uniform_real (n : BitVec 32) :
    ∃ u : ℝ, |u| ≤ 16777215 / 16777216 ∧ uniform n = (u : EReal) ∧ kUniform n = (u : EReal) := by
  obtain ⟨k, hk, hf⟩ := frac_real n
  have hk' : (k : ℝ) ≤ 8388607 := by exact_mod_cast Nat.le_of_lt_succ hk
  have hk0 : (0 : ℝ) ≤ k := Nat.cast_nonneg k
  refine ⟨(k / 8388608 : ℝ) * (33554431 / 16777216) + -16777215 / 16777216, abs_le.mpr ⟨by linarith, by linarith⟩, ?_, ?_⟩
  · unfold uniform
    rw [hf, Lit.lo, Lit.one, ← EReal.coe_sub, ← EReal.coe_sub, ← EReal.coe_mul, ← EReal.coe_add, max_eq_right]
    · congr 1
      ring
    · refine EReal.coe_le_coe_iff.mpr ?_
      linarith
  · unfold kUniform
    rw [hf, ← EReal.coe_mul, ← EReal.coe_add]
    congr 1
    ring

/-- The logarithm as a real number that is not negative, in both spellings. -/
theorem log_real (u : ℝ) (h₁ : -1 < u) (h₂ : u < 1) :
    ∃ w : ℝ, w = -Real.log (1 - u * u) ∧ 0 ≤ w ∧ -(Ideal.log1p (-(u : EReal) * u)) = (w : EReal) ∧ kLog u = (w : EReal) := by
  have hp : 0 < 1 - u * u := by nlinarith
  have hq : 1 - u * u ≤ 1 := by nlinarith [mul_self_nonneg u]
  have hl : Ideal.log ((1 - u * u : ℝ) : EReal) = ((Real.log (1 - u * u) : ℝ) : EReal) := if_neg (not_le.mpr hp)
  refine ⟨-Real.log (1 - u * u), rfl, by linarith [Real.log_nonpos hp.le hq], ?_, ?_⟩
  · unfold Ideal.log1p
    rw [← EReal.coe_neg, ← EReal.coe_mul, ← EReal.coe_one, ← EReal.coe_add,
      show (1 + -u * u : ℝ) = 1 - u * u by ring, hl, EReal.coe_neg]
  · unfold kLog
    rw [Lit.zero, Lit.one, ← EReal.coe_mul, ← EReal.coe_sub, hl, ← EReal.coe_sub, zero_sub]

theorem sqrt_real (w : ℝ) (h : 0 ≤ w) : Ideal.sqrt (w : EReal) = ((Real.sqrt w : ℝ) : EReal) := if_neg (not_lt.mpr h)

theorem near_fold (w u : ℝ) : f32 0x3FB504F3#32 * (near w * u) = kNear w * u
    ∧ ∃ r : ℝ, kNear w * u = (r : EReal) := by
  unfold near kNear
  rw [Lit.root2, Lit.near₄, Lit.near₃, Lit.near₂, Lit.near₁, Lit.near₀, Lit.mid]
  simp only [← EReal.coe_sub, ← EReal.coe_mul, ← EReal.coe_add]
  refine ⟨?_, _, rfl⟩
  congr 1
  ring

theorem far_fold (w u : ℝ) (h : 0 ≤ w) : f32 0x3FB504F3#32 * (far w * u) = kFar w * u
    ∧ ∃ r : ℝ, kFar w * u = (r : EReal) := by
  unfold far kFar
  rw [sqrt_real w h, Lit.root2, Lit.far₄, Lit.far₃, Lit.far₂, Lit.far₁, Lit.far₀, Lit.three]
  simp only [← EReal.coe_sub, ← EReal.coe_mul, ← EReal.coe_add]
  refine ⟨?_, _, rfl⟩
  congr 1
  ring

/-- The two normal draws are one real number. -/
theorem normal_eq (n : BitVec 32) :
    normal (uniform n) = kNormal (kUniform n) ∧ ∃ r : ℝ, kNormal (kUniform n) = (r : EReal) := by
  obtain ⟨u, h, hu, hk⟩ := uniform_real n
  obtain ⟨h₁, h₂⟩ := inside h
  obtain ⟨w, _, hw, hl, hkl⟩ := log_real u h₁ h₂
  unfold normal kNormal
  rw [hu, hk, hl, hkl]
  unfold Scalar.select
  split
  · exact near_fold w u
  · exact far_fold w u hw

theorem start_eq (x : EReal) (n : BitVec 32) : kStart x n = start x n := by
  unfold kStart start
  rw [(normal_eq n).1]

/-- The point between, at a finite time and a finite start, whatever the target. -/
theorem between_eq (t s : ℝ) (x₀ : EReal) : kBetween t x₀ s = between t x₀ s := by
  unfold kBetween between
  rw [Lit.one, ← EReal.coe_sub, ← EReal.coe_mul]
  induction x₀ with
  | bot =>
    rw [EReal.bot_sub]
    rcases lt_trichotomy t 0 with h | h | h
    · rw [EReal.coe_mul_bot_of_neg h, EReal.coe_add_top, EReal.top_add_coe]
    · subst h
      rw [EReal.coe_zero, zero_mul, add_zero, zero_add]
      congr 1
      ring
    · rw [EReal.coe_mul_bot_of_pos h, EReal.add_bot, EReal.bot_add]
  | top =>
    rw [EReal.top_sub_coe]
    rcases lt_trichotomy t 0 with h | h | h
    · rw [EReal.coe_mul_top_of_neg h, EReal.add_bot, EReal.bot_add]
    · subst h
      rw [EReal.coe_zero, zero_mul, add_zero, zero_add]
      congr 1
      ring
    · rw [EReal.coe_mul_top_of_pos h, EReal.coe_add_top, EReal.top_add_coe]
  | coe y =>
    rw [← EReal.coe_sub, ← EReal.coe_mul, ← EReal.coe_mul, ← EReal.coe_add, ← EReal.coe_add]
    congr 1
    ring

theorem between_start (t x : ℝ) (x₀ : EReal) (n : BitVec 32) :
    kBetween t x₀ (kStart x n) = between t x₀ (start x n) := by
  obtain ⟨r, hr⟩ := (normal_eq n).2
  rw [← start_eq]
  unfold kStart
  rw [hr, ← EReal.coe_add]
  exact between_eq t (x + r) x₀

end Cert.Own.Value
end
end
-- ==== Proof.KerVal.lean ====
/-
  The kernel's arithmetic on numbers at one index of a block.
-/
module

public import proofs.«01_k».proof.Proof.KerWords
public import proofs.«01_k».proof.Proof.Form
public import Idealize.ShloMosaic.Lib.Pointwise

@[expose] public section
set_option maxRecDepth 100000
noncomputable section
namespace Cert.Own.Ker
open Idealize.ShloMosaic hiding ix0 ix1 ix2 ix3
open Idealize.ShloMosaic.ValueIdx
open Cert.KernelIdeal Cert.KernelIdeal.Gen

/-- A block of numbers. -/
abbrev Reals := FVec Ideal S20x8x2048 .f32

/-- The kernel's stages at one grid point. -/
abbrev uBlock (i : grid0.Coords) : Reals := k0_pay47 (b₄ i) (a₄ i) k0_pay46
abbrev wBlock (i : grid0.Coords) : Reals := k0_pay48 (b₄ i) (a₄ i) k0_pay46
abbrev nearBlock (i : grid0.Coords) : Reals := k0_pay49 (b₄ i) (a₄ i) k0_pay46
abbrev rootBlock (i : grid0.Coords) : Reals := k0_pay50 (b₄ i) (a₄ i) k0_pay46
abbrev tailBlock (i : grid0.Coords) : Reals := k0_pay51 (b₄ i) (a₄ i) k0_pay46

/-- The noised start over a block of the template. -/
abbrev startBlock (i : grid0.Coords) (x : Reals) : Reals :=
  k0_pay52 (uBlock i) (wBlock i) (nearBlock i) (rootBlock i) (tailBlock i) (Named.named κ "b1" 0x3FB55287#32) x

theorem u_apply (v w x : Block) (j : S20x8x2048.Idx) (n : BitVec 32) (hn : w j ^^^ (v j + x j) = Words.bits n) :
    k0_pay47 (F := Ideal) v w x j = Value.kUniform n := by
  have h : IntOp.shrui .vector (w j ^^^ (v j + x j)) 9#32 ||| 1065353216#32 = (Words.bits n >>> (9#32)) ||| 1065353216#32 := by
    rw [hn, Words.shr_lit _ _ _ (by decide)]
  unfold k0_pay47
  exact congrArg (fun b : BitVec 32 => Value.f32 b * ((33554431 / 16777216 : ℝ) : EReal) + ((-25165823 / 8388608 : ℝ) : EReal)) h

theorem w_apply (v w x : Block) (j : S20x8x2048.Idx) :
    k0_pay48 (F := Ideal) v w x j = Value.kLog (k0_pay47 (F := Ideal) v w x j) := by
  unfold k0_pay48
  generalize k0_pay47 (F := Ideal) v w x = u
  rfl

theorem near_apply (v w x : Block) (j : S20x8x2048.Idx) :
    k0_pay49 (F := Ideal) v w x j = Value.kNear (k0_pay48 (F := Ideal) v w x j) := by
  unfold k0_pay49
  generalize k0_pay48 (F := Ideal) v w x = u
  rfl

theorem root_apply (v w x : Block) (j : S20x8x2048.Idx) :
    k0_pay50 (F := Ideal) v w x j = Ideal.sqrt (k0_pay48 (F := Ideal) v w x j) - Value.f32 0x40400000#32 := by
  unfold k0_pay50
  generalize k0_pay48 (F := Ideal) v w x = u
  rfl

theorem tail_apply (v w x : Block) (j : S20x8x2048.Idx) :
    k0_pay51 (F := Ideal) v w x j = ((((146220882753217 / 18014398509481984 : ℝ) : EReal) * k0_pay50 (F := Ideal) v w x j
      + ((-194191396251413 / 18014398509481984 : ℝ) : EReal)) * k0_pay50 (F := Ideal) v w x j
      + ((60116652754765 / 4503599627370496 : ℝ) : EReal)) * k0_pay50 (F := Ideal) v w x j := by
  unfold k0_pay51
  generalize k0_pay50 (F := Ideal) v w x = u
  rfl

theorem select_step (u w n r t x : Reals) (j : S20x8x2048.Idx) :
    k0_pay52 u w n r t (Named.named κ "b1" 0x3FB55287#32) x j
      = x j + Scalar.select (Ideal.cmp .olt (w j) (Value.f32 0x40A00000#32)) (n j)
          ((t j + ((99683026763233 / 70368744177664 : ℝ) : EReal)) * r j + ((70481935283789 / 17592186044416 : ℝ) : EReal)) * u j := by
  unfold k0_pay52
  rw [addf_apply, shapeCast_self]
  rfl

theorem start_step (v w x : Block) (y : Reals) (j : S20x8x2048.Idx) (n : BitVec 32) (hn : w j ^^^ (v j + x j) = Words.bits n) :
    k0_pay52 (F := Ideal) (k0_pay47 v w x) (k0_pay48 v w x) (k0_pay49 v w x) (k0_pay50 v w x) (k0_pay51 v w x)
      (Named.named κ "b1" 0x3FB55287#32) y j = Value.kStart (y j) n := by
  rw [select_step, tail_apply, near_apply, root_apply, w_apply, u_apply v w x j n hn]
  rfl

theorem start_apply (i : grid0.Coords) (x : Reals) (j : S20x8x2048.Idx) :
    startBlock i x j = Value.kStart (x j) (place i j) :=
  start_step (b₄ i) (a₄ i) k0_pay46 x j (place i j) (bits_apply i j)

/-- One cell of the diagonal: `p` where both coordinates are `r`, what was there before elsewhere. -/
theorem pick (x y r : BitVec 32) (p q : EReal) :
    Scalar.select (IntOp.andi (IntOp.cmpi .eq x r) (IntOp.cmpi .eq y r)) p q = if x = r ∧ y = r then p else q := by
  have e (z : BitVec 32) : IntOp.cmpi .eq z r = if z = r then 1#1 else 0#1 := by
    by_cases h : z = r
    · subst h
      rw [if_pos rfl]
      show BitVec.ofBool (z == z) = 1#1
      rw [beq_self_eq_true]
      rfl
    · rw [if_neg h]
      show BitVec.ofBool (z == r) = 0#1
      rw [beq_eq_false_iff_ne.mpr h]
      rfl
  rw [e, e]
  unfold Scalar.select
  by_cases hx : x = r <;> by_cases hy : y = r <;> simp only [hx, hy, if_true, if_false, and_true, and_false, and_self] <;>
    first | exact if_pos (by decide) | exact if_neg (by decide)

/-- The diagonal block that the kernel builds from the eight times of its rows. -/
abbrev diag (t : Fin 8 → EReal) : FVec Ideal S8x8 .f32 :=
  k0_pay54 (iota .tc S8x8 32 [0] iota_S8x8_d0_w32) (iota .tc S8x8 32 [1] iota_S8x8_d1_w32) (k0_pay53 (t 0) (t 1))
    (t 2) (t 3) (t 4) (t 5)

/-- What the body leaves in its first output block. -/
abbrev betweenBlock (t : Fin 8 → EReal) (s x₀ : Reals) : Reals :=
  k0_pay1 s (iota .tc S8x8 32 [0] iota_S8x8_d0_w32) (iota .tc S8x8 32 [1] iota_S8x8_d1_w32) (diag t) (t 6) (t 7) x₀

/-- The same block from eight numbers that are the times. -/
theorem between_of (t : Fin 8 → EReal) (s x₀ : Reals) (a₀ a₁ a₂ a₃ a₄ a₅ a₆ a₇ : EReal) (h₀ : a₀ = t 0) (h₁ : a₁ = t 1)
    (h₂ : a₂ = t 2) (h₃ : a₃ = t 3) (h₄ : a₄ = t 4) (h₅ : a₅ = t 5) (h₆ : a₆ = t 6) (h₇ : a₇ = t 7) :
    k0_pay1 (F := Ideal) s (iota .tc S8x8 32 [0] iota_S8x8_d0_w32) (iota .tc S8x8 32 [1] iota_S8x8_d1_w32)
      (k0_pay54 (iota .tc S8x8 32 [0] iota_S8x8_d0_w32) (iota .tc S8x8 32 [1] iota_S8x8_d1_w32) (k0_pay53 a₀ a₁) a₂ a₃ a₄ a₅)
      a₆ a₇ x₀ = betweenBlock t s x₀ := by
  subst h₀; subst h₁; subst h₂; subst h₃; subst h₄; subst h₅; subst h₆; subst h₇
  rfl

/-- The whole diagonal, the last two rows put in. -/
def full (t : Fin 8 → EReal) (a b : BitVec 32) : EReal :=
  if a = 7#32 ∧ b = 7#32 then t 7 else if a = 6#32 ∧ b = 6#32 then t 6 else if a = 5#32 ∧ b = 5#32 then t 5
  else if a = 4#32 ∧ b = 4#32 then t 4 else if a = 3#32 ∧ b = 3#32 then t 3 else if a = 2#32 ∧ b = 2#32 then t 2
  else if a = 1#32 ∧ b = 1#32 then t 1 else if a = 0#32 ∧ b = 0#32 then t 0 else 0

theorem full_apply (t : Fin 8 → EReal) (a b : Fin 8) :
    full t (BitVec.ofNat 32 a.val) (BitVec.ofNat 32 b.val) = if a = b then t a else 0 := by
  unfold full
  fin_cases a <;> fin_cases b <;> rfl

/-- A row of the product: the diagonal's own term is the only one that is not zero. -/
theorem one_row (a : Fin 8) (t g : Fin 8 → EReal) (s : EReal) :
    s + ∑ k, (if a = k then t a else 0) * g k = s + t a * g a := by
  simp only [ite_mul, zero_mul, Finset.sum_ite_eq, Finset.mem_univ, if_true]

theorem between_apply (t : Fin 8 → EReal) (s x₀ : Reals) (j : S20x8x2048.Idx) :
    betweenBlock t s x₀ j = Value.kBetween (t (j 1)) (x₀ j) (s j) := by
  unfold betweenBlock diag
  pointwise [k0_pay1, k0_pay54, k0_pay53]
  simp only [pick]
  have e : Idealize.ShloMosaic.ix3 (j 0) (j 1) (j 2) = j := funext fun a => by fin_cases a <;> rfl
  refine (congrArg (s j + ·) (Finset.sum_congr rfl fun k _ => congrArg (· * _) (full_apply t (j 1) k))).trans ?_
  refine (one_row (j 1) t (fun k => x₀ (Idealize.ShloMosaic.ix3 (j 0) k (j 2)) - s (Idealize.ShloMosaic.ix3 (j 0) k (j 2))) (s j)).trans ?_
  exact congrArg (fun l => s j + t (j 1) * (x₀ l - s l)) e

end Cert.Own.Ker
end
end
-- ==== Proof.KerRun.lean ====
/-
  The kernel's two result arrays, block by block.
-/
module

public import proofs.«01_k».proof.Proof.Gen.KernelIdeal.Frame
public import Idealize.ShloMosaic.Lib.Pipeline.ValueKit
public import proofs.«01_k».proof.Proof.KerVal

@[expose] public section
set_option maxRecDepth 100000
noncomputable section
namespace Cert.Own.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

theorem idx : ∀ t : Fin cfg0.N, win0_0.index t = ![0] ∧ win0_1.index t = ![0, (grid0.coords t 0).val, 0]
    ∧ win0_2.index t = ![0, (grid0.coords t 0).val, 0] ∧ win0_3.index t = ![0, (grid0.coords t 0).val, 0]
    ∧ win0_4.index t = ![0, (grid0.coords t 0).val, 0] :=
  (by decide +kernel : ∀ t : Fin grid0.N, _)

theorem out_start (c : Dev nD) (t : Fin cfg0.N) :
    (outsAt0 m c t).2 = startBlock (grid0.coords t) (iblk m c 2 t) := by
  unfold outsAt0
  dsimp only
  frame_out

/-- The place of a grid point's row in the array of times. -/
theorem row_lt (i : grid0.Coords) (r : Fin 8) : 8 * (i 0).val + r.val < 256 := by
  have : (i 0).val < 32 := (i 0).isLt
  have := r.isLt
  omega

/-- The time of a grid point's row. -/
abbrev time (c : Dev nD) (t : Fin cfg0.N) (r : Fin 8) : EReal :=
  (m ((c : Thread nD τ).loc main_arg2) : S256.Idx → EReal) (ix1 ⟨8 * (grid0.coords t 0).val + r.val, row_lt _ r⟩)

theorem load (c : Dev nD) (t : Fin cfg0.N) (r : Fin 8) (inb) (h) :
    (View.ld (iblk m c 0 t) (Rect.unit (k0_off1 (grid0.coords t) (BitVec.ofNat 32 r.val)) ![1] inb) (Shape.Idx.first h) : EReal)
      = time m c t r := by
  have h0 : (grid0.coords t 0).val < 32 := (grid0.coords t 0).isLt
  have h1 := r.isLt
  refine (View.ld_unit_apply_of _ _ _ _ _ (ix1 ⟨8 * (grid0.coords t 0).val + r.val, row_lt _ r⟩) ?_).trans ?_
  · intro a
    fin_cases a
    show 8 * (grid0.coords t 0).val + r.val = (BitVec.ofNat 32 (grid0.coords t 0).val * 8#32 + BitVec.ofNat 32 r.val).toNat + 0
    simp only [BitVec.toNat_add, BitVec.toNat_mul, BitVec.toNat_ofNat]
    omega
  · blk_ext [iblk, V, idx t]

theorem out_between (c : Dev nD) (t : Fin cfg0.N) :
    (outsAt0 m c t).1 = betweenBlock (time m c t) (startBlock (grid0.coords t) (iblk m c 2 t)) (iblk m c 1 t) := by
  unfold outsAt0
  dsimp only
  frame_out
  exact between_of (time m c t) _ _ _ _ _ _ _ _ _ _ (load m c t 0 _ _) (load m c t 1 _ _) (load m c t 2 _ _) (load m c t 3 _ _)
    (load m c t 4 _ _) (load m c t 5 _ _) (load m c t 6 _ _) (load m c t 7 _ _)

/-- The word of an element's place in the whole (transposed) array. -/
abbrev spot (k : S20x256x2048.Idx) : BitVec 32 := BitVec.ofNat 32 (40960 * (k 1).val + 20 * (k 2).val + (k 0).val)

/-- A block's element has the same place in the array of either output. -/
theorem spot₄ (t : Fin cfg0.N) (y : S20x8x2048.Idx) :
    place (grid0.coords t) y = spot (((cfg0.win 4).blk t).view.emb y) := by
  unfold place spot
  blk_simp [idx t]
  rw [Nat.mul_comm 8]

theorem spot₃ (t : Fin cfg0.N) (y : S20x8x2048.Idx) :
    place (grid0.coords t) y = spot (((cfg0.win 3).blk t).view.emb y) := by
  unfold place spot
  blk_simp [idx t]
  rw [Nat.mul_comm 8]

theorem start_array (c : Dev nD) : (dats m 0 c).arrAt 4 (cfgs 0).N
   = fun k : S20x256x2048.Idx => Value.kStart ((V m c main_v1 : S20x256x2048.Idx → EReal) k) (spot k) := by
  refine (dats m 0 c).arrAt_eq_of_covers 4 _ (by decide +kernel) fun t _ y => ?_
  blk_simp
  rw [after0_4, out_start]
  have h : iblk m c 2 t y = V m c main_v1 (((cfg0.win 4).blk t).view.emb y) := by
    blk_ext [iblk, V, idx t]
  refine (start_apply (grid0.coords t) (iblk m c 2 t) y).trans ?_
  exact congrArg₂ Value.kStart h (spot₄ t y)

/-- The time of an element of the whole array. -/
abbrev timeAt (c : Dev nD) (k : S20x256x2048.Idx) : EReal :=
  (m ((c : Thread nD τ).loc main_arg2) : S256.Idx → EReal) (ix1 (k 1))

theorem between_array (c : Dev nD) : (dats m 0 c).arrAt 3 (cfgs 0).N
   = fun k : S20x256x2048.Idx => Value.kBetween (timeAt m c k) ((V m c main_v0 : S20x256x2048.Idx → EReal) k)
      (Value.kStart ((V m c main_v1 : S20x256x2048.Idx → EReal) k) (spot k)) := by
  refine (dats m 0 c).arrAt_eq_of_covers 3 _ (by decide +kernel) fun t _ y => ?_
  blk_simp
  rw [after0_3, out_between]
  have h₂ : iblk m c 2 t y = V m c main_v1 (((cfg0.win 3).blk t).view.emb y) := by
    blk_ext [iblk, V, idx t]
  have h₁ : iblk m c 1 t y = V m c main_v0 (((cfg0.win 3).blk t).view.emb y) := by
    blk_ext [iblk, V, idx t]
  have h₀ : time m c t (y 1) = timeAt m c (((cfg0.win 3).blk t).view.emb y) := by
    unfold time timeAt
    blk_ext [idx t]
  have h₃ : startBlock (grid0.coords t) (iblk m c 2 t) y
      = Value.kStart ((V m c main_v1 : S20x256x2048.Idx → EReal) (((cfg0.win 3).blk t).view.emb y))
        (spot (((cfg0.win 3).blk t).view.emb y)) :=
    (start_apply (grid0.coords t) (iblk m c 2 t) y).trans (congrArg₂ Value.kStart h₂ (spot₃ t y))
  refine (between_apply (time m c t) _ _ y).trans ?_
  rw [h₃]
  exact congrArg₂ (fun a b => Value.kBetween a b _) h₀ h₁

end Cert.Own.Ker
end
end
-- ==== Proof.KerFinal.lean ====
/-
  The kernel's run: the two results it returns, one element at a time.
-/
module

public import proofs.«01_k».proof.Proof.KerRun
public import Idealize.ShloMosaic.Lib.Claim

@[expose] public section
set_option maxRecDepth 100000
noncomputable section
namespace Cert.Own.Ker
open Idealize.ShloMosaic Idealize.ShloMosaic.TcCoe Idealize.SL.Sem
open Cert.KernelIdeal Cert.KernelIdeal.Gen

variable (m : (ℓ : Loc nD τ sig) → Buf (Elt Ideal) ℓ)

/-- An argument over the whole array of elements. -/
abbrev target (c : Dev nD) : S256x2048x20.Idx → EReal := m ((c : Thread nD τ).loc main_arg0)
abbrev times (c : Dev nD) : S256.Idx → EReal := m ((c : Thread nD τ).loc main_arg2)
abbrev template (c : Dev nD) : S256x2048x20.Idx → EReal := m ((c : Thread nD τ).loc main_arg4)

/-- The flat position of an index, as a word. -/
abbrev flat (j : S256x2048x20.Idx) : BitVec 32 := BitVec.ofNat 32 (40960 * (j 0).val + 20 * (j 1).val + (j 2).val)

/-- The two results. -/
def start (c : Dev nD) (j : S256x2048x20.Idx) : EReal := Value.kStart (template m c j) (flat j)
def between (c : Dev nD) (j : S256x2048x20.Idx) : EReal :=
  Value.kBetween (times m c (ix1 (j 0))) (target m c j) (start m c j)

theorem distinct : Function.Injective (Pipeline.arrRef spec0) := by decide

theorem entry_target (c : Dev nD) (k : S20x256x2048.Idx) :
    (V m c main_v0 : S20x256x2048.Idx → EReal) k = target m c (ix3 (k 1) (k 2) (k 0)) := by
  show StableHlo.after hostOps0 _ (Proc.devRef .tc main_v0) k = _
  after_results
  pointwise

theorem entry_template (c : Dev nD) (k : S20x256x2048.Idx) :
    (V m c main_v1 : S20x256x2048.Idx → EReal) k = template m c (ix3 (k 1) (k 2) (k 0)) := by
  show StableHlo.after hostOps0 _ (Proc.devRef .tc main_v1) k = _
  after_results
  pointwise

/-- An index with its last coordinate moved to the front. -/
abbrev front (j : S256x2048x20.Idx) : S20x256x2048.Idx := ix3 (j 2) (j 0) (j 1)

theorem front_back (j : S256x2048x20.Idx) : ix3 (front j 1) (front j 2) (front j 0) = j := by
  funext d; fin_cases d <;> rfl

theorem back_apply (X : S20x256x2048.Idx → EReal) (h) (j : S256x2048x20.Idx) :
    transpose S256x2048x20 [1, 2, 0] X h j = X (front j) := by
  pointwise

theorem out_start_eq (c : Dev nD) : Pipeline.afterTail₀ cfgs (dats m) 0 (V0 m) [hostOps1] c main_v4 = start m c := by
  have h := (Pipeline.withArrays_arr spec0 distinct c (V0 m c) (fun w => (dats m 0 c).arrAt w (cfgs 0).N) 4).trans (start_array m c)
  show StableHlo.after hostOps1 _ (Proc.devRef .tc main_v4) = _
  after_results
  refine (congrArg (fun X => transpose S256x2048x20 [1, 2, 0] X transposes_S20x256x2048_S256x2048x20_1_2_0) h).trans ?_
  funext j
  refine (back_apply _ _ j).trans ?_
  show Value.kStart (V m c main_v1 (front j)) (flat j) = Value.kStart (template m c j) (flat j)
  exact congrArg (Value.kStart · _) ((entry_template m c _).trans (congrArg (template m c) (front_back j)))

theorem out_between_eq (c : Dev nD) : Pipeline.afterTail₀ cfgs (dats m) 0 (V0 m) [hostOps1] c main_v3 = between m c := by
  have h := (Pipeline.withArrays_arr spec0 distinct c (V0 m c) (fun w => (dats m 0 c).arrAt w (cfgs 0).N) 3).trans (between_array m c)
  show StableHlo.after hostOps1 _ (Proc.devRef .tc main_v3) = _
  after_results
  refine (congrArg (fun X => transpose S256x2048x20 [1, 2, 0] X transposes_S20x256x2048_S256x2048x20_1_2_0) h).trans ?_
  funext j
  refine (back_apply _ _ j).trans ?_
  show Value.kBetween (times m c (ix1 (j 0))) (V m c main_v0 (front j)) (Value.kStart (V m c main_v1 (front j)) (flat j))
    = Value.kBetween (times m c (ix1 (j 0))) (target m c j) (Value.kStart (template m c j) (flat j))
  rw [show V m c main_v0 (front j) = target m c j from (entry_target m c _).trans (congrArg (target m c) (front_back j)),
    show V m c main_v1 (front j) = template m c j from (entry_template m c _).trans (congrArg (template m c) (front_back j))]

theorem run (g : Dev nD → PrngReg) : θ_run (defs (F := Ideal)) (onTc (τ := τ) (main (F := Ideal))) ⟨m, fun _ => 0, g⟩ (fun r => ∀ c : Dev nD,
    r.2.mem ((c.tc : Thread nD τ).loc main_v3) = between m c
    ∧ r.2.mem ((c.tc : Thread nD τ).loc main_v4) = start m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) := by
  run_from Gen.run_main m g & Gen.unchanged m g
  · exact out_between_eq m c
  · exact out_start_eq m c

end Cert.Own.Ker
end
end
-- ==== Proof.Steps.lean ====
/-
  A round and an injection of the generator, as consecutive operations of a row: what the results hold at the end.
-/
module

public import proofs.«01_k».proof.Proof.Line
public import proofs.«01_k».proof.Proof.Words
public import Idealize.ShloMosaic.Lib.ValueIdx
public import Idealize.ShloMosaic.Lib.IdealHost

@[expose] public section
noncomputable section
namespace Cert.Own
open Idealize.ShloMosaic Idealize.ShloMosaic.StableHlo Idealize.SL Idealize.SL.Sem Idealize.ShloMosaic.ValueIdx

variable {τ : Topo} {sig : RefSig} {ops : List (HloOp τ sig (Elt Ideal))} {W : List (Ref sig .tc)} {n : ℕ}
  {V : Valuation τ sig (Elt Ideal)}

/-- A tensor of 32-bit words. -/
abbrev WTy (S : Shape) : BufTy := ⟨S, .i32⟩
/-- The shape of a scalar. -/
abbrev S₀ : Shape := ⟨0, ![]⟩

theorem getElem?_of_take {l l' : List (HloOp τ sig (Elt Ideal))} {i k : ℕ} (h : (l.drop i).take k = l') {q : ℕ}
    {op : HloOp τ sig (Elt Ideal)} (hq : l'[q]? = some op) (hk : q < k) : l[i + q]? = some op := by
  rw [← h, List.getElem?_take_of_lt hk, List.getElem?_drop] at hq
  exact hq

namespace Row

/-- A literal word spread over a shape. -/
theorem splat (h : Row ops W n) (i : ℕ) {S : Shape} {c : TRef sig (WTy S₀)} {d : TRef sig (WTy S)} {r : BitVec 32}
    {hb : S₀.BroadcastsInDim S ![]} (h₁ : ops[i]? = some (TRef.nullary c (constantI S₀ 32 r : IVec S₀ 32)))
    (h₂ : ops[i + 1]? = some (TRef.unary c d (broadcastInDim S ![] hb : IVec S₀ 32 → IVec S 32))) (j : S.Idx) :
    rd (after ops V) d j = r := by
  have hc := h.num_at h₁ (nullary_writes ..)
  rw [h.unary _ h₂ (by omega), h.nullary _ h₁]
  rfl

/-- A round: nine operations from position `i` on. -/
theorem mix (h : Row ops W n) (i : ℕ) {S : Shape} (r r' : BitVec 32) (a b d e d' f g a' b' : TRef sig (WTy S))
    (c c' : TRef sig (WTy S₀)) {hb : S₀.BroadcastsInDim S ![]}
    (hops : (ops.drop i).take 9 = [TRef.binary a b a' (addi : IVec S 32 → IVec S 32 → IVec S 32),
      TRef.nullary c (constantI S₀ 32 r : IVec S₀ 32), TRef.unary c d (broadcastInDim S ![] hb : IVec S₀ 32 → IVec S 32),
      TRef.binary b d e (Host.shli : IVec S 32 → IVec S 32 → IVec S 32), TRef.nullary c' (constantI S₀ 32 r' : IVec S₀ 32),
      TRef.unary c' d' (broadcastInDim S ![] hb : IVec S₀ 32 → IVec S 32),
      TRef.binary b d' f (Host.shrui : IVec S 32 → IVec S 32 → IVec S 32),
      TRef.binary e f g (ori : IVec S 32 → IVec S 32 → IVec S 32),
      TRef.binary a' g b' (xori : IVec S 32 → IVec S 32 → IVec S 32)])
    (ha : num a.ref < n + i) (hbn : num b.ref < n + i) (hr : r.toNat < 32) (hr' : r'.toNat < 32) (j : S.Idx) :
    (rd (after ops V) a' j, rd (after ops V) b' j) = Words.mix r r' (rd (after ops V) a j, rd (after ops V) b j) := by
  have o := fun (q : ℕ) (op : HloOp τ sig (Elt Ideal)) hq hk => getElem?_of_take hops (q := q) (op := op) hq hk
  have o0 := o 0 _ rfl (by omega)
  have o1 := o 1 _ rfl (by omega)
  have o2 := o 2 _ rfl (by omega)
  have o3 := o 3 _ rfl (by omega)
  have o4 := o 4 _ rfl (by omega)
  have o5 := o 5 _ rfl (by omega)
  have o6 := o 6 _ rfl (by omega)
  have o7 := o 7 _ rfl (by omega)
  have o8 := o 8 _ rfl (by omega)
  have na := h.num_at o0 (binary_writes ..)
  have nd := h.num_at o2 (unary_writes ..)
  have ne := h.num_at o3 (binary_writes ..)
  have nd' := h.num_at o5 (unary_writes ..)
  have nf := h.num_at o6 (binary_writes ..)
  have ng := h.num_at o7 (binary_writes ..)
  have ea := congrFun (h.binary (V := V) _ o0 (by omega) (by omega)) j
  have ed := h.splat (V := V) _ o1 o2 j
  have ee := congrFun (h.binary (V := V) _ o3 (by omega) (by omega)) j
  have ed' := h.splat (V := V) _ o4 o5 j
  have ef := congrFun (h.binary (V := V) _ o6 (by omega) (by omega)) j
  have eg := congrFun (h.binary (V := V) _ o7 (by omega) (by omega)) j
  have eb := congrFun (h.binary (V := V) _ o8 (by omega) (by omega)) j
  unfold Words.mix
  refine Prod.ext ea (eb.trans ?_)
  show IntOp.xori _ _ = _
  rw [ea, eg]
  show IntOp.xori _ (IntOp.ori _ _) = _
  rw [ee, ef]
  show IntOp.xori (IntOp.addi _ _) (IntOp.ori (IntOp.shli .host _ _) (IntOp.shrui .host _ _)) = _
  rw [ed, ed', Words.shl_lit _ _ _ hr, Words.shr_lit _ _ _ hr']
  rfl

/-- An injection: seven operations from position `i` on; the key words are scalars spread over the shape. -/
theorem inject (h : Row ops W n) (i : ℕ) {S : Shape} (s : BitVec 32) (a b x y e d a' b' : TRef sig (WTy S))
    (k k' c : TRef sig (WTy S₀)) {hb : S₀.BroadcastsInDim S ![]}
    (hops : (ops.drop i).take 7 = [TRef.unary k x (broadcastInDim S ![] hb : IVec S₀ 32 → IVec S 32),
      TRef.binary a x a' (addi : IVec S 32 → IVec S 32 → IVec S 32),
      TRef.unary k' y (broadcastInDim S ![] hb : IVec S₀ 32 → IVec S 32),
      TRef.binary b y e (addi : IVec S 32 → IVec S 32 → IVec S 32),
      TRef.nullary c (constantI S₀ 32 s : IVec S₀ 32), TRef.unary c d (broadcastInDim S ![] hb : IVec S₀ 32 → IVec S 32),
      TRef.binary e d b' (addi : IVec S 32 → IVec S 32 → IVec S 32)])
    (ha : num a.ref < n + i) (hbn : num b.ref < n + i) (hk : num k.ref < n + i) (hk' : num k'.ref < n + i) (j : S.Idx) :
    (rd (after ops V) a' j, rd (after ops V) b' j)
      = Words.inject (rd (after ops V) k ix0) (rd (after ops V) k' ix0 + s) (rd (after ops V) a j, rd (after ops V) b j) := by
  have o := fun (q : ℕ) (op : HloOp τ sig (Elt Ideal)) hq hk => getElem?_of_take hops (q := q) (op := op) hq hk
  have o0 := o 0 _ rfl (by omega)
  have o1 := o 1 _ rfl (by omega)
  have o2 := o 2 _ rfl (by omega)
  have o3 := o 3 _ rfl (by omega)
  have o4 := o 4 _ rfl (by omega)
  have o5 := o 5 _ rfl (by omega)
  have o6 := o 6 _ rfl (by omega)
  have nx := h.num_at o0 (unary_writes ..)
  have ny := h.num_at o2 (unary_writes ..)
  have ne := h.num_at o3 (binary_writes ..)
  have nd := h.num_at o5 (unary_writes ..)
  have ex := congrFun (h.unary (V := V) _ o0 (by omega)) j
  have ea := congrFun (h.binary (V := V) _ o1 (by omega) (by omega)) j
  have ey := congrFun (h.unary (V := V) _ o2 (by omega)) j
  have ee := congrFun (h.binary (V := V) _ o3 (by omega) (by omega)) j
  have ed := h.splat (V := V) _ o4 o5 j
  have eb := congrFun (h.binary (V := V) _ o6 (by omega) (by omega)) j
  have hx : ∀ z : IVec S₀ 32, broadcastInDim S ![] hb z j = z ix0 := fun z => congrArg z (eq_ix0 _)
  unfold Words.inject
  refine Prod.ext (ea.trans ?_) (eb.trans ?_)
  · show IntOp.addi _ _ = _
    rw [ex, hx]
    rfl
  · show IntOp.addi _ _ = _
    rw [ee, ed]
    show IntOp.addi (IntOp.addi _ _) _ = _
    rw [ey, hx]
    exact BitVec.add_assoc _ _ _

/-- The key words added to the counters before the first round. -/
theorem enter (h : Row ops W n) (i : ℕ) {S : Shape} (x₀ x₁ d₀ d₁ a b : TRef sig (WTy S)) (k₀ k₁ : TRef sig (WTy S₀))
    {hb : S₀.BroadcastsInDim S ![]}
    (hops : (ops.drop i).take 4 = [TRef.unary k₀ d₀ (broadcastInDim S ![] hb : IVec S₀ 32 → IVec S 32),
      TRef.binary x₀ d₀ a (addi : IVec S 32 → IVec S 32 → IVec S 32),
      TRef.unary k₁ d₁ (broadcastInDim S ![] hb : IVec S₀ 32 → IVec S 32),
      TRef.binary x₁ d₁ b (addi : IVec S 32 → IVec S 32 → IVec S 32)])
    (hx₀ : num x₀.ref < n + i) (hx₁ : num x₁.ref < n + i) (hk₀ : num k₀.ref < n + i) (hk₁ : num k₁.ref < n + i) (j : S.Idx) :
    (rd (after ops V) a j, rd (after ops V) b j)
      = Words.inject (rd (after ops V) k₀ ix0) (rd (after ops V) k₁ ix0) (rd (after ops V) x₀ j, rd (after ops V) x₁ j) := by
  have o := fun (q : ℕ) (op : HloOp τ sig (Elt Ideal)) hq hk => getElem?_of_take hops (q := q) (op := op) hq hk
  have o0 := o 0 _ rfl (by omega)
  have o1 := o 1 _ rfl (by omega)
  have o2 := o 2 _ rfl (by omega)
  have o3 := o 3 _ rfl (by omega)
  have n0 := h.num_at o0 (unary_writes ..)
  have n1 := h.num_at o2 (unary_writes ..)
  have e0 := congrFun (h.unary (V := V) _ o0 (by omega)) j
  have ea := congrFun (h.binary (V := V) _ o1 (by omega) (by omega)) j
  have e1 := congrFun (h.unary (V := V) _ o2 (by omega)) j
  have eb := congrFun (h.binary (V := V) _ o3 (by omega) (by omega)) j
  have hx : ∀ z : IVec S₀ 32, broadcastInDim S ![] hb z j = z ix0 := fun z => congrArg z (eq_ix0 _)
  unfold Words.inject
  refine Prod.ext (ea.trans ?_) (eb.trans ?_)
  · show IntOp.addi _ _ = _
    rw [e0, hx]
    rfl
  · show IntOp.addi _ _ = _
    rw [e1, hx]
    rfl

end Row
end Cert.Own
end
-- ==== Proof.RefEqs.lean ====
/-
  The reference, one equation an operation: what each tensor holds at the end, from what its operands hold.
-/
module

public import proofs.«01_k».proof.Proof.Run
public import proofs.«01_k».proof.Proof.Steps

@[expose] public section
set_option maxRecDepth 100000
noncomputable section
namespace Cert.Own.Ref
open Idealize.ShloMosaic Idealize.ShloMosaic.StableHlo Idealize.ShloMosaic.Tactic Idealize.ShloMosaic.ValueIdx Idealize.SL Idealize.SL.Sem
open Cert.ReferenceIdeal Cert.ReferenceIdeal.Facts₀

/-- What a tensor holds at the end. -/
def out (V : Valuation τ sig (Elt Ideal)) {T : BufTy} (x : TRef sig T) : T.Contents (Elt Ideal) := Row.rd (after ops V) x

namespace t
abbrev arg0 : TRef sig ⟨S256x2048x20, .f32⟩ := .of main_arg0
abbrev arg1 : TRef sig ⟨S256x2048, .i1⟩ := .of main_arg1
abbrev arg2 : TRef sig ⟨S256, .f32⟩ := .of main_arg2
abbrev arg3 : TRef sig ⟨S256x2048, .i1⟩ := .of main_arg3
abbrev arg4 : TRef sig ⟨S256x2048x20, .f32⟩ := .of main_arg4
abbrev arg5 : TRef sig ⟨S256, .i1⟩ := .of main_arg5
abbrev c : TRef sig ⟨S_, .i32⟩ := .of main_c
abbrev c_0 : TRef sig ⟨S_, .i32⟩ := .of main_c_0
abbrev v0 : TRef sig ⟨S_, .i32⟩ := .of main_v0
abbrev v1 : TRef sig ⟨S_, .i32⟩ := .of main_v1
abbrev v2 : TRef sig ⟨S1, .i32⟩ := .of main_v2
abbrev c_1 : TRef sig ⟨S_, .i32⟩ := .of main_c_1
abbrev v3 : TRef sig ⟨S_, .i32⟩ := .of main_v3
abbrev v4 : TRef sig ⟨S_, .i32⟩ := .of main_v4
abbrev v5 : TRef sig ⟨S1, .i32⟩ := .of main_v5
abbrev v6 : TRef sig ⟨S2, .i32⟩ := .of main_v6
abbrev call0_v0 : TRef sig ⟨S1, .i32⟩ := .of main_call0_v0
abbrev call0_v1 : TRef sig ⟨S_, .i32⟩ := .of main_call0_v1
abbrev call0_v2 : TRef sig ⟨S1, .i32⟩ := .of main_call0_v2
abbrev call0_v3 : TRef sig ⟨S_, .i32⟩ := .of main_call0_v3
abbrev call0_v4 : TRef sig ⟨S2, .i64⟩ := .of main_call0_v4
abbrev call0_c : TRef sig ⟨S_, .i64⟩ := .of main_call0_c
abbrev call0_v5 : TRef sig ⟨S2, .i64⟩ := .of main_call0_v5
abbrev call0_v6 : TRef sig ⟨S2, .i64⟩ := .of main_call0_v6
abbrev call0_c_0 : TRef sig ⟨S_, .i64⟩ := .of main_call0_c_0
abbrev call0_v7 : TRef sig ⟨S2, .i64⟩ := .of main_call0_v7
abbrev call0_v8 : TRef sig ⟨S2, .i64⟩ := .of main_call0_v8
abbrev call0_v9 : TRef sig ⟨S2, .i32⟩ := .of main_call0_v9
abbrev call0_v10 : TRef sig ⟨S2, .i32⟩ := .of main_call0_v10
abbrev call0_v11_0 : TRef sig ⟨S2, .i32⟩ := .of main_call0_v11_0
abbrev call0_v11_1 : TRef sig ⟨S2, .i32⟩ := .of main_call0_v11_1
abbrev call0_v12 : TRef sig ⟨S2x1, .i32⟩ := .of main_call0_v12
abbrev call0_v13 : TRef sig ⟨S2x1, .i32⟩ := .of main_call0_v13
abbrev v7 : TRef sig ⟨S2x2, .i32⟩ := .of main_v7
abbrev v8 : TRef sig ⟨S1x2, .i32⟩ := .of main_v8
abbrev v9 : TRef sig ⟨S2, .i32⟩ := .of main_v9
abbrev v12 : TRef sig ⟨S256x2048x1, .i1⟩ := .of main_v12
abbrev v13 : TRef sig ⟨S256x1x1, .i1⟩ := .of main_v13
abbrev v14 : TRef sig ⟨S256x2048x1, .i1⟩ := .of main_v14
abbrev v15 : TRef sig ⟨S256x2048x1, .i1⟩ := .of main_v15
abbrev v16 : TRef sig ⟨S256x2048x1, .i1⟩ := .of main_v16
abbrev v17 : TRef sig ⟨S256x1x1, .i1⟩ := .of main_v17
abbrev v18 : TRef sig ⟨S256x2048x1, .i1⟩ := .of main_v18
abbrev v19 : TRef sig ⟨S256x2048x1, .i1⟩ := .of main_v19
abbrev v20 : TRef sig ⟨S256x2048x20, .i1⟩ := .of main_v20
abbrev v21 : TRef sig ⟨S256x2048x20, .i1⟩ := .of main_v21
abbrev v22 : TRef sig ⟨S10485760, .f32⟩ := .of main_v22
abbrev v23 : TRef sig ⟨S10485760, .i1⟩ := .of main_v23
abbrev v24 : TRef sig ⟨S10485760, .i1⟩ := .of main_v24
abbrev call1_v0 : TRef sig ⟨S10485760, .i32⟩ := .of main_call1_v0
abbrev v25 : TRef sig ⟨S10485760, .i32⟩ := .of main_v25
abbrev c_2 : TRef sig ⟨S_, .i32⟩ := .of main_c_2
abbrev v26 : TRef sig ⟨S10485760, .i32⟩ := .of main_v26
abbrev v27 : TRef sig ⟨S10485760, .i1⟩ := .of main_v27
abbrev c_3 : TRef sig ⟨S_, .i32⟩ := .of main_c_3
abbrev v28 : TRef sig ⟨S10485760, .i32⟩ := .of main_v28
abbrev v29 : TRef sig ⟨S10485760, .i32⟩ := .of main_v29
abbrev v30 : TRef sig ⟨S10485760, .i32⟩ := .of main_v30
abbrev v31 : TRef sig ⟨S10485760x1, .i32⟩ := .of main_v31
abbrev v32 : TRef sig ⟨S10485760, .f32⟩ := .of main_v32
abbrev v33 : TRef sig ⟨S10485760, .f32⟩ := .of main_v33
abbrev v34 : TRef sig ⟨S10485760, .i1⟩ := .of main_v34
abbrev v35 : TRef sig ⟨S10485760, .i32⟩ := .of main_v35
abbrev call2_call0_c : TRef sig ⟨S_, .i32⟩ := .of main_call2_call0_c
abbrev call2_call0_v0 : TRef sig ⟨S_, .i32⟩ := .of main_call2_call0_v0
abbrev v36 : TRef sig ⟨S10485760, .i32⟩ := .of main_v36
abbrev c_4 : TRef sig ⟨S_, .i32⟩ := .of main_c_4
abbrev v37 : TRef sig ⟨S10485760, .i32⟩ := .of main_v37
abbrev v38 : TRef sig ⟨S10485760, .i32⟩ := .of main_v38
abbrev c_5 : TRef sig ⟨S_, .i32⟩ := .of main_c_5
abbrev c_6 : TRef sig ⟨S_, .i32⟩ := .of main_c_6
abbrev call3_v0 : TRef sig ⟨S_, .i32⟩ := .of main_call3_v0
abbrev call3_v1 : TRef sig ⟨S10485760, .i32⟩ := .of main_call3_v1
abbrev call3_v2 : TRef sig ⟨S10485760, .i32⟩ := .of main_call3_v2
abbrev call3_v3 : TRef sig ⟨S_, .i32⟩ := .of main_call3_v3
abbrev call3_v4 : TRef sig ⟨S10485760, .i32⟩ := .of main_call3_v4
abbrev v39 : TRef sig ⟨S10485760, .i32⟩ := .of main_v39
abbrev c_7 : TRef sig ⟨S_, .i32⟩ := .of main_c_7
abbrev v40 : TRef sig ⟨S10485760, .i32⟩ := .of main_v40
abbrev v41 : TRef sig ⟨S10485760, .i1⟩ := .of main_v41
abbrev c_8 : TRef sig ⟨S_, .i32⟩ := .of main_c_8
abbrev v42 : TRef sig ⟨S10485760, .i32⟩ := .of main_v42
abbrev v43 : TRef sig ⟨S10485760, .i32⟩ := .of main_v43
abbrev v44 : TRef sig ⟨S10485760, .i32⟩ := .of main_v44
abbrev v45 : TRef sig ⟨S10485760x1, .i32⟩ := .of main_v45
abbrev v46 : TRef sig ⟨S10485760, .f32⟩ := .of main_v46
abbrev v47 : TRef sig ⟨S10485760, .f32⟩ := .of main_v47
abbrev v48 : TRef sig ⟨S256x2048x20, .f32⟩ := .of main_v48
abbrev cst : TRef sig ⟨S_, .f32⟩ := .of main_cst
abbrev cst_9 : TRef sig ⟨S_, .f32⟩ := .of main_cst_9
abbrev call5_v0 : TRef sig ⟨S1x1x1, .f32⟩ := .of main_call5_v0
abbrev call5_v1 : TRef sig ⟨S1x1x1, .f32⟩ := .of main_call5_v1
abbrev call5_v2 : TRef sig ⟨S1, .i32⟩ := .of main_call5_v2
abbrev call5_v3 : TRef sig ⟨S_, .i32⟩ := .of main_call5_v3
abbrev call5_v4 : TRef sig ⟨S1, .i32⟩ := .of main_call5_v4
abbrev call5_v5 : TRef sig ⟨S_, .i32⟩ := .of main_call5_v5
abbrev call5_v6 : TRef sig ⟨S256x2048x20, .i64⟩ := .of main_call5_v6
abbrev call5_v7 : TRef sig ⟨S256x2048x20, .i64⟩ := .of main_call5_v7
abbrev call5_v8 : TRef sig ⟨S256x2048x20, .i64⟩ := .of main_call5_v8
abbrev call5_c : TRef sig ⟨S_, .i64⟩ := .of main_call5_c
abbrev call5_v9 : TRef sig ⟨S256x2048x20, .i64⟩ := .of main_call5_v9
abbrev call5_v10 : TRef sig ⟨S256x2048x20, .i64⟩ := .of main_call5_v10
abbrev call5_c_0 : TRef sig ⟨S_, .i64⟩ := .of main_call5_c_0
abbrev call5_v11 : TRef sig ⟨S256x2048x20, .i64⟩ := .of main_call5_v11
abbrev call5_v12 : TRef sig ⟨S256x2048x20, .i64⟩ := .of main_call5_v12
abbrev call5_c_1 : TRef sig ⟨S_, .i64⟩ := .of main_call5_c_1
abbrev call5_v13 : TRef sig ⟨S256x2048x20, .i64⟩ := .of main_call5_v13
abbrev call5_v14 : TRef sig ⟨S256x2048x20, .i64⟩ := .of main_call5_v14
abbrev call5_v15 : TRef sig ⟨S256x2048x20, .i64⟩ := .of main_call5_v15
abbrev call5_v16 : TRef sig ⟨S256x2048x20, .i64⟩ := .of main_call5_v16
abbrev call5_c_2 : TRef sig ⟨S_, .i64⟩ := .of main_call5_c_2
abbrev call5_v17 : TRef sig ⟨S256x2048x20, .i64⟩ := .of main_call5_v17
abbrev call5_v18 : TRef sig ⟨S256x2048x20, .i64⟩ := .of main_call5_v18
abbrev call5_v19 : TRef sig ⟨S256x2048x20, .i32⟩ := .of main_call5_v19
abbrev call5_v20 : TRef sig ⟨S256x2048x20, .i32⟩ := .of main_call5_v20
abbrev call5_v21_0 : TRef sig ⟨S256x2048x20, .i32⟩ := .of main_call5_v21_0
abbrev call5_v21_1 : TRef sig ⟨S256x2048x20, .i32⟩ := .of main_call5_v21_1
abbrev call5_v22 : TRef sig ⟨S256x2048x20, .i32⟩ := .of main_call5_v22
abbrev call5_c_3 : TRef sig ⟨S_, .i32⟩ := .of main_call5_c_3
abbrev call5_v23 : TRef sig ⟨S256x2048x20, .i32⟩ := .of main_call5_v23
abbrev call5_v24 : TRef sig ⟨S256x2048x20, .i32⟩ := .of main_call5_v24
abbrev call5_c_4 : TRef sig ⟨S_, .i32⟩ := .of main_call5_c_4
abbrev call5_v25 : TRef sig ⟨S256x2048x20, .i32⟩ := .of main_call5_v25
abbrev call5_v26 : TRef sig ⟨S256x2048x20, .i32⟩ := .of main_call5_v26
abbrev call5_v27 : TRef sig ⟨S256x2048x20, .f32⟩ := .of main_call5_v27
abbrev call5_cst : TRef sig ⟨S_, .f32⟩ := .of main_call5_cst
abbrev call5_v28 : TRef sig ⟨S256x2048x20, .f32⟩ := .of main_call5_v28
abbrev call5_v29 : TRef sig ⟨S256x2048x20, .f32⟩ := .of main_call5_v29
abbrev call5_v30 : TRef sig ⟨S1x1x1, .f32⟩ := .of main_call5_v30
abbrev call5_v31 : TRef sig ⟨S256x2048x20, .f32⟩ := .of main_call5_v31
abbrev call5_v32 : TRef sig ⟨S256x2048x20, .f32⟩ := .of main_call5_v32
abbrev call5_v33 : TRef sig ⟨S256x2048x20, .f32⟩ := .of main_call5_v33
abbrev call5_v34 : TRef sig ⟨S256x2048x20, .f32⟩ := .of main_call5_v34
abbrev call5_v35 : TRef sig ⟨S256x2048x20, .f32⟩ := .of main_call5_v35
abbrev v49 : TRef sig ⟨S256x2048x20, .f32⟩ := .of main_v49
abbrev v50 : TRef sig ⟨S256x2048x20, .f32⟩ := .of main_v50
abbrev v51 : TRef sig ⟨S256x2048x20, .f32⟩ := .of main_v51
abbrev v52 : TRef sig ⟨S256x2048x20, .f32⟩ := .of main_v52
abbrev v53 : TRef sig ⟨S256x2048x20, .f32⟩ := .of main_v53
abbrev cst_10 : TRef sig ⟨S_, .f32⟩ := .of main_cst_10
abbrev v54 : TRef sig ⟨S256x2048x20, .f32⟩ := .of main_v54
abbrev v55 : TRef sig ⟨S256x2048x20, .i1⟩ := .of main_v55
abbrev cst_11 : TRef sig ⟨S_, .f32⟩ := .of main_cst_11
abbrev v56 : TRef sig ⟨S256x2048x20, .f32⟩ := .of main_v56
abbrev v57 : TRef sig ⟨S256x2048x20, .f32⟩ := .of main_v57
abbrev cst_12 : TRef sig ⟨S_, .f32⟩ := .of main_cst_12
abbrev v58 : TRef sig ⟨S256x2048x20, .f32⟩ := .of main_v58
abbrev v59 : TRef sig ⟨S256x2048x20, .f32⟩ := .of main_v59
abbrev cst_13 : TRef sig ⟨S_, .f32⟩ := .of main_cst_13
abbrev v60 : TRef sig ⟨S256x2048x20, .f32⟩ := .of main_v60
abbrev v61 : TRef sig ⟨S256x2048x20, .f32⟩ := .of main_v61
abbrev v62 : TRef sig ⟨S256x2048x20, .f32⟩ := .of main_v62
abbrev cst_14 : TRef sig ⟨S_, .f32⟩ := .of main_cst_14
abbrev v63 : TRef sig ⟨S256x2048x20, .f32⟩ := .of main_v63
abbrev v64 : TRef sig ⟨S256x2048x20, .f32⟩ := .of main_v64
abbrev v65 : TRef sig ⟨S256x2048x20, .f32⟩ := .of main_v65
abbrev cst_15 : TRef sig ⟨S_, .f32⟩ := .of main_cst_15
abbrev v66 : TRef sig ⟨S256x2048x20, .f32⟩ := .of main_v66
abbrev v67 : TRef sig ⟨S256x2048x20, .f32⟩ := .of main_v67
abbrev v68 : TRef sig ⟨S256x2048x20, .f32⟩ := .of main_v68
abbrev cst_16 : TRef sig ⟨S_, .f32⟩ := .of main_cst_16
abbrev v69 : TRef sig ⟨S256x2048x20, .f32⟩ := .of main_v69
abbrev v70 : TRef sig ⟨S256x2048x20, .f32⟩ := .of main_v70
abbrev v71 : TRef sig ⟨S256x2048x20, .f32⟩ := .of main_v71
abbrev cst_17 : TRef sig ⟨S_, .f32⟩ := .of main_cst_17
abbrev v72 : TRef sig ⟨S256x2048x20, .f32⟩ := .of main_v72
abbrev v73 : TRef sig ⟨S256x2048x20, .f32⟩ := .of main_v73
abbrev cst_18 : TRef sig ⟨S_, .f32⟩ := .of main_cst_18
abbrev v74 : TRef sig ⟨S256x2048x20, .f32⟩ := .of main_v74
abbrev v75 : TRef sig ⟨S256x2048x20, .f32⟩ := .of main_v75
abbrev cst_19 : TRef sig ⟨S_, .f32⟩ := .of main_cst_19
abbrev v76 : TRef sig ⟨S256x2048x20, .f32⟩ := .of main_v76
abbrev v77 : TRef sig ⟨S256x2048x20, .f32⟩ := .of main_v77
abbrev v78 : TRef sig ⟨S256x2048x20, .f32⟩ := .of main_v78
abbrev cst_20 : TRef sig ⟨S_, .f32⟩ := .of main_cst_20
abbrev v79 : TRef sig ⟨S256x2048x20, .f32⟩ := .of main_v79
abbrev v80 : TRef sig ⟨S256x2048x20, .f32⟩ := .of main_v80
abbrev v81 : TRef sig ⟨S256x2048x20, .f32⟩ := .of main_v81
abbrev cst_21 : TRef sig ⟨S_, .f32⟩ := .of main_cst_21
abbrev v82 : TRef sig ⟨S256x2048x20, .f32⟩ := .of main_v82
abbrev v83 : TRef sig ⟨S256x2048x20, .f32⟩ := .of main_v83
abbrev v84 : TRef sig ⟨S256x2048x20, .f32⟩ := .of main_v84
abbrev cst_22 : TRef sig ⟨S_, .f32⟩ := .of main_cst_22
abbrev v85 : TRef sig ⟨S256x2048x20, .f32⟩ := .of main_v85
abbrev v86 : TRef sig ⟨S256x2048x20, .f32⟩ := .of main_v86
abbrev v87 : TRef sig ⟨S256x2048x20, .f32⟩ := .of main_v87
abbrev v88 : TRef sig ⟨S256x2048x20, .f32⟩ := .of main_v88
abbrev cst_23 : TRef sig ⟨S_, .f32⟩ := .of main_cst_23
abbrev v89 : TRef sig ⟨S256x2048x20, .f32⟩ := .of main_v89
abbrev v90 : TRef sig ⟨S256x2048x20, .f32⟩ := .of main_v90
abbrev v91 : TRef sig ⟨S256x2048x20, .f32⟩ := .of main_v91
abbrev v92 : TRef sig ⟨S256x2048x1, .i1⟩ := .of main_v92
abbrev call7_v0 : TRef sig ⟨S256x2048x20, .i1⟩ := .of main_call7_v0
abbrev v93 : TRef sig ⟨S256x2048x20, .f32⟩ := .of main_v93
abbrev v137 : TRef sig ⟨S256x2048x20, .f32⟩ := .of main_v137
abbrev v138 : TRef sig ⟨S256x1x1, .i1⟩ := .of main_v138
abbrev call11_v0 : TRef sig ⟨S256x2048x20, .i1⟩ := .of main_call11_v0
abbrev v139 : TRef sig ⟨S256x2048x20, .f32⟩ := .of main_v139
abbrev v140 : TRef sig ⟨S256x1x1, .f32⟩ := .of main_v140
abbrev v141 : TRef sig ⟨S256x2048x20, .f32⟩ := .of main_v141
abbrev v142 : TRef sig ⟨S256x2048x20, .f32⟩ := .of main_v142
abbrev v143 : TRef sig ⟨S256x1x1, .f32⟩ := .of main_v143
abbrev cst_40 : TRef sig ⟨S_, .f32⟩ := .of main_cst_40
abbrev v144 : TRef sig ⟨S256x1x1, .f32⟩ := .of main_v144
abbrev v145 : TRef sig ⟨S256x1x1, .f32⟩ := .of main_v145
abbrev v146 : TRef sig ⟨S256x2048x20, .f32⟩ := .of main_v146
abbrev v147 : TRef sig ⟨S256x2048x20, .f32⟩ := .of main_v147
abbrev v148 : TRef sig ⟨S256x2048x20, .f32⟩ := .of main_v148
end t

namespace e
variable (V : Valuation τ sig (Elt Ideal))
theorem c : out V t.c = (constantI S_ 32 42#32) :=
  row.nullary (V := V) 0 (y := t.c) (v := (constantI S_ 32 42#32)) (by sl_kernel_rfl)
theorem c_0 : out V t.c_0 = (constantI S_ 32 32#32) :=
  row.nullary (V := V) 1 (y := t.c_0) (v := (constantI S_ 32 32#32)) (by sl_kernel_rfl)
theorem v0 : out V t.v0 = (Host.shrui : (⟨S_, .i32⟩ : BufTy).Contents (Elt Ideal) → (⟨S_, .i32⟩ : BufTy).Contents (Elt Ideal) → (⟨S_, .i32⟩ : BufTy).Contents (Elt Ideal)) (out V t.c) (out V t.c_0) :=
  row.binary (V := V) 2 (a := t.c) (b := t.c_0) (y := t.v0) (f := (Host.shrui : (⟨S_, .i32⟩ : BufTy).Contents (Elt Ideal) → (⟨S_, .i32⟩ : BufTy).Contents (Elt Ideal) → (⟨S_, .i32⟩ : BufTy).Contents (Elt Ideal))) (by sl_kernel_rfl) (by decide) (by decide)
theorem v1 : out V t.v1 = (out V t.v0) :=
  row.unary (V := V) 3 (x := t.v0) (y := t.v1) (f := (id : (⟨S_, .i32⟩ : BufTy).Contents (Elt Ideal) → (⟨S_, .i32⟩ : BufTy).Contents (Elt Ideal))) (by sl_kernel_rfl) (by decide)
theorem v2 : out V t.v2 = (broadcastInDim S1 ![] bcast_S_S1 : (⟨S_, .i32⟩ : BufTy).Contents (Elt Ideal) → (⟨S1, .i32⟩ : BufTy).Contents (Elt Ideal)) (out V t.v1) :=
  row.unary (V := V) 4 (x := t.v1) (y := t.v2) (f := (broadcastInDim S1 ![] bcast_S_S1 : (⟨S_, .i32⟩ : BufTy).Contents (Elt Ideal) → (⟨S1, .i32⟩ : BufTy).Contents (Elt Ideal))) (by sl_kernel_rfl) (by decide)
theorem c_1 : out V t.c_1 = (constantI S_ 32 4294967295#32) :=
  row.nullary (V := V) 5 (y := t.c_1) (v := (constantI S_ 32 4294967295#32)) (by sl_kernel_rfl)
theorem v3 : out V t.v3 = (andi : (⟨S_, .i32⟩ : BufTy).Contents (Elt Ideal) → (⟨S_, .i32⟩ : BufTy).Contents (Elt Ideal) → (⟨S_, .i32⟩ : BufTy).Contents (Elt Ideal)) (out V t.c) (out V t.c_1) :=
  row.binary (V := V) 6 (a := t.c) (b := t.c_1) (y := t.v3) (f := (andi : (⟨S_, .i32⟩ : BufTy).Contents (Elt Ideal) → (⟨S_, .i32⟩ : BufTy).Contents (Elt Ideal) → (⟨S_, .i32⟩ : BufTy).Contents (Elt Ideal))) (by sl_kernel_rfl) (by decide) (by decide)
theorem v4 : out V t.v4 = (out V t.v3) :=
  row.unary (V := V) 7 (x := t.v3) (y := t.v4) (f := (id : (⟨S_, .i32⟩ : BufTy).Contents (Elt Ideal) → (⟨S_, .i32⟩ : BufTy).Contents (Elt Ideal))) (by sl_kernel_rfl) (by decide)
theorem v5 : out V t.v5 = (broadcastInDim S1 ![] bcast_S_S1 : (⟨S_, .i32⟩ : BufTy).Contents (Elt Ideal) → (⟨S1, .i32⟩ : BufTy).Contents (Elt Ideal)) (out V t.v4) :=
  row.unary (V := V) 8 (x := t.v4) (y := t.v5) (f := (broadcastInDim S1 ![] bcast_S_S1 : (⟨S_, .i32⟩ : BufTy).Contents (Elt Ideal) → (⟨S1, .i32⟩ : BufTy).Contents (Elt Ideal))) (by sl_kernel_rfl) (by decide)
theorem v6 : out V t.v6 = concatenate S2 0 [⟨S1, (out V t.v2)⟩, ⟨S1, (out V t.v5)⟩] concatenates_S1_S1_S2_d0 :=
  row.binary (V := V) 9 (a := t.v2) (b := t.v5) (y := t.v6) (f := ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal))) (by sl_kernel_rfl) (by decide) (by decide)
theorem call0_v0 : out V t.call0_v0 = extractStridedSlice (s := S2) S1 (![0] : Fin 1 → Nat) (out V t.v6) slices_S2_S1_0 :=
  row.unary (V := V) 10 (x := t.v6) (y := t.call0_v0) (f := (fun (x : (⟨S2, .i32⟩ : BufTy).Contents (Elt Ideal)) => extractStridedSlice (s := S2) S1 (![0] : Fin 1 → Nat) x slices_S2_S1_0)) (by sl_kernel_rfl) (by decide)
theorem call0_v1 : out V t.call0_v1 = shapeCast S_ (out V t.call0_v0) shapeCasts_S1_S_ :=
  row.reshape (V := V) 11 (x := t.call0_v0) (y := t.call0_v1) (hn := shapeCasts_S1_S_) (by sl_kernel_rfl) (by decide)
theorem call0_v2 : out V t.call0_v2 = extractStridedSlice (s := S2) S1 (![1] : Fin 1 → Nat) (out V t.v6) slices_S2_S1_1 :=
  row.unary (V := V) 12 (x := t.v6) (y := t.call0_v2) (f := (fun (x : (⟨S2, .i32⟩ : BufTy).Contents (Elt Ideal)) => extractStridedSlice (s := S2) S1 (![1] : Fin 1 → Nat) x slices_S2_S1_1)) (by sl_kernel_rfl) (by decide)
theorem call0_v3 : out V t.call0_v3 = shapeCast S_ (out V t.call0_v2) shapeCasts_S1_S_ :=
  row.reshape (V := V) 13 (x := t.call0_v2) (y := t.call0_v3) (hn := shapeCasts_S1_S_) (by sl_kernel_rfl) (by decide)
theorem call0_v4 : out V t.call0_v4 = (iotaInDim S2 64 0) :=
  row.nullary (V := V) 14 (y := t.call0_v4) (v := (iotaInDim S2 64 0)) (by sl_kernel_rfl)
theorem call0_c : out V t.call0_c = (constantI S_ 64 1#64) :=
  row.nullary (V := V) 15 (y := t.call0_c) (v := (constantI S_ 64 1#64)) (by sl_kernel_rfl)
theorem call0_v5 : out V t.call0_v5 = ((broadcastInDim S2 ![] bcast_S_S2) : (⟨S_, .i64⟩ : BufTy).Contents (Elt Ideal) → (⟨S2, .i64⟩ : BufTy).Contents (Elt Ideal)) (out V t.call0_c) :=
  row.unary (V := V) 16 (x := t.call0_c) (y := t.call0_v5) (f := ((broadcastInDim S2 ![] bcast_S_S2) : (⟨S_, .i64⟩ : BufTy).Contents (Elt Ideal) → (⟨S2, .i64⟩ : BufTy).Contents (Elt Ideal))) (by sl_kernel_rfl) (by decide)
theorem call0_v6 : out V t.call0_v6 = (muli : (⟨S2, .i64⟩ : BufTy).Contents (Elt Ideal) → (⟨S2, .i64⟩ : BufTy).Contents (Elt Ideal) → (⟨S2, .i64⟩ : BufTy).Contents (Elt Ideal)) (out V t.call0_v5) (out V t.call0_v4) :=
  row.binary (V := V) 17 (a := t.call0_v5) (b := t.call0_v4) (y := t.call0_v6) (f := (muli : (⟨S2, .i64⟩ : BufTy).Contents (Elt Ideal) → (⟨S2, .i64⟩ : BufTy).Contents (Elt Ideal) → (⟨S2, .i64⟩ : BufTy).Contents (Elt Ideal))) (by sl_kernel_rfl) (by decide) (by decide)
theorem call0_c_0 : out V t.call0_c_0 = (constantI S_ 64 32#64) :=
  row.nullary (V := V) 18 (y := t.call0_c_0) (v := (constantI S_ 64 32#64)) (by sl_kernel_rfl)
theorem call0_v7 : out V t.call0_v7 = ((broadcastInDim S2 ![] bcast_S_S2) : (⟨S_, .i64⟩ : BufTy).Contents (Elt Ideal) → (⟨S2, .i64⟩ : BufTy).Contents (Elt Ideal)) (out V t.call0_c_0) :=
  row.unary (V := V) 19 (x := t.call0_c_0) (y := t.call0_v7) (f := ((broadcastInDim S2 ![] bcast_S_S2) : (⟨S_, .i64⟩ : BufTy).Contents (Elt Ideal) → (⟨S2, .i64⟩ : BufTy).Contents (Elt Ideal))) (by sl_kernel_rfl) (by decide)
theorem call0_v8 : out V t.call0_v8 = (Host.shrui : (⟨S2, .i64⟩ : BufTy).Contents (Elt Ideal) → (⟨S2, .i64⟩ : BufTy).Contents (Elt Ideal) → (⟨S2, .i64⟩ : BufTy).Contents (Elt Ideal)) (out V t.call0_v6) (out V t.call0_v7) :=
  row.binary (V := V) 20 (a := t.call0_v6) (b := t.call0_v7) (y := t.call0_v8) (f := (Host.shrui : (⟨S2, .i64⟩ : BufTy).Contents (Elt Ideal) → (⟨S2, .i64⟩ : BufTy).Contents (Elt Ideal) → (⟨S2, .i64⟩ : BufTy).Contents (Elt Ideal))) (by sl_kernel_rfl) (by decide) (by decide)
theorem call0_v9 : out V t.call0_v9 = trunci 32 (out V t.call0_v6) natLt_32_64 :=
  row.unary (V := V) 21 (x := t.call0_v6) (y := t.call0_v9) (f := ((fun (x : (⟨S2, .i64⟩ : BufTy).Contents (Elt Ideal)) => trunci 32 x natLt_32_64) : (⟨S2, .i64⟩ : BufTy).Contents (Elt Ideal) → (⟨S2, .i32⟩ : BufTy).Contents (Elt Ideal))) (by sl_kernel_rfl) (by decide)
theorem call0_v10 : out V t.call0_v10 = trunci 32 (out V t.call0_v8) natLt_32_64 :=
  row.unary (V := V) 22 (x := t.call0_v8) (y := t.call0_v10) (f := ((fun (x : (⟨S2, .i64⟩ : BufTy).Contents (Elt Ideal)) => trunci 32 x natLt_32_64) : (⟨S2, .i64⟩ : BufTy).Contents (Elt Ideal) → (⟨S2, .i32⟩ : BufTy).Contents (Elt Ideal))) (by sl_kernel_rfl) (by decide)
theorem call0_v12 : out V t.call0_v12 = ((broadcastInDim S2x1 ![0] bcast_S2_S2x1_0) : (⟨S2, .i32⟩ : BufTy).Contents (Elt Ideal) → (⟨S2x1, .i32⟩ : BufTy).Contents (Elt Ideal)) (out V t.call0_v11_0) :=
  row.unary (V := V) 245 (x := t.call0_v11_0) (y := t.call0_v12) (f := ((broadcastInDim S2x1 ![0] bcast_S2_S2x1_0) : (⟨S2, .i32⟩ : BufTy).Contents (Elt Ideal) → (⟨S2x1, .i32⟩ : BufTy).Contents (Elt Ideal))) (by sl_kernel_rfl) (by decide)
theorem call0_v13 : out V t.call0_v13 = ((broadcastInDim S2x1 ![0] bcast_S2_S2x1_0) : (⟨S2, .i32⟩ : BufTy).Contents (Elt Ideal) → (⟨S2x1, .i32⟩ : BufTy).Contents (Elt Ideal)) (out V t.call0_v11_1) :=
  row.unary (V := V) 246 (x := t.call0_v11_1) (y := t.call0_v13) (f := ((broadcastInDim S2x1 ![0] bcast_S2_S2x1_0) : (⟨S2, .i32⟩ : BufTy).Contents (Elt Ideal) → (⟨S2x1, .i32⟩ : BufTy).Contents (Elt Ideal))) (by sl_kernel_rfl) (by decide)
theorem v7 : out V t.v7 = concatenate S2x2 1 [⟨S2x1, (out V t.call0_v12)⟩, ⟨S2x1, (out V t.call0_v13)⟩] concatenates_S2x1_S2x1_S2x2_d1 :=
  row.binary (V := V) 247 (a := t.call0_v12) (b := t.call0_v13) (y := t.v7) (f := ((fun a b => concatenate S2x2 1 [⟨S2x1, a⟩, ⟨S2x1, b⟩] concatenates_S2x1_S2x1_S2x2_d1) : (⟨S2x1, .i32⟩ : BufTy).Contents (Elt Ideal) → (⟨S2x1, .i32⟩ : BufTy).Contents (Elt Ideal) → (⟨S2x2, .i32⟩ : BufTy).Contents (Elt Ideal))) (by sl_kernel_rfl) (by decide) (by decide)
theorem v8 : out V t.v8 = extractStridedSlice (s := S2x2) S1x2 (![0, 0] : Fin 2 → Nat) (out V t.v7) slices_S2x2_S1x2_0_0 :=
  row.unary (V := V) 248 (x := t.v7) (y := t.v8) (f := (fun (x : (⟨S2x2, .i32⟩ : BufTy).Contents (Elt Ideal)) => extractStridedSlice (s := S2x2) S1x2 (![0, 0] : Fin 2 → Nat) x slices_S2x2_S1x2_0_0)) (by sl_kernel_rfl) (by decide)
theorem v9 : out V t.v9 = shapeCast S2 (out V t.v8) shapeCasts_S1x2_S2 :=
  row.reshape (V := V) 249 (x := t.v8) (y := t.v9) (hn := shapeCasts_S1x2_S2) (by sl_kernel_rfl) (by decide)
theorem v12 : out V t.v12 = (broadcastInDim S256x2048x1 ![0, 1] bcast_S256x2048_S256x2048x1_0_1 : (⟨S256x2048, .i1⟩ : BufTy).Contents (Elt Ideal) → (⟨S256x2048x1, .i1⟩ : BufTy).Contents (Elt Ideal)) (out V t.arg3) :=
  row.unary (V := V) 252 (x := t.arg3) (y := t.v12) (f := (broadcastInDim S256x2048x1 ![0, 1] bcast_S256x2048_S256x2048x1_0_1 : (⟨S256x2048, .i1⟩ : BufTy).Contents (Elt Ideal) → (⟨S256x2048x1, .i1⟩ : BufTy).Contents (Elt Ideal))) (by sl_kernel_rfl) (by decide)
theorem v13 : out V t.v13 = (broadcastInDim S256x1x1 ![0] bcast_S256_S256x1x1_0 : (⟨S256, .i1⟩ : BufTy).Contents (Elt Ideal) → (⟨S256x1x1, .i1⟩ : BufTy).Contents (Elt Ideal)) (out V t.arg5) :=
  row.unary (V := V) 253 (x := t.arg5) (y := t.v13) (f := (broadcastInDim S256x1x1 ![0] bcast_S256_S256x1x1_0 : (⟨S256, .i1⟩ : BufTy).Contents (Elt Ideal) → (⟨S256x1x1, .i1⟩ : BufTy).Contents (Elt Ideal))) (by sl_kernel_rfl) (by decide)
theorem v14 : out V t.v14 = (broadcastInDim S256x2048x1 ![0, 1, 2] bcast_S256x1x1_S256x2048x1_0_1_2 : (⟨S256x1x1, .i1⟩ : BufTy).Contents (Elt Ideal) → (⟨S256x2048x1, .i1⟩ : BufTy).Contents (Elt Ideal)) (out V t.v13) :=
  row.unary (V := V) 254 (x := t.v13) (y := t.v14) (f := (broadcastInDim S256x2048x1 ![0, 1, 2] bcast_S256x1x1_S256x2048x1_0_1_2 : (⟨S256x1x1, .i1⟩ : BufTy).Contents (Elt Ideal) → (⟨S256x2048x1, .i1⟩ : BufTy).Contents (Elt Ideal))) (by sl_kernel_rfl) (by decide)
theorem v15 : out V t.v15 = (andi : (⟨S256x2048x1, .i1⟩ : BufTy).Contents (Elt Ideal) → (⟨S256x2048x1, .i1⟩ : BufTy).Contents (Elt Ideal) → (⟨S256x2048x1, .i1⟩ : BufTy).Contents (Elt Ideal)) (out V t.v12) (out V t.v14) :=
  row.binary (V := V) 255 (a := t.v12) (b := t.v14) (y := t.v15) (f := (andi : (⟨S256x2048x1, .i1⟩ : BufTy).Contents (Elt Ideal) → (⟨S256x2048x1, .i1⟩ : BufTy).Contents (Elt Ideal) → (⟨S256x2048x1, .i1⟩ : BufTy).Contents (Elt Ideal))) (by sl_kernel_rfl) (by decide) (by decide)
theorem v16 : out V t.v16 = (broadcastInDim S256x2048x1 ![0, 1] bcast_S256x2048_S256x2048x1_0_1 : (⟨S256x2048, .i1⟩ : BufTy).Contents (Elt Ideal) → (⟨S256x2048x1, .i1⟩ : BufTy).Contents (Elt Ideal)) (out V t.arg1) :=
  row.unary (V := V) 256 (x := t.arg1) (y := t.v16) (f := (broadcastInDim S256x2048x1 ![0, 1] bcast_S256x2048_S256x2048x1_0_1 : (⟨S256x2048, .i1⟩ : BufTy).Contents (Elt Ideal) → (⟨S256x2048x1, .i1⟩ : BufTy).Contents (Elt Ideal))) (by sl_kernel_rfl) (by decide)
theorem v17 : out V t.v17 = (broadcastInDim S256x1x1 ![0] bcast_S256_S256x1x1_0 : (⟨S256, .i1⟩ : BufTy).Contents (Elt Ideal) → (⟨S256x1x1, .i1⟩ : BufTy).Contents (Elt Ideal)) (out V t.arg5) :=
  row.unary (V := V) 257 (x := t.arg5) (y := t.v17) (f := (broadcastInDim S256x1x1 ![0] bcast_S256_S256x1x1_0 : (⟨S256, .i1⟩ : BufTy).Contents (Elt Ideal) → (⟨S256x1x1, .i1⟩ : BufTy).Contents (Elt Ideal))) (by sl_kernel_rfl) (by decide)
theorem v18 : out V t.v18 = (broadcastInDim S256x2048x1 ![0, 1, 2] bcast_S256x1x1_S256x2048x1_0_1_2 : (⟨S256x1x1, .i1⟩ : BufTy).Contents (Elt Ideal) → (⟨S256x2048x1, .i1⟩ : BufTy).Contents (Elt Ideal)) (out V t.v17) :=
  row.unary (V := V) 258 (x := t.v17) (y := t.v18) (f := (broadcastInDim S256x2048x1 ![0, 1, 2] bcast_S256x1x1_S256x2048x1_0_1_2 : (⟨S256x1x1, .i1⟩ : BufTy).Contents (Elt Ideal) → (⟨S256x2048x1, .i1⟩ : BufTy).Contents (Elt Ideal))) (by sl_kernel_rfl) (by decide)
theorem v19 : out V t.v19 = (andi : (⟨S256x2048x1, .i1⟩ : BufTy).Contents (Elt Ideal) → (⟨S256x2048x1, .i1⟩ : BufTy).Contents (Elt Ideal) → (⟨S256x2048x1, .i1⟩ : BufTy).Contents (Elt Ideal)) (out V t.v16) (out V t.v18) :=
  row.binary (V := V) 259 (a := t.v16) (b := t.v18) (y := t.v19) (f := (andi : (⟨S256x2048x1, .i1⟩ : BufTy).Contents (Elt Ideal) → (⟨S256x2048x1, .i1⟩ : BufTy).Contents (Elt Ideal) → (⟨S256x2048x1, .i1⟩ : BufTy).Contents (Elt Ideal))) (by sl_kernel_rfl) (by decide) (by decide)
theorem v20 : out V t.v20 = (broadcastInDim S256x2048x20 ![0, 1, 2] bcast_S256x2048x1_S256x2048x20_0_1_2 : (⟨S256x2048x1, .i1⟩ : BufTy).Contents (Elt Ideal) → (⟨S256x2048x20, .i1⟩ : BufTy).Contents (Elt Ideal)) (out V t.v15) :=
  row.unary (V := V) 260 (x := t.v15) (y := t.v20) (f := (broadcastInDim S256x2048x20 ![0, 1, 2] bcast_S256x2048x1_S256x2048x20_0_1_2 : (⟨S256x2048x1, .i1⟩ : BufTy).Contents (Elt Ideal) → (⟨S256x2048x20, .i1⟩ : BufTy).Contents (Elt Ideal))) (by sl_kernel_rfl) (by decide)
theorem v21 : out V t.v21 = (broadcastInDim S256x2048x20 ![0, 1, 2] bcast_S256x2048x1_S256x2048x20_0_1_2 : (⟨S256x2048x1, .i1⟩ : BufTy).Contents (Elt Ideal) → (⟨S256x2048x20, .i1⟩ : BufTy).Contents (Elt Ideal)) (out V t.v19) :=
  row.unary (V := V) 261 (x := t.v19) (y := t.v21) (f := (broadcastInDim S256x2048x20 ![0, 1, 2] bcast_S256x2048x1_S256x2048x20_0_1_2 : (⟨S256x2048x1, .i1⟩ : BufTy).Contents (Elt Ideal) → (⟨S256x2048x20, .i1⟩ : BufTy).Contents (Elt Ideal))) (by sl_kernel_rfl) (by decide)
theorem v22 : out V t.v22 = shapeCast S10485760 (out V t.arg4) shapeCasts_S256x2048x20_S10485760 :=
  row.reshape (V := V) 262 (x := t.arg4) (y := t.v22) (hn := shapeCasts_S256x2048x20_S10485760) (by sl_kernel_rfl) (by decide)
theorem v23 : out V t.v23 = shapeCast S10485760 (out V t.v20) shapeCasts_S256x2048x20_S10485760 :=
  row.reshape (V := V) 263 (x := t.v20) (y := t.v23) (hn := shapeCasts_S256x2048x20_S10485760) (by sl_kernel_rfl) (by decide)
theorem v24 : out V t.v24 = (noti : (⟨S10485760, .i1⟩ : BufTy).Contents (Elt Ideal) → (⟨S10485760, .i1⟩ : BufTy).Contents (Elt Ideal)) (out V t.v23) :=
  row.unary (V := V) 264 (x := t.v23) (y := t.v24) (f := (noti : (⟨S10485760, .i1⟩ : BufTy).Contents (Elt Ideal) → (⟨S10485760, .i1⟩ : BufTy).Contents (Elt Ideal))) (by sl_kernel_rfl) (by decide)
theorem call1_v0 : out V t.call1_v0 = (iotaInDim S10485760 32 0) :=
  row.nullary (V := V) 265 (y := t.call1_v0) (v := (iotaInDim S10485760 32 0)) (by sl_kernel_rfl)
theorem v25 : out V t.v25 = (Host.sort2 S10485760 0 comparator_i1_i32_d0 (out V t.v24) (out V t.call1_v0)).2 :=
  row.binary (V := V) 267 (a := t.v24) (b := t.call1_v0) (y := t.v25) (f := ((fun x y => (Host.sort2 S10485760 0 comparator_i1_i32_d0 x y).2) : (⟨S10485760, .i1⟩ : BufTy).Contents (Elt Ideal) → (⟨S10485760, .i32⟩ : BufTy).Contents (Elt Ideal) → (⟨S10485760, .i32⟩ : BufTy).Contents (Elt Ideal))) (by sl_kernel_rfl) (by decide) (by decide)
theorem c_2 : out V t.c_2 = (constantI S_ 32 0#32) :=
  row.nullary (V := V) 268 (y := t.c_2) (v := (constantI S_ 32 0#32)) (by sl_kernel_rfl)
theorem v26 : out V t.v26 = (broadcastInDim S10485760 ![] bcast_S_S10485760 : (⟨S_, .i32⟩ : BufTy).Contents (Elt Ideal) → (⟨S10485760, .i32⟩ : BufTy).Contents (Elt Ideal)) (out V t.c_2) :=
  row.unary (V := V) 269 (x := t.c_2) (y := t.v26) (f := (broadcastInDim S10485760 ![] bcast_S_S10485760 : (⟨S_, .i32⟩ : BufTy).Contents (Elt Ideal) → (⟨S10485760, .i32⟩ : BufTy).Contents (Elt Ideal))) (by sl_kernel_rfl) (by decide)
theorem v27 : out V t.v27 = (cmpi .slt : (⟨S10485760, .i32⟩ : BufTy).Contents (Elt Ideal) → (⟨S10485760, .i32⟩ : BufTy).Contents (Elt Ideal) → (⟨S10485760, .i1⟩ : BufTy).Contents (Elt Ideal)) (out V t.v25) (out V t.v26) :=
  row.binary (V := V) 270 (a := t.v25) (b := t.v26) (y := t.v27) (f := (cmpi .slt : (⟨S10485760, .i32⟩ : BufTy).Contents (Elt Ideal) → (⟨S10485760, .i32⟩ : BufTy).Contents (Elt Ideal) → (⟨S10485760, .i1⟩ : BufTy).Contents (Elt Ideal))) (by sl_kernel_rfl) (by decide) (by decide)
theorem c_3 : out V t.c_3 = (constantI S_ 32 10485760#32) :=
  row.nullary (V := V) 271 (y := t.c_3) (v := (constantI S_ 32 10485760#32)) (by sl_kernel_rfl)
theorem v28 : out V t.v28 = (broadcastInDim S10485760 ![] bcast_S_S10485760 : (⟨S_, .i32⟩ : BufTy).Contents (Elt Ideal) → (⟨S10485760, .i32⟩ : BufTy).Contents (Elt Ideal)) (out V t.c_3) :=
  row.unary (V := V) 272 (x := t.c_3) (y := t.v28) (f := (broadcastInDim S10485760 ![] bcast_S_S10485760 : (⟨S_, .i32⟩ : BufTy).Contents (Elt Ideal) → (⟨S10485760, .i32⟩ : BufTy).Contents (Elt Ideal))) (by sl_kernel_rfl) (by decide)
theorem v29 : out V t.v29 = (addi : (⟨S10485760, .i32⟩ : BufTy).Contents (Elt Ideal) → (⟨S10485760, .i32⟩ : BufTy).Contents (Elt Ideal) → (⟨S10485760, .i32⟩ : BufTy).Contents (Elt Ideal)) (out V t.v25) (out V t.v28) :=
  row.binary (V := V) 273 (a := t.v25) (b := t.v28) (y := t.v29) (f := (addi : (⟨S10485760, .i32⟩ : BufTy).Contents (Elt Ideal) → (⟨S10485760, .i32⟩ : BufTy).Contents (Elt Ideal) → (⟨S10485760, .i32⟩ : BufTy).Contents (Elt Ideal))) (by sl_kernel_rfl) (by decide) (by decide)
theorem v30 : out V t.v30 = (select : (⟨S10485760, .i1⟩ : BufTy).Contents (Elt Ideal) → (⟨S10485760, .i32⟩ : BufTy).Contents (Elt Ideal) → (⟨S10485760, .i32⟩ : BufTy).Contents (Elt Ideal) → (⟨S10485760, .i32⟩ : BufTy).Contents (Elt Ideal)) (out V t.v27) (out V t.v29) (out V t.v25) :=
  row.ternary (V := V) 274 (c := t.v27) (a := t.v29) (b := t.v25) (y := t.v30) (f := (select : (⟨S10485760, .i1⟩ : BufTy).Contents (Elt Ideal) → (⟨S10485760, .i32⟩ : BufTy).Contents (Elt Ideal) → (⟨S10485760, .i32⟩ : BufTy).Contents (Elt Ideal) → (⟨S10485760, .i32⟩ : BufTy).Contents (Elt Ideal))) (by sl_kernel_rfl) (by decide) (by decide) (by decide)
theorem v31 : out V t.v31 = (broadcastInDim S10485760x1 ![0] bcast_S10485760_S10485760x1_0 : (⟨S10485760, .i32⟩ : BufTy).Contents (Elt Ideal) → (⟨S10485760x1, .i32⟩ : BufTy).Contents (Elt Ideal)) (out V t.v30) :=
  row.unary (V := V) 275 (x := t.v30) (y := t.v31) (f := (broadcastInDim S10485760x1 ![0] bcast_S10485760_S10485760x1_0 : (⟨S10485760, .i32⟩ : BufTy).Contents (Elt Ideal) → (⟨S10485760x1, .i32⟩ : BufTy).Contents (Elt Ideal))) (by sl_kernel_rfl) (by decide)
theorem v32 : out V t.v32 = Host.gather gather_S10485760_S10485760x1_S10485760_n_0_n_n_0_1_1 (out V t.v22) (out V t.v31) :=
  row.binary (V := V) 276 (a := t.v22) (b := t.v31) (y := t.v32) (f := ((fun x i => Host.gather gather_S10485760_S10485760x1_S10485760_n_0_n_n_0_1_1 x i) : (⟨S10485760, .f32⟩ : BufTy).Contents (Elt Ideal) → (⟨S10485760x1, .i32⟩ : BufTy).Contents (Elt Ideal) → (⟨S10485760, .f32⟩ : BufTy).Contents (Elt Ideal))) (by sl_kernel_rfl) (by decide) (by decide)
theorem v33 : out V t.v33 = shapeCast S10485760 (out V t.arg0) shapeCasts_S256x2048x20_S10485760 :=
  row.reshape (V := V) 277 (x := t.arg0) (y := t.v33) (hn := shapeCasts_S256x2048x20_S10485760) (by sl_kernel_rfl) (by decide)
theorem v34 : out V t.v34 = shapeCast S10485760 (out V t.v21) shapeCasts_S256x2048x20_S10485760 :=
  row.reshape (V := V) 278 (x := t.v21) (y := t.v34) (hn := shapeCasts_S256x2048x20_S10485760) (by sl_kernel_rfl) (by decide)
theorem v35 : out V t.v35 = extui 32 (out V t.v34) natLt_1_32 :=
  row.unary (V := V) 279 (x := t.v34) (y := t.v35) (f := ((fun (x : (⟨S10485760, .i1⟩ : BufTy).Contents (Elt Ideal)) => extui 32 x natLt_1_32) : (⟨S10485760, .i1⟩ : BufTy).Contents (Elt Ideal) → (⟨S10485760, .i32⟩ : BufTy).Contents (Elt Ideal))) (by sl_kernel_rfl) (by decide)
theorem call2_call0_c : out V t.call2_call0_c = (constantI S_ 32 0#32) :=
  row.nullary (V := V) 280 (y := t.call2_call0_c) (v := (constantI S_ 32 0#32)) (by sl_kernel_rfl)
theorem call2_call0_v0 : out V t.call2_call0_v0 = ((broadcastInDim S_ ![] bcast_S_S_) : (⟨S_, .i32⟩ : BufTy).Contents (Elt Ideal) → (⟨S_, .i32⟩ : BufTy).Contents (Elt Ideal)) (out V t.call2_call0_c) :=
  row.unary (V := V) 281 (x := t.call2_call0_c) (y := t.call2_call0_v0) (f := ((broadcastInDim S_ ![] bcast_S_S_) : (⟨S_, .i32⟩ : BufTy).Contents (Elt Ideal) → (⟨S_, .i32⟩ : BufTy).Contents (Elt Ideal))) (by sl_kernel_rfl) (by decide)
/-- The running sum of the flattened mask. -/
def cums (x : IVec S10485760 32) (v : IVec S_ 32) : IVec S10485760 32 :=
  Host.reduceWindow IntOp.addi ![10485760] ![1] ![10485759] ![0] x v
    reduceWindows_S10485760_S10485760_w10485760s1p10485759_0 h_S_
theorem v36 : out V t.v36 = cums (out V t.v35) (out V t.call2_call0_v0) :=
  row.binary (V := V) (Ta := ⟨S10485760, .i32⟩) (Tb := ⟨S_, .i32⟩) (Ty := ⟨S10485760, .i32⟩) 282 (a := t.v35)
    (b := t.call2_call0_v0) (y := t.v36) (f := cums) (by sl_kernel_rfl) (by decide) (by decide)
theorem c_4 : out V t.c_4 = (constantI S_ 32 1#32) :=
  row.nullary (V := V) 283 (y := t.c_4) (v := (constantI S_ 32 1#32)) (by sl_kernel_rfl)
theorem v37 : out V t.v37 = (broadcastInDim S10485760 ![] bcast_S_S10485760 : (⟨S_, .i32⟩ : BufTy).Contents (Elt Ideal) → (⟨S10485760, .i32⟩ : BufTy).Contents (Elt Ideal)) (out V t.c_4) :=
  row.unary (V := V) 284 (x := t.c_4) (y := t.v37) (f := (broadcastInDim S10485760 ![] bcast_S_S10485760 : (⟨S_, .i32⟩ : BufTy).Contents (Elt Ideal) → (⟨S10485760, .i32⟩ : BufTy).Contents (Elt Ideal))) (by sl_kernel_rfl) (by decide)
theorem v38 : out V t.v38 = (subi : (⟨S10485760, .i32⟩ : BufTy).Contents (Elt Ideal) → (⟨S10485760, .i32⟩ : BufTy).Contents (Elt Ideal) → (⟨S10485760, .i32⟩ : BufTy).Contents (Elt Ideal)) (out V t.v36) (out V t.v37) :=
  row.binary (V := V) 285 (a := t.v36) (b := t.v37) (y := t.v38) (f := (subi : (⟨S10485760, .i32⟩ : BufTy).Contents (Elt Ideal) → (⟨S10485760, .i32⟩ : BufTy).Contents (Elt Ideal) → (⟨S10485760, .i32⟩ : BufTy).Contents (Elt Ideal))) (by sl_kernel_rfl) (by decide) (by decide)
theorem c_5 : out V t.c_5 = (constantI S_ 32 0#32) :=
  row.nullary (V := V) 286 (y := t.c_5) (v := (constantI S_ 32 0#32)) (by sl_kernel_rfl)
theorem c_6 : out V t.c_6 = (constantI S_ 32 10485759#32) :=
  row.nullary (V := V) 287 (y := t.c_6) (v := (constantI S_ 32 10485759#32)) (by sl_kernel_rfl)
theorem call3_v0 : out V t.call3_v0 = (out V t.c_5) :=
  row.unary (V := V) 288 (x := t.c_5) (y := t.call3_v0) (f := (id : (⟨S_, .i32⟩ : BufTy).Contents (Elt Ideal) → (⟨S_, .i32⟩ : BufTy).Contents (Elt Ideal))) (by sl_kernel_rfl) (by decide)
theorem call3_v1 : out V t.call3_v1 = ((broadcastInDim S10485760 ![] bcast_S_S10485760) : (⟨S_, .i32⟩ : BufTy).Contents (Elt Ideal) → (⟨S10485760, .i32⟩ : BufTy).Contents (Elt Ideal)) (out V t.call3_v0) :=
  row.unary (V := V) 289 (x := t.call3_v0) (y := t.call3_v1) (f := ((broadcastInDim S10485760 ![] bcast_S_S10485760) : (⟨S_, .i32⟩ : BufTy).Contents (Elt Ideal) → (⟨S10485760, .i32⟩ : BufTy).Contents (Elt Ideal))) (by sl_kernel_rfl) (by decide)
theorem call3_v2 : out V t.call3_v2 = (maxsi : (⟨S10485760, .i32⟩ : BufTy).Contents (Elt Ideal) → (⟨S10485760, .i32⟩ : BufTy).Contents (Elt Ideal) → (⟨S10485760, .i32⟩ : BufTy).Contents (Elt Ideal)) (out V t.call3_v1) (out V t.v38) :=
  row.binary (V := V) 290 (a := t.call3_v1) (b := t.v38) (y := t.call3_v2) (f := (maxsi : (⟨S10485760, .i32⟩ : BufTy).Contents (Elt Ideal) → (⟨S10485760, .i32⟩ : BufTy).Contents (Elt Ideal) → (⟨S10485760, .i32⟩ : BufTy).Contents (Elt Ideal))) (by sl_kernel_rfl) (by decide) (by decide)
theorem call3_v3 : out V t.call3_v3 = (out V t.c_6) :=
  row.unary (V := V) 291 (x := t.c_6) (y := t.call3_v3) (f := (id : (⟨S_, .i32⟩ : BufTy).Contents (Elt Ideal) → (⟨S_, .i32⟩ : BufTy).Contents (Elt Ideal))) (by sl_kernel_rfl) (by decide)
theorem call3_v4 : out V t.call3_v4 = ((broadcastInDim S10485760 ![] bcast_S_S10485760) : (⟨S_, .i32⟩ : BufTy).Contents (Elt Ideal) → (⟨S10485760, .i32⟩ : BufTy).Contents (Elt Ideal)) (out V t.call3_v3) :=
  row.unary (V := V) 292 (x := t.call3_v3) (y := t.call3_v4) (f := ((broadcastInDim S10485760 ![] bcast_S_S10485760) : (⟨S_, .i32⟩ : BufTy).Contents (Elt Ideal) → (⟨S10485760, .i32⟩ : BufTy).Contents (Elt Ideal))) (by sl_kernel_rfl) (by decide)
theorem v39 : out V t.v39 = (minsi : (⟨S10485760, .i32⟩ : BufTy).Contents (Elt Ideal) → (⟨S10485760, .i32⟩ : BufTy).Contents (Elt Ideal) → (⟨S10485760, .i32⟩ : BufTy).Contents (Elt Ideal)) (out V t.call3_v4) (out V t.call3_v2) :=
  row.binary (V := V) 293 (a := t.call3_v4) (b := t.call3_v2) (y := t.v39) (f := (minsi : (⟨S10485760, .i32⟩ : BufTy).Contents (Elt Ideal) → (⟨S10485760, .i32⟩ : BufTy).Contents (Elt Ideal) → (⟨S10485760, .i32⟩ : BufTy).Contents (Elt Ideal))) (by sl_kernel_rfl) (by decide) (by decide)
theorem c_7 : out V t.c_7 = (constantI S_ 32 0#32) :=
  row.nullary (V := V) 294 (y := t.c_7) (v := (constantI S_ 32 0#32)) (by sl_kernel_rfl)
theorem v40 : out V t.v40 = (broadcastInDim S10485760 ![] bcast_S_S10485760 : (⟨S_, .i32⟩ : BufTy).Contents (Elt Ideal) → (⟨S10485760, .i32⟩ : BufTy).Contents (Elt Ideal)) (out V t.c_7) :=
  row.unary (V := V) 295 (x := t.c_7) (y := t.v40) (f := (broadcastInDim S10485760 ![] bcast_S_S10485760 : (⟨S_, .i32⟩ : BufTy).Contents (Elt Ideal) → (⟨S10485760, .i32⟩ : BufTy).Contents (Elt Ideal))) (by sl_kernel_rfl) (by decide)
theorem v41 : out V t.v41 = (cmpi .slt : (⟨S10485760, .i32⟩ : BufTy).Contents (Elt Ideal) → (⟨S10485760, .i32⟩ : BufTy).Contents (Elt Ideal) → (⟨S10485760, .i1⟩ : BufTy).Contents (Elt Ideal)) (out V t.v39) (out V t.v40) :=
  row.binary (V := V) 296 (a := t.v39) (b := t.v40) (y := t.v41) (f := (cmpi .slt : (⟨S10485760, .i32⟩ : BufTy).Contents (Elt Ideal) → (⟨S10485760, .i32⟩ : BufTy).Contents (Elt Ideal) → (⟨S10485760, .i1⟩ : BufTy).Contents (Elt Ideal))) (by sl_kernel_rfl) (by decide) (by decide)
theorem c_8 : out V t.c_8 = (constantI S_ 32 10485760#32) :=
  row.nullary (V := V) 297 (y := t.c_8) (v := (constantI S_ 32 10485760#32)) (by sl_kernel_rfl)
theorem v42 : out V t.v42 = (broadcastInDim S10485760 ![] bcast_S_S10485760 : (⟨S_, .i32⟩ : BufTy).Contents (Elt Ideal) → (⟨S10485760, .i32⟩ : BufTy).Contents (Elt Ideal)) (out V t.c_8) :=
  row.unary (V := V) 298 (x := t.c_8) (y := t.v42) (f := (broadcastInDim S10485760 ![] bcast_S_S10485760 : (⟨S_, .i32⟩ : BufTy).Contents (Elt Ideal) → (⟨S10485760, .i32⟩ : BufTy).Contents (Elt Ideal))) (by sl_kernel_rfl) (by decide)
theorem v43 : out V t.v43 = (addi : (⟨S10485760, .i32⟩ : BufTy).Contents (Elt Ideal) → (⟨S10485760, .i32⟩ : BufTy).Contents (Elt Ideal) → (⟨S10485760, .i32⟩ : BufTy).Contents (Elt Ideal)) (out V t.v39) (out V t.v42) :=
  row.binary (V := V) 299 (a := t.v39) (b := t.v42) (y := t.v43) (f := (addi : (⟨S10485760, .i32⟩ : BufTy).Contents (Elt Ideal) → (⟨S10485760, .i32⟩ : BufTy).Contents (Elt Ideal) → (⟨S10485760, .i32⟩ : BufTy).Contents (Elt Ideal))) (by sl_kernel_rfl) (by decide) (by decide)
theorem v44 : out V t.v44 = (select : (⟨S10485760, .i1⟩ : BufTy).Contents (Elt Ideal) → (⟨S10485760, .i32⟩ : BufTy).Contents (Elt Ideal) → (⟨S10485760, .i32⟩ : BufTy).Contents (Elt Ideal) → (⟨S10485760, .i32⟩ : BufTy).Contents (Elt Ideal)) (out V t.v41) (out V t.v43) (out V t.v39) :=
  row.ternary (V := V) 300 (c := t.v41) (a := t.v43) (b := t.v39) (y := t.v44) (f := (select : (⟨S10485760, .i1⟩ : BufTy).Contents (Elt Ideal) → (⟨S10485760, .i32⟩ : BufTy).Contents (Elt Ideal) → (⟨S10485760, .i32⟩ : BufTy).Contents (Elt Ideal) → (⟨S10485760, .i32⟩ : BufTy).Contents (Elt Ideal))) (by sl_kernel_rfl) (by decide) (by decide) (by decide)
theorem v45 : out V t.v45 = (broadcastInDim S10485760x1 ![0] bcast_S10485760_S10485760x1_0 : (⟨S10485760, .i32⟩ : BufTy).Contents (Elt Ideal) → (⟨S10485760x1, .i32⟩ : BufTy).Contents (Elt Ideal)) (out V t.v44) :=
  row.unary (V := V) 301 (x := t.v44) (y := t.v45) (f := (broadcastInDim S10485760x1 ![0] bcast_S10485760_S10485760x1_0 : (⟨S10485760, .i32⟩ : BufTy).Contents (Elt Ideal) → (⟨S10485760x1, .i32⟩ : BufTy).Contents (Elt Ideal))) (by sl_kernel_rfl) (by decide)
theorem v46 : out V t.v46 = Host.gather gather_S10485760_S10485760x1_S10485760_n_0_n_n_0_1_1 (out V t.v32) (out V t.v45) :=
  row.binary (V := V) 302 (a := t.v32) (b := t.v45) (y := t.v46) (f := ((fun x i => Host.gather gather_S10485760_S10485760x1_S10485760_n_0_n_n_0_1_1 x i) : (⟨S10485760, .f32⟩ : BufTy).Contents (Elt Ideal) → (⟨S10485760x1, .i32⟩ : BufTy).Contents (Elt Ideal) → (⟨S10485760, .f32⟩ : BufTy).Contents (Elt Ideal))) (by sl_kernel_rfl) (by decide) (by decide)
theorem v47 : out V t.v47 = (select : (⟨S10485760, .i1⟩ : BufTy).Contents (Elt Ideal) → (⟨S10485760, .f32⟩ : BufTy).Contents (Elt Ideal) → (⟨S10485760, .f32⟩ : BufTy).Contents (Elt Ideal) → (⟨S10485760, .f32⟩ : BufTy).Contents (Elt Ideal)) (out V t.v34) (out V t.v46) (out V t.v33) :=
  row.ternary (V := V) 303 (c := t.v34) (a := t.v46) (b := t.v33) (y := t.v47) (f := (select : (⟨S10485760, .i1⟩ : BufTy).Contents (Elt Ideal) → (⟨S10485760, .f32⟩ : BufTy).Contents (Elt Ideal) → (⟨S10485760, .f32⟩ : BufTy).Contents (Elt Ideal) → (⟨S10485760, .f32⟩ : BufTy).Contents (Elt Ideal))) (by sl_kernel_rfl) (by decide) (by decide) (by decide)
theorem v48 : out V t.v48 = shapeCast S256x2048x20 (out V t.v47) shapeCasts_S10485760_S256x2048x20 :=
  row.reshape (V := V) 304 (x := t.v47) (y := t.v48) (hn := shapeCasts_S10485760_S256x2048x20) (by sl_kernel_rfl) (by decide)
theorem cst : out V t.cst = (constant (F := Ideal) S_ .f32 0xBF7FFFFF#32) :=
  row.nullary (V := V) 305 (y := t.cst) (v := (constant (F := Ideal) S_ .f32 0xBF7FFFFF#32)) (by sl_kernel_rfl)
theorem cst_9 : out V t.cst_9 = (constant (F := Ideal) S_ .f32 0x3F800000#32) :=
  row.nullary (V := V) 306 (y := t.cst_9) (v := (constant (F := Ideal) S_ .f32 0x3F800000#32)) (by sl_kernel_rfl)
theorem call5_v0 : out V t.call5_v0 = ((broadcastInDim S1x1x1 ![] bcast_S_S1x1x1) : (⟨S_, .f32⟩ : BufTy).Contents (Elt Ideal) → (⟨S1x1x1, .f32⟩ : BufTy).Contents (Elt Ideal)) (out V t.cst) :=
  row.unary (V := V) 307 (x := t.cst) (y := t.call5_v0) (f := ((broadcastInDim S1x1x1 ![] bcast_S_S1x1x1) : (⟨S_, .f32⟩ : BufTy).Contents (Elt Ideal) → (⟨S1x1x1, .f32⟩ : BufTy).Contents (Elt Ideal))) (by sl_kernel_rfl) (by decide)
theorem call5_v1 : out V t.call5_v1 = ((broadcastInDim S1x1x1 ![] bcast_S_S1x1x1) : (⟨S_, .f32⟩ : BufTy).Contents (Elt Ideal) → (⟨S1x1x1, .f32⟩ : BufTy).Contents (Elt Ideal)) (out V t.cst_9) :=
  row.unary (V := V) 308 (x := t.cst_9) (y := t.call5_v1) (f := ((broadcastInDim S1x1x1 ![] bcast_S_S1x1x1) : (⟨S_, .f32⟩ : BufTy).Contents (Elt Ideal) → (⟨S1x1x1, .f32⟩ : BufTy).Contents (Elt Ideal))) (by sl_kernel_rfl) (by decide)
theorem call5_v2 : out V t.call5_v2 = extractStridedSlice (s := S2) S1 (![0] : Fin 1 → Nat) (out V t.v9) slices_S2_S1_0 :=
  row.unary (V := V) 309 (x := t.v9) (y := t.call5_v2) (f := (fun (x : (⟨S2, .i32⟩ : BufTy).Contents (Elt Ideal)) => extractStridedSlice (s := S2) S1 (![0] : Fin 1 → Nat) x slices_S2_S1_0)) (by sl_kernel_rfl) (by decide)
theorem call5_v3 : out V t.call5_v3 = shapeCast S_ (out V t.call5_v2) shapeCasts_S1_S_ :=
  row.reshape (V := V) 310 (x := t.call5_v2) (y := t.call5_v3) (hn := shapeCasts_S1_S_) (by sl_kernel_rfl) (by decide)
theorem call5_v4 : out V t.call5_v4 = extractStridedSlice (s := S2) S1 (![1] : Fin 1 → Nat) (out V t.v9) slices_S2_S1_1 :=
  row.unary (V := V) 311 (x := t.v9) (y := t.call5_v4) (f := (fun (x : (⟨S2, .i32⟩ : BufTy).Contents (Elt Ideal)) => extractStridedSlice (s := S2) S1 (![1] : Fin 1 → Nat) x slices_S2_S1_1)) (by sl_kernel_rfl) (by decide)
theorem call5_v5 : out V t.call5_v5 = shapeCast S_ (out V t.call5_v4) shapeCasts_S1_S_ :=
  row.reshape (V := V) 312 (x := t.call5_v4) (y := t.call5_v5) (hn := shapeCasts_S1_S_) (by sl_kernel_rfl) (by decide)
theorem call5_v6 : out V t.call5_v6 = (iotaInDim S256x2048x20 64 0) :=
  row.nullary (V := V) 313 (y := t.call5_v6) (v := (iotaInDim S256x2048x20 64 0)) (by sl_kernel_rfl)
theorem call5_v7 : out V t.call5_v7 = (iotaInDim S256x2048x20 64 1) :=
  row.nullary (V := V) 314 (y := t.call5_v7) (v := (iotaInDim S256x2048x20 64 1)) (by sl_kernel_rfl)
theorem call5_v8 : out V t.call5_v8 = (iotaInDim S256x2048x20 64 2) :=
  row.nullary (V := V) 315 (y := t.call5_v8) (v := (iotaInDim S256x2048x20 64 2)) (by sl_kernel_rfl)
theorem call5_c : out V t.call5_c = (constantI S_ 64 40960#64) :=
  row.nullary (V := V) 316 (y := t.call5_c) (v := (constantI S_ 64 40960#64)) (by sl_kernel_rfl)
theorem call5_v9 : out V t.call5_v9 = ((broadcastInDim S256x2048x20 ![] bcast_S_S256x2048x20) : (⟨S_, .i64⟩ : BufTy).Contents (Elt Ideal) → (⟨S256x2048x20, .i64⟩ : BufTy).Contents (Elt Ideal)) (out V t.call5_c) :=
  row.unary (V := V) 317 (x := t.call5_c) (y := t.call5_v9) (f := ((broadcastInDim S256x2048x20 ![] bcast_S_S256x2048x20) : (⟨S_, .i64⟩ : BufTy).Contents (Elt Ideal) → (⟨S256x2048x20, .i64⟩ : BufTy).Contents (Elt Ideal))) (by sl_kernel_rfl) (by decide)
theorem call5_v10 : out V t.call5_v10 = (muli : (⟨S256x2048x20, .i64⟩ : BufTy).Contents (Elt Ideal) → (⟨S256x2048x20, .i64⟩ : BufTy).Contents (Elt Ideal) → (⟨S256x2048x20, .i64⟩ : BufTy).Contents (Elt Ideal)) (out V t.call5_v9) (out V t.call5_v6) :=
  row.binary (V := V) 318 (a := t.call5_v9) (b := t.call5_v6) (y := t.call5_v10) (f := (muli : (⟨S256x2048x20, .i64⟩ : BufTy).Contents (Elt Ideal) → (⟨S256x2048x20, .i64⟩ : BufTy).Contents (Elt Ideal) → (⟨S256x2048x20, .i64⟩ : BufTy).Contents (Elt Ideal))) (by sl_kernel_rfl) (by decide) (by decide)
theorem call5_c_0 : out V t.call5_c_0 = (constantI S_ 64 20#64) :=
  row.nullary (V := V) 319 (y := t.call5_c_0) (v := (constantI S_ 64 20#64)) (by sl_kernel_rfl)
theorem call5_v11 : out V t.call5_v11 = ((broadcastInDim S256x2048x20 ![] bcast_S_S256x2048x20) : (⟨S_, .i64⟩ : BufTy).Contents (Elt Ideal) → (⟨S256x2048x20, .i64⟩ : BufTy).Contents (Elt Ideal)) (out V t.call5_c_0) :=
  row.unary (V := V) 320 (x := t.call5_c_0) (y := t.call5_v11) (f := ((broadcastInDim S256x2048x20 ![] bcast_S_S256x2048x20) : (⟨S_, .i64⟩ : BufTy).Contents (Elt Ideal) → (⟨S256x2048x20, .i64⟩ : BufTy).Contents (Elt Ideal))) (by sl_kernel_rfl) (by decide)
theorem call5_v12 : out V t.call5_v12 = (muli : (⟨S256x2048x20, .i64⟩ : BufTy).Contents (Elt Ideal) → (⟨S256x2048x20, .i64⟩ : BufTy).Contents (Elt Ideal) → (⟨S256x2048x20, .i64⟩ : BufTy).Contents (Elt Ideal)) (out V t.call5_v11) (out V t.call5_v7) :=
  row.binary (V := V) 321 (a := t.call5_v11) (b := t.call5_v7) (y := t.call5_v12) (f := (muli : (⟨S256x2048x20, .i64⟩ : BufTy).Contents (Elt Ideal) → (⟨S256x2048x20, .i64⟩ : BufTy).Contents (Elt Ideal) → (⟨S256x2048x20, .i64⟩ : BufTy).Contents (Elt Ideal))) (by sl_kernel_rfl) (by decide) (by decide)
theorem call5_c_1 : out V t.call5_c_1 = (constantI S_ 64 1#64) :=
  row.nullary (V := V) 322 (y := t.call5_c_1) (v := (constantI S_ 64 1#64)) (by sl_kernel_rfl)
theorem call5_v13 : out V t.call5_v13 = ((broadcastInDim S256x2048x20 ![] bcast_S_S256x2048x20) : (⟨S_, .i64⟩ : BufTy).Contents (Elt Ideal) → (⟨S256x2048x20, .i64⟩ : BufTy).Contents (Elt Ideal)) (out V t.call5_c_1) :=
  row.unary (V := V) 323 (x := t.call5_c_1) (y := t.call5_v13) (f := ((broadcastInDim S256x2048x20 ![] bcast_S_S256x2048x20) : (⟨S_, .i64⟩ : BufTy).Contents (Elt Ideal) → (⟨S256x2048x20, .i64⟩ : BufTy).Contents (Elt Ideal))) (by sl_kernel_rfl) (by decide)
theorem call5_v14 : out V t.call5_v14 = (muli : (⟨S256x2048x20, .i64⟩ : BufTy).Contents (Elt Ideal) → (⟨S256x2048x20, .i64⟩ : BufTy).Contents (Elt Ideal) → (⟨S256x2048x20, .i64⟩ : BufTy).Contents (Elt Ideal)) (out V t.call5_v13) (out V t.call5_v8) :=
  row.binary (V := V) 324 (a := t.call5_v13) (b := t.call5_v8) (y := t.call5_v14) (f := (muli : (⟨S256x2048x20, .i64⟩ : BufTy).Contents (Elt Ideal) → (⟨S256x2048x20, .i64⟩ : BufTy).Contents (Elt Ideal) → (⟨S256x2048x20, .i64⟩ : BufTy).Contents (Elt Ideal))) (by sl_kernel_rfl) (by decide) (by decide)
theorem call5_v15 : out V t.call5_v15 = (addi : (⟨S256x2048x20, .i64⟩ : BufTy).Contents (Elt Ideal) → (⟨S256x2048x20, .i64⟩ : BufTy).Contents (Elt Ideal) → (⟨S256x2048x20, .i64⟩ : BufTy).Contents (Elt Ideal)) (out V t.call5_v10) (out V t.call5_v12) :=
  row.binary (V := V) 325 (a := t.call5_v10) (b := t.call5_v12) (y := t.call5_v15) (f := (addi : (⟨S256x2048x20, .i64⟩ : BufTy).Contents (Elt Ideal) → (⟨S256x2048x20, .i64⟩ : BufTy).Contents (Elt Ideal) → (⟨S256x2048x20, .i64⟩ : BufTy).Contents (Elt Ideal))) (by sl_kernel_rfl) (by decide) (by decide)
theorem call5_v16 : out V t.call5_v16 = (addi : (⟨S256x2048x20, .i64⟩ : BufTy).Contents (Elt Ideal) → (⟨S256x2048x20, .i64⟩ : BufTy).Contents (Elt Ideal) → (⟨S256x2048x20, .i64⟩ : BufTy).Contents (Elt Ideal)) (out V t.call5_v15) (out V t.call5_v14) :=
  row.binary (V := V) 326 (a := t.call5_v15) (b := t.call5_v14) (y := t.call5_v16) (f := (addi : (⟨S256x2048x20, .i64⟩ : BufTy).Contents (Elt Ideal) → (⟨S256x2048x20, .i64⟩ : BufTy).Contents (Elt Ideal) → (⟨S256x2048x20, .i64⟩ : BufTy).Contents (Elt Ideal))) (by sl_kernel_rfl) (by decide) (by decide)
theorem call5_c_2 : out V t.call5_c_2 = (constantI S_ 64 32#64) :=
  row.nullary (V := V) 327 (y := t.call5_c_2) (v := (constantI S_ 64 32#64)) (by sl_kernel_rfl)
theorem call5_v17 : out V t.call5_v17 = ((broadcastInDim S256x2048x20 ![] bcast_S_S256x2048x20) : (⟨S_, .i64⟩ : BufTy).Contents (Elt Ideal) → (⟨S256x2048x20, .i64⟩ : BufTy).Contents (Elt Ideal)) (out V t.call5_c_2) :=
  row.unary (V := V) 328 (x := t.call5_c_2) (y := t.call5_v17) (f := ((broadcastInDim S256x2048x20 ![] bcast_S_S256x2048x20) : (⟨S_, .i64⟩ : BufTy).Contents (Elt Ideal) → (⟨S256x2048x20, .i64⟩ : BufTy).Contents (Elt Ideal))) (by sl_kernel_rfl) (by decide)
theorem call5_v18 : out V t.call5_v18 = (Host.shrui : (⟨S256x2048x20, .i64⟩ : BufTy).Contents (Elt Ideal) → (⟨S256x2048x20, .i64⟩ : BufTy).Contents (Elt Ideal) → (⟨S256x2048x20, .i64⟩ : BufTy).Contents (Elt Ideal)) (out V t.call5_v16) (out V t.call5_v17) :=
  row.binary (V := V) 329 (a := t.call5_v16) (b := t.call5_v17) (y := t.call5_v18) (f := (Host.shrui : (⟨S256x2048x20, .i64⟩ : BufTy).Contents (Elt Ideal) → (⟨S256x2048x20, .i64⟩ : BufTy).Contents (Elt Ideal) → (⟨S256x2048x20, .i64⟩ : BufTy).Contents (Elt Ideal))) (by sl_kernel_rfl) (by decide) (by decide)
theorem call5_v19 : out V t.call5_v19 = trunci 32 (out V t.call5_v16) natLt_32_64 :=
  row.unary (V := V) 330 (x := t.call5_v16) (y := t.call5_v19) (f := ((fun (x : (⟨S256x2048x20, .i64⟩ : BufTy).Contents (Elt Ideal)) => trunci 32 x natLt_32_64) : (⟨S256x2048x20, .i64⟩ : BufTy).Contents (Elt Ideal) → (⟨S256x2048x20, .i32⟩ : BufTy).Contents (Elt Ideal))) (by sl_kernel_rfl) (by decide)
theorem call5_v20 : out V t.call5_v20 = trunci 32 (out V t.call5_v18) natLt_32_64 :=
  row.unary (V := V) 331 (x := t.call5_v18) (y := t.call5_v20) (f := ((fun (x : (⟨S256x2048x20, .i64⟩ : BufTy).Contents (Elt Ideal)) => trunci 32 x natLt_32_64) : (⟨S256x2048x20, .i64⟩ : BufTy).Contents (Elt Ideal) → (⟨S256x2048x20, .i32⟩ : BufTy).Contents (Elt Ideal))) (by sl_kernel_rfl) (by decide)
theorem call5_v22 : out V t.call5_v22 = (xori : (⟨S256x2048x20, .i32⟩ : BufTy).Contents (Elt Ideal) → (⟨S256x2048x20, .i32⟩ : BufTy).Contents (Elt Ideal) → (⟨S256x2048x20, .i32⟩ : BufTy).Contents (Elt Ideal)) (out V t.call5_v21_0) (out V t.call5_v21_1) :=
  row.binary (V := V) 554 (a := t.call5_v21_0) (b := t.call5_v21_1) (y := t.call5_v22) (f := (xori : (⟨S256x2048x20, .i32⟩ : BufTy).Contents (Elt Ideal) → (⟨S256x2048x20, .i32⟩ : BufTy).Contents (Elt Ideal) → (⟨S256x2048x20, .i32⟩ : BufTy).Contents (Elt Ideal))) (by sl_kernel_rfl) (by decide) (by decide)
theorem call5_c_3 : out V t.call5_c_3 = (constantI S_ 32 9#32) :=
  row.nullary (V := V) 555 (y := t.call5_c_3) (v := (constantI S_ 32 9#32)) (by sl_kernel_rfl)
theorem call5_v23 : out V t.call5_v23 = ((broadcastInDim S256x2048x20 ![] bcast_S_S256x2048x20) : (⟨S_, .i32⟩ : BufTy).Contents (Elt Ideal) → (⟨S256x2048x20, .i32⟩ : BufTy).Contents (Elt Ideal)) (out V t.call5_c_3) :=
  row.unary (V := V) 556 (x := t.call5_c_3) (y := t.call5_v23) (f := ((broadcastInDim S256x2048x20 ![] bcast_S_S256x2048x20) : (⟨S_, .i32⟩ : BufTy).Contents (Elt Ideal) → (⟨S256x2048x20, .i32⟩ : BufTy).Contents (Elt Ideal))) (by sl_kernel_rfl) (by decide)
theorem call5_v24 : out V t.call5_v24 = (Host.shrui : (⟨S256x2048x20, .i32⟩ : BufTy).Contents (Elt Ideal) → (⟨S256x2048x20, .i32⟩ : BufTy).Contents (Elt Ideal) → (⟨S256x2048x20, .i32⟩ : BufTy).Contents (Elt Ideal)) (out V t.call5_v22) (out V t.call5_v23) :=
  row.binary (V := V) 557 (a := t.call5_v22) (b := t.call5_v23) (y := t.call5_v24) (f := (Host.shrui : (⟨S256x2048x20, .i32⟩ : BufTy).Contents (Elt Ideal) → (⟨S256x2048x20, .i32⟩ : BufTy).Contents (Elt Ideal) → (⟨S256x2048x20, .i32⟩ : BufTy).Contents (Elt Ideal))) (by sl_kernel_rfl) (by decide) (by decide)
theorem call5_c_4 : out V t.call5_c_4 = (constantI S_ 32 1065353216#32) :=
  row.nullary (V := V) 558 (y := t.call5_c_4) (v := (constantI S_ 32 1065353216#32)) (by sl_kernel_rfl)
theorem call5_v25 : out V t.call5_v25 = ((broadcastInDim S256x2048x20 ![] bcast_S_S256x2048x20) : (⟨S_, .i32⟩ : BufTy).Contents (Elt Ideal) → (⟨S256x2048x20, .i32⟩ : BufTy).Contents (Elt Ideal)) (out V t.call5_c_4) :=
  row.unary (V := V) 559 (x := t.call5_c_4) (y := t.call5_v25) (f := ((broadcastInDim S256x2048x20 ![] bcast_S_S256x2048x20) : (⟨S_, .i32⟩ : BufTy).Contents (Elt Ideal) → (⟨S256x2048x20, .i32⟩ : BufTy).Contents (Elt Ideal))) (by sl_kernel_rfl) (by decide)
theorem call5_v26 : out V t.call5_v26 = (ori : (⟨S256x2048x20, .i32⟩ : BufTy).Contents (Elt Ideal) → (⟨S256x2048x20, .i32⟩ : BufTy).Contents (Elt Ideal) → (⟨S256x2048x20, .i32⟩ : BufTy).Contents (Elt Ideal)) (out V t.call5_v24) (out V t.call5_v25) :=
  row.binary (V := V) 560 (a := t.call5_v24) (b := t.call5_v25) (y := t.call5_v26) (f := (ori : (⟨S256x2048x20, .i32⟩ : BufTy).Contents (Elt Ideal) → (⟨S256x2048x20, .i32⟩ : BufTy).Contents (Elt Ideal) → (⟨S256x2048x20, .i32⟩ : BufTy).Contents (Elt Ideal))) (by sl_kernel_rfl) (by decide) (by decide)
theorem call5_v27 : out V t.call5_v27 = ((bitcastToFloat (F := Ideal) .f32) : (⟨S256x2048x20, .i32⟩ : BufTy).Contents (Elt Ideal) → (⟨S256x2048x20, .f32⟩ : BufTy).Contents (Elt Ideal)) (out V t.call5_v26) :=
  row.unary (V := V) 561 (x := t.call5_v26) (y := t.call5_v27) (f := ((bitcastToFloat (F := Ideal) .f32) : (⟨S256x2048x20, .i32⟩ : BufTy).Contents (Elt Ideal) → (⟨S256x2048x20, .f32⟩ : BufTy).Contents (Elt Ideal))) (by sl_kernel_rfl) (by decide)
theorem call5_cst : out V t.call5_cst = (constant (F := Ideal) S_ .f32 0x3F800000#32) :=
  row.nullary (V := V) 562 (y := t.call5_cst) (v := (constant (F := Ideal) S_ .f32 0x3F800000#32)) (by sl_kernel_rfl)
theorem call5_v28 : out V t.call5_v28 = ((broadcastInDim S256x2048x20 ![] bcast_S_S256x2048x20) : (⟨S_, .f32⟩ : BufTy).Contents (Elt Ideal) → (⟨S256x2048x20, .f32⟩ : BufTy).Contents (Elt Ideal)) (out V t.call5_cst) :=
  row.unary (V := V) 563 (x := t.call5_cst) (y := t.call5_v28) (f := ((broadcastInDim S256x2048x20 ![] bcast_S_S256x2048x20) : (⟨S_, .f32⟩ : BufTy).Contents (Elt Ideal) → (⟨S256x2048x20, .f32⟩ : BufTy).Contents (Elt Ideal))) (by sl_kernel_rfl) (by decide)
theorem call5_v29 : out V t.call5_v29 = (subf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.call5_v27) (out V t.call5_v28) :=
  row.binary (V := V) 564 (a := t.call5_v27) (b := t.call5_v28) (y := t.call5_v29) (f := (subf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem call5_v30 : out V t.call5_v30 = (subf (F := Ideal) (φ := .f32) : (⟨S1x1x1, .f32⟩ : BufTy).Contents (Elt Ideal) → (⟨S1x1x1, .f32⟩ : BufTy).Contents (Elt Ideal) → (⟨S1x1x1, .f32⟩ : BufTy).Contents (Elt Ideal)) (out V t.call5_v1) (out V t.call5_v0) :=
  row.binary (V := V) 565 (a := t.call5_v1) (b := t.call5_v0) (y := t.call5_v30) (f := (subf (F := Ideal) (φ := .f32) : (⟨S1x1x1, .f32⟩ : BufTy).Contents (Elt Ideal) → (⟨S1x1x1, .f32⟩ : BufTy).Contents (Elt Ideal) → (⟨S1x1x1, .f32⟩ : BufTy).Contents (Elt Ideal))) (by sl_kernel_rfl) (by decide) (by decide)
theorem call5_v31 : out V t.call5_v31 = ((broadcastInDim S256x2048x20 ![0, 1, 2] bcast_S1x1x1_S256x2048x20_0_1_2) : (⟨S1x1x1, .f32⟩ : BufTy).Contents (Elt Ideal) → (⟨S256x2048x20, .f32⟩ : BufTy).Contents (Elt Ideal)) (out V t.call5_v30) :=
  row.unary (V := V) 566 (x := t.call5_v30) (y := t.call5_v31) (f := ((broadcastInDim S256x2048x20 ![0, 1, 2] bcast_S1x1x1_S256x2048x20_0_1_2) : (⟨S1x1x1, .f32⟩ : BufTy).Contents (Elt Ideal) → (⟨S256x2048x20, .f32⟩ : BufTy).Contents (Elt Ideal))) (by sl_kernel_rfl) (by decide)
theorem call5_v32 : out V t.call5_v32 = (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.call5_v29) (out V t.call5_v31) :=
  row.binary (V := V) 567 (a := t.call5_v29) (b := t.call5_v31) (y := t.call5_v32) (f := (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem call5_v33 : out V t.call5_v33 = ((broadcastInDim S256x2048x20 ![0, 1, 2] bcast_S1x1x1_S256x2048x20_0_1_2) : (⟨S1x1x1, .f32⟩ : BufTy).Contents (Elt Ideal) → (⟨S256x2048x20, .f32⟩ : BufTy).Contents (Elt Ideal)) (out V t.call5_v0) :=
  row.unary (V := V) 568 (x := t.call5_v0) (y := t.call5_v33) (f := ((broadcastInDim S256x2048x20 ![0, 1, 2] bcast_S1x1x1_S256x2048x20_0_1_2) : (⟨S1x1x1, .f32⟩ : BufTy).Contents (Elt Ideal) → (⟨S256x2048x20, .f32⟩ : BufTy).Contents (Elt Ideal))) (by sl_kernel_rfl) (by decide)
theorem call5_v34 : out V t.call5_v34 = (addf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.call5_v32) (out V t.call5_v33) :=
  row.binary (V := V) 569 (a := t.call5_v32) (b := t.call5_v33) (y := t.call5_v34) (f := (addf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem call5_v35 : out V t.call5_v35 = ((broadcastInDim S256x2048x20 ![0, 1, 2] bcast_S1x1x1_S256x2048x20_0_1_2) : (⟨S1x1x1, .f32⟩ : BufTy).Contents (Elt Ideal) → (⟨S256x2048x20, .f32⟩ : BufTy).Contents (Elt Ideal)) (out V t.call5_v0) :=
  row.unary (V := V) 570 (x := t.call5_v0) (y := t.call5_v35) (f := ((broadcastInDim S256x2048x20 ![0, 1, 2] bcast_S1x1x1_S256x2048x20_0_1_2) : (⟨S1x1x1, .f32⟩ : BufTy).Contents (Elt Ideal) → (⟨S256x2048x20, .f32⟩ : BufTy).Contents (Elt Ideal))) (by sl_kernel_rfl) (by decide)
theorem v49 : out V t.v49 = (maximumf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.call5_v35) (out V t.call5_v34) :=
  row.binary (V := V) 571 (a := t.call5_v35) (b := t.call5_v34) (y := t.v49) (f := (maximumf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem v50 : out V t.v50 = (Host.negf (F := Ideal) (φ := .f32) : (⟨S256x2048x20, .f32⟩ : BufTy).Contents (Elt Ideal) → (⟨S256x2048x20, .f32⟩ : BufTy).Contents (Elt Ideal)) (out V t.v49) :=
  row.unary (V := V) 572 (x := t.v49) (y := t.v50) (f := (Host.negf (F := Ideal) (φ := .f32) : (⟨S256x2048x20, .f32⟩ : BufTy).Contents (Elt Ideal) → (⟨S256x2048x20, .f32⟩ : BufTy).Contents (Elt Ideal))) (by sl_kernel_rfl) (by decide)
theorem v51 : out V t.v51 = (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v50) (out V t.v49) :=
  row.binary (V := V) 573 (a := t.v50) (b := t.v49) (y := t.v51) (f := (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem v52 : out V t.v52 = (Host.log1p (F := Ideal) (φ := .f32) : (⟨S256x2048x20, .f32⟩ : BufTy).Contents (Elt Ideal) → (⟨S256x2048x20, .f32⟩ : BufTy).Contents (Elt Ideal)) (out V t.v51) :=
  row.unary (V := V) 574 (x := t.v51) (y := t.v52) (f := (Host.log1p (F := Ideal) (φ := .f32) : (⟨S256x2048x20, .f32⟩ : BufTy).Contents (Elt Ideal) → (⟨S256x2048x20, .f32⟩ : BufTy).Contents (Elt Ideal))) (by sl_kernel_rfl) (by decide)
theorem v53 : out V t.v53 = (Host.negf (F := Ideal) (φ := .f32) : (⟨S256x2048x20, .f32⟩ : BufTy).Contents (Elt Ideal) → (⟨S256x2048x20, .f32⟩ : BufTy).Contents (Elt Ideal)) (out V t.v52) :=
  row.unary (V := V) 575 (x := t.v52) (y := t.v53) (f := (Host.negf (F := Ideal) (φ := .f32) : (⟨S256x2048x20, .f32⟩ : BufTy).Contents (Elt Ideal) → (⟨S256x2048x20, .f32⟩ : BufTy).Contents (Elt Ideal))) (by sl_kernel_rfl) (by decide)
theorem cst_10 : out V t.cst_10 = (constant (F := Ideal) S_ .f32 0x40A00000#32) :=
  row.nullary (V := V) 576 (y := t.cst_10) (v := (constant (F := Ideal) S_ .f32 0x40A00000#32)) (by sl_kernel_rfl)
theorem v54 : out V t.v54 = (broadcastInDim S256x2048x20 ![] bcast_S_S256x2048x20 : (⟨S_, .f32⟩ : BufTy).Contents (Elt Ideal) → (⟨S256x2048x20, .f32⟩ : BufTy).Contents (Elt Ideal)) (out V t.cst_10) :=
  row.unary (V := V) 577 (x := t.cst_10) (y := t.v54) (f := (broadcastInDim S256x2048x20 ![] bcast_S_S256x2048x20 : (⟨S_, .f32⟩ : BufTy).Contents (Elt Ideal) → (⟨S256x2048x20, .f32⟩ : BufTy).Contents (Elt Ideal))) (by sl_kernel_rfl) (by decide)
theorem v55 : out V t.v55 = (cmpf (F := Ideal) (φ := .f32) .olt : (⟨S256x2048x20, .f32⟩ : BufTy).Contents (Elt Ideal) → (⟨S256x2048x20, .f32⟩ : BufTy).Contents (Elt Ideal) → (⟨S256x2048x20, .i1⟩ : BufTy).Contents (Elt Ideal)) (out V t.v53) (out V t.v54) :=
  row.binary (V := V) 578 (a := t.v53) (b := t.v54) (y := t.v55) (f := (cmpf (F := Ideal) (φ := .f32) .olt : (⟨S256x2048x20, .f32⟩ : BufTy).Contents (Elt Ideal) → (⟨S256x2048x20, .f32⟩ : BufTy).Contents (Elt Ideal) → (⟨S256x2048x20, .i1⟩ : BufTy).Contents (Elt Ideal))) (by sl_kernel_rfl) (by decide) (by decide)
theorem cst_11 : out V t.cst_11 = (constant (F := Ideal) S_ .f32 0x40200000#32) :=
  row.nullary (V := V) 579 (y := t.cst_11) (v := (constant (F := Ideal) S_ .f32 0x40200000#32)) (by sl_kernel_rfl)
theorem v56 : out V t.v56 = (broadcastInDim S256x2048x20 ![] bcast_S_S256x2048x20 : (⟨S_, .f32⟩ : BufTy).Contents (Elt Ideal) → (⟨S256x2048x20, .f32⟩ : BufTy).Contents (Elt Ideal)) (out V t.cst_11) :=
  row.unary (V := V) 580 (x := t.cst_11) (y := t.v56) (f := (broadcastInDim S256x2048x20 ![] bcast_S_S256x2048x20 : (⟨S_, .f32⟩ : BufTy).Contents (Elt Ideal) → (⟨S256x2048x20, .f32⟩ : BufTy).Contents (Elt Ideal))) (by sl_kernel_rfl) (by decide)
theorem v57 : out V t.v57 = (subf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v53) (out V t.v56) :=
  row.binary (V := V) 581 (a := t.v53) (b := t.v56) (y := t.v57) (f := (subf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem cst_12 : out V t.cst_12 = (constant (F := Ideal) S_ .f32 0x396532DB#32) :=
  row.nullary (V := V) 582 (y := t.cst_12) (v := (constant (F := Ideal) S_ .f32 0x396532DB#32)) (by sl_kernel_rfl)
theorem v58 : out V t.v58 = (broadcastInDim S256x2048x20 ![] bcast_S_S256x2048x20 : (⟨S_, .f32⟩ : BufTy).Contents (Elt Ideal) → (⟨S256x2048x20, .f32⟩ : BufTy).Contents (Elt Ideal)) (out V t.cst_12) :=
  row.unary (V := V) 583 (x := t.cst_12) (y := t.v58) (f := (broadcastInDim S256x2048x20 ![] bcast_S_S256x2048x20 : (⟨S_, .f32⟩ : BufTy).Contents (Elt Ideal) → (⟨S256x2048x20, .f32⟩ : BufTy).Contents (Elt Ideal))) (by sl_kernel_rfl) (by decide)
theorem v59 : out V t.v59 = (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v58) (out V t.v57) :=
  row.binary (V := V) 584 (a := t.v58) (b := t.v57) (y := t.v59) (f := (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem cst_13 : out V t.cst_13 = (constant (F := Ideal) S_ .f32 0xBAA45408#32) :=
  row.nullary (V := V) 585 (y := t.cst_13) (v := (constant (F := Ideal) S_ .f32 0xBAA45408#32)) (by sl_kernel_rfl)
theorem v60 : out V t.v60 = (broadcastInDim S256x2048x20 ![] bcast_S_S256x2048x20 : (⟨S_, .f32⟩ : BufTy).Contents (Elt Ideal) → (⟨S256x2048x20, .f32⟩ : BufTy).Contents (Elt Ideal)) (out V t.cst_13) :=
  row.unary (V := V) 586 (x := t.cst_13) (y := t.v60) (f := (broadcastInDim S256x2048x20 ![] bcast_S_S256x2048x20 : (⟨S_, .f32⟩ : BufTy).Contents (Elt Ideal) → (⟨S256x2048x20, .f32⟩ : BufTy).Contents (Elt Ideal))) (by sl_kernel_rfl) (by decide)
theorem v61 : out V t.v61 = (addf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v59) (out V t.v60) :=
  row.binary (V := V) 587 (a := t.v59) (b := t.v60) (y := t.v61) (f := (addf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem v62 : out V t.v62 = (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v61) (out V t.v57) :=
  row.binary (V := V) 588 (a := t.v61) (b := t.v57) (y := t.v62) (f := (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem cst_14 : out V t.cst_14 = (constant (F := Ideal) S_ .f32 0xBB88E4EF#32) :=
  row.nullary (V := V) 589 (y := t.cst_14) (v := (constant (F := Ideal) S_ .f32 0xBB88E4EF#32)) (by sl_kernel_rfl)
theorem v63 : out V t.v63 = (broadcastInDim S256x2048x20 ![] bcast_S_S256x2048x20 : (⟨S_, .f32⟩ : BufTy).Contents (Elt Ideal) → (⟨S256x2048x20, .f32⟩ : BufTy).Contents (Elt Ideal)) (out V t.cst_14) :=
  row.unary (V := V) 590 (x := t.cst_14) (y := t.v63) (f := (broadcastInDim S256x2048x20 ![] bcast_S_S256x2048x20 : (⟨S_, .f32⟩ : BufTy).Contents (Elt Ideal) → (⟨S256x2048x20, .f32⟩ : BufTy).Contents (Elt Ideal))) (by sl_kernel_rfl) (by decide)
theorem v64 : out V t.v64 = (addf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v62) (out V t.v63) :=
  row.binary (V := V) 591 (a := t.v62) (b := t.v63) (y := t.v64) (f := (addf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem v65 : out V t.v65 = (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v64) (out V t.v57) :=
  row.binary (V := V) 592 (a := t.v64) (b := t.v57) (y := t.v65) (f := (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem cst_15 : out V t.cst_15 = (constant (F := Ideal) S_ .f32 0x3E7C8F63#32) :=
  row.nullary (V := V) 593 (y := t.cst_15) (v := (constant (F := Ideal) S_ .f32 0x3E7C8F63#32)) (by sl_kernel_rfl)
theorem v66 : out V t.v66 = (broadcastInDim S256x2048x20 ![] bcast_S_S256x2048x20 : (⟨S_, .f32⟩ : BufTy).Contents (Elt Ideal) → (⟨S256x2048x20, .f32⟩ : BufTy).Contents (Elt Ideal)) (out V t.cst_15) :=
  row.unary (V := V) 594 (x := t.cst_15) (y := t.v66) (f := (broadcastInDim S256x2048x20 ![] bcast_S_S256x2048x20 : (⟨S_, .f32⟩ : BufTy).Contents (Elt Ideal) → (⟨S256x2048x20, .f32⟩ : BufTy).Contents (Elt Ideal))) (by sl_kernel_rfl) (by decide)
theorem v67 : out V t.v67 = (addf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v65) (out V t.v66) :=
  row.binary (V := V) 595 (a := t.v65) (b := t.v66) (y := t.v67) (f := (addf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem v68 : out V t.v68 = (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v67) (out V t.v57) :=
  row.binary (V := V) 596 (a := t.v67) (b := t.v57) (y := t.v68) (f := (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem cst_16 : out V t.cst_16 = (constant (F := Ideal) S_ .f32 0x3FC02E2F#32) :=
  row.nullary (V := V) 597 (y := t.cst_16) (v := (constant (F := Ideal) S_ .f32 0x3FC02E2F#32)) (by sl_kernel_rfl)
theorem v69 : out V t.v69 = (broadcastInDim S256x2048x20 ![] bcast_S_S256x2048x20 : (⟨S_, .f32⟩ : BufTy).Contents (Elt Ideal) → (⟨S256x2048x20, .f32⟩ : BufTy).Contents (Elt Ideal)) (out V t.cst_16) :=
  row.unary (V := V) 598 (x := t.cst_16) (y := t.v69) (f := (broadcastInDim S256x2048x20 ![] bcast_S_S256x2048x20 : (⟨S_, .f32⟩ : BufTy).Contents (Elt Ideal) → (⟨S256x2048x20, .f32⟩ : BufTy).Contents (Elt Ideal))) (by sl_kernel_rfl) (by decide)
theorem v70 : out V t.v70 = (addf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v68) (out V t.v69) :=
  row.binary (V := V) 599 (a := t.v68) (b := t.v69) (y := t.v70) (f := (addf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem v71 : out V t.v71 = (Host.sqrt (F := Ideal) (φ := .f32) : (⟨S256x2048x20, .f32⟩ : BufTy).Contents (Elt Ideal) → (⟨S256x2048x20, .f32⟩ : BufTy).Contents (Elt Ideal)) (out V t.v53) :=
  row.unary (V := V) 600 (x := t.v53) (y := t.v71) (f := (Host.sqrt (F := Ideal) (φ := .f32) : (⟨S256x2048x20, .f32⟩ : BufTy).Contents (Elt Ideal) → (⟨S256x2048x20, .f32⟩ : BufTy).Contents (Elt Ideal))) (by sl_kernel_rfl) (by decide)
theorem cst_17 : out V t.cst_17 = (constant (F := Ideal) S_ .f32 0x40400000#32) :=
  row.nullary (V := V) 601 (y := t.cst_17) (v := (constant (F := Ideal) S_ .f32 0x40400000#32)) (by sl_kernel_rfl)
theorem v72 : out V t.v72 = (broadcastInDim S256x2048x20 ![] bcast_S_S256x2048x20 : (⟨S_, .f32⟩ : BufTy).Contents (Elt Ideal) → (⟨S256x2048x20, .f32⟩ : BufTy).Contents (Elt Ideal)) (out V t.cst_17) :=
  row.unary (V := V) 602 (x := t.cst_17) (y := t.v72) (f := (broadcastInDim S256x2048x20 ![] bcast_S_S256x2048x20 : (⟨S_, .f32⟩ : BufTy).Contents (Elt Ideal) → (⟨S256x2048x20, .f32⟩ : BufTy).Contents (Elt Ideal))) (by sl_kernel_rfl) (by decide)
theorem v73 : out V t.v73 = (subf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v71) (out V t.v72) :=
  row.binary (V := V) 603 (a := t.v71) (b := t.v72) (y := t.v73) (f := (subf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem cst_18 : out V t.cst_18 = (constant (F := Ideal) S_ .f32 0x3BBC127B#32) :=
  row.nullary (V := V) 604 (y := t.cst_18) (v := (constant (F := Ideal) S_ .f32 0x3BBC127B#32)) (by sl_kernel_rfl)
theorem v74 : out V t.v74 = (broadcastInDim S256x2048x20 ![] bcast_S_S256x2048x20 : (⟨S_, .f32⟩ : BufTy).Contents (Elt Ideal) → (⟨S256x2048x20, .f32⟩ : BufTy).Contents (Elt Ideal)) (out V t.cst_18) :=
  row.unary (V := V) 605 (x := t.cst_18) (y := t.v74) (f := (broadcastInDim S256x2048x20 ![] bcast_S_S256x2048x20 : (⟨S_, .f32⟩ : BufTy).Contents (Elt Ideal) → (⟨S256x2048x20, .f32⟩ : BufTy).Contents (Elt Ideal))) (by sl_kernel_rfl) (by decide)
theorem v75 : out V t.v75 = (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v74) (out V t.v73) :=
  row.binary (V := V) 606 (a := t.v74) (b := t.v73) (y := t.v75) (f := (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem cst_19 : out V t.cst_19 = (constant (F := Ideal) S_ .f32 0xBBF9C5D7#32) :=
  row.nullary (V := V) 607 (y := t.cst_19) (v := (constant (F := Ideal) S_ .f32 0xBBF9C5D7#32)) (by sl_kernel_rfl)
theorem v76 : out V t.v76 = (broadcastInDim S256x2048x20 ![] bcast_S_S256x2048x20 : (⟨S_, .f32⟩ : BufTy).Contents (Elt Ideal) → (⟨S256x2048x20, .f32⟩ : BufTy).Contents (Elt Ideal)) (out V t.cst_19) :=
  row.unary (V := V) 608 (x := t.cst_19) (y := t.v76) (f := (broadcastInDim S256x2048x20 ![] bcast_S_S256x2048x20 : (⟨S_, .f32⟩ : BufTy).Contents (Elt Ideal) → (⟨S256x2048x20, .f32⟩ : BufTy).Contents (Elt Ideal))) (by sl_kernel_rfl) (by decide)
theorem v77 : out V t.v77 = (addf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v75) (out V t.v76) :=
  row.binary (V := V) 609 (a := t.v75) (b := t.v76) (y := t.v77) (f := (addf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem v78 : out V t.v78 = (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v77) (out V t.v73) :=
  row.binary (V := V) 610 (a := t.v77) (b := t.v73) (y := t.v78) (f := (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem cst_20 : out V t.cst_20 = (constant (F := Ideal) S_ .f32 0x3C1AA57E#32) :=
  row.nullary (V := V) 611 (y := t.cst_20) (v := (constant (F := Ideal) S_ .f32 0x3C1AA57E#32)) (by sl_kernel_rfl)
theorem v79 : out V t.v79 = (broadcastInDim S256x2048x20 ![] bcast_S_S256x2048x20 : (⟨S_, .f32⟩ : BufTy).Contents (Elt Ideal) → (⟨S256x2048x20, .f32⟩ : BufTy).Contents (Elt Ideal)) (out V t.cst_20) :=
  row.unary (V := V) 612 (x := t.cst_20) (y := t.v79) (f := (broadcastInDim S256x2048x20 ![] bcast_S_S256x2048x20 : (⟨S_, .f32⟩ : BufTy).Contents (Elt Ideal) → (⟨S256x2048x20, .f32⟩ : BufTy).Contents (Elt Ideal))) (by sl_kernel_rfl) (by decide)
theorem v80 : out V t.v80 = (addf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v78) (out V t.v79) :=
  row.binary (V := V) 613 (a := t.v78) (b := t.v79) (y := t.v80) (f := (addf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem v81 : out V t.v81 = (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v80) (out V t.v73) :=
  row.binary (V := V) 614 (a := t.v80) (b := t.v73) (y := t.v81) (f := (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem cst_21 : out V t.cst_21 = (constant (F := Ideal) S_ .f32 0x3F8036DB#32) :=
  row.nullary (V := V) 615 (y := t.cst_21) (v := (constant (F := Ideal) S_ .f32 0x3F8036DB#32)) (by sl_kernel_rfl)
theorem v82 : out V t.v82 = (broadcastInDim S256x2048x20 ![] bcast_S_S256x2048x20 : (⟨S_, .f32⟩ : BufTy).Contents (Elt Ideal) → (⟨S256x2048x20, .f32⟩ : BufTy).Contents (Elt Ideal)) (out V t.cst_21) :=
  row.unary (V := V) 616 (x := t.cst_21) (y := t.v82) (f := (broadcastInDim S256x2048x20 ![] bcast_S_S256x2048x20 : (⟨S_, .f32⟩ : BufTy).Contents (Elt Ideal) → (⟨S256x2048x20, .f32⟩ : BufTy).Contents (Elt Ideal))) (by sl_kernel_rfl) (by decide)
theorem v83 : out V t.v83 = (addf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v81) (out V t.v82) :=
  row.binary (V := V) 617 (a := t.v81) (b := t.v82) (y := t.v83) (f := (addf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem v84 : out V t.v84 = (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v83) (out V t.v73) :=
  row.binary (V := V) 618 (a := t.v83) (b := t.v73) (y := t.v84) (f := (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem cst_22 : out V t.cst_22 = (constant (F := Ideal) S_ .f32 0x40354F7E#32) :=
  row.nullary (V := V) 619 (y := t.cst_22) (v := (constant (F := Ideal) S_ .f32 0x40354F7E#32)) (by sl_kernel_rfl)
theorem v85 : out V t.v85 = (broadcastInDim S256x2048x20 ![] bcast_S_S256x2048x20 : (⟨S_, .f32⟩ : BufTy).Contents (Elt Ideal) → (⟨S256x2048x20, .f32⟩ : BufTy).Contents (Elt Ideal)) (out V t.cst_22) :=
  row.unary (V := V) 620 (x := t.cst_22) (y := t.v85) (f := (broadcastInDim S256x2048x20 ![] bcast_S_S256x2048x20 : (⟨S_, .f32⟩ : BufTy).Contents (Elt Ideal) → (⟨S256x2048x20, .f32⟩ : BufTy).Contents (Elt Ideal))) (by sl_kernel_rfl) (by decide)
theorem v86 : out V t.v86 = (addf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v84) (out V t.v85) :=
  row.binary (V := V) 621 (a := t.v84) (b := t.v85) (y := t.v86) (f := (addf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem v87 : out V t.v87 = (select : (⟨S256x2048x20, .i1⟩ : BufTy).Contents (Elt Ideal) → (⟨S256x2048x20, .f32⟩ : BufTy).Contents (Elt Ideal) → (⟨S256x2048x20, .f32⟩ : BufTy).Contents (Elt Ideal) → (⟨S256x2048x20, .f32⟩ : BufTy).Contents (Elt Ideal)) (out V t.v55) (out V t.v70) (out V t.v86) :=
  row.ternary (V := V) 622 (c := t.v55) (a := t.v70) (b := t.v86) (y := t.v87) (f := (select : (⟨S256x2048x20, .i1⟩ : BufTy).Contents (Elt Ideal) → (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide) (by decide)
theorem v88 : out V t.v88 = (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v87) (out V t.v49) :=
  row.binary (V := V) 623 (a := t.v87) (b := t.v49) (y := t.v88) (f := (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem cst_23 : out V t.cst_23 = (constant (F := Ideal) S_ .f32 0x3FB504F3#32) :=
  row.nullary (V := V) 624 (y := t.cst_23) (v := (constant (F := Ideal) S_ .f32 0x3FB504F3#32)) (by sl_kernel_rfl)
theorem v89 : out V t.v89 = (broadcastInDim S256x2048x20 ![] bcast_S_S256x2048x20 : (⟨S_, .f32⟩ : BufTy).Contents (Elt Ideal) → (⟨S256x2048x20, .f32⟩ : BufTy).Contents (Elt Ideal)) (out V t.cst_23) :=
  row.unary (V := V) 625 (x := t.cst_23) (y := t.v89) (f := (broadcastInDim S256x2048x20 ![] bcast_S_S256x2048x20 : (⟨S_, .f32⟩ : BufTy).Contents (Elt Ideal) → (⟨S256x2048x20, .f32⟩ : BufTy).Contents (Elt Ideal))) (by sl_kernel_rfl) (by decide)
theorem v90 : out V t.v90 = (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v89) (out V t.v88) :=
  row.binary (V := V) 626 (a := t.v89) (b := t.v88) (y := t.v90) (f := (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem v91 : out V t.v91 = (addf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v48) (out V t.v90) :=
  row.binary (V := V) 627 (a := t.v48) (b := t.v90) (y := t.v91) (f := (addf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem v92 : out V t.v92 = (broadcastInDim S256x2048x1 ![0, 1] bcast_S256x2048_S256x2048x1_0_1 : (⟨S256x2048, .i1⟩ : BufTy).Contents (Elt Ideal) → (⟨S256x2048x1, .i1⟩ : BufTy).Contents (Elt Ideal)) (out V t.arg1) :=
  row.unary (V := V) 628 (x := t.arg1) (y := t.v92) (f := (broadcastInDim S256x2048x1 ![0, 1] bcast_S256x2048_S256x2048x1_0_1 : (⟨S256x2048, .i1⟩ : BufTy).Contents (Elt Ideal) → (⟨S256x2048x1, .i1⟩ : BufTy).Contents (Elt Ideal))) (by sl_kernel_rfl) (by decide)
theorem call7_v0 : out V t.call7_v0 = ((broadcastInDim S256x2048x20 ![0, 1, 2] bcast_S256x2048x1_S256x2048x20_0_1_2) : (⟨S256x2048x1, .i1⟩ : BufTy).Contents (Elt Ideal) → (⟨S256x2048x20, .i1⟩ : BufTy).Contents (Elt Ideal)) (out V t.v92) :=
  row.unary (V := V) 629 (x := t.v92) (y := t.call7_v0) (f := ((broadcastInDim S256x2048x20 ![0, 1, 2] bcast_S256x2048x1_S256x2048x20_0_1_2) : (⟨S256x2048x1, .i1⟩ : BufTy).Contents (Elt Ideal) → (⟨S256x2048x20, .i1⟩ : BufTy).Contents (Elt Ideal))) (by sl_kernel_rfl) (by decide)
theorem v93 : out V t.v93 = (select : (⟨S256x2048x20, .i1⟩ : BufTy).Contents (Elt Ideal) → (⟨S256x2048x20, .f32⟩ : BufTy).Contents (Elt Ideal) → (⟨S256x2048x20, .f32⟩ : BufTy).Contents (Elt Ideal) → (⟨S256x2048x20, .f32⟩ : BufTy).Contents (Elt Ideal)) (out V t.call7_v0) (out V t.v91) (out V t.arg0) :=
  row.ternary (V := V) 630 (c := t.call7_v0) (a := t.v91) (b := t.arg0) (y := t.v93) (f := (select : (⟨S256x2048x20, .i1⟩ : BufTy).Contents (Elt Ideal) → (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide) (by decide)
theorem v138 : out V t.v138 = (broadcastInDim S256x1x1 ![0] bcast_S256_S256x1x1_0 : (⟨S256, .i1⟩ : BufTy).Contents (Elt Ideal) → (⟨S256x1x1, .i1⟩ : BufTy).Contents (Elt Ideal)) (out V t.arg5) :=
  row.unary (V := V) 956 (x := t.arg5) (y := t.v138) (f := (broadcastInDim S256x1x1 ![0] bcast_S256_S256x1x1_0 : (⟨S256, .i1⟩ : BufTy).Contents (Elt Ideal) → (⟨S256x1x1, .i1⟩ : BufTy).Contents (Elt Ideal))) (by sl_kernel_rfl) (by decide)
theorem call11_v0 : out V t.call11_v0 = ((broadcastInDim S256x2048x20 ![0, 1, 2] bcast_S256x1x1_S256x2048x20_0_1_2) : (⟨S256x1x1, .i1⟩ : BufTy).Contents (Elt Ideal) → (⟨S256x2048x20, .i1⟩ : BufTy).Contents (Elt Ideal)) (out V t.v138) :=
  row.unary (V := V) 957 (x := t.v138) (y := t.call11_v0) (f := ((broadcastInDim S256x2048x20 ![0, 1, 2] bcast_S256x1x1_S256x2048x20_0_1_2) : (⟨S256x1x1, .i1⟩ : BufTy).Contents (Elt Ideal) → (⟨S256x2048x20, .i1⟩ : BufTy).Contents (Elt Ideal))) (by sl_kernel_rfl) (by decide)
theorem v139 : out V t.v139 = (select : (⟨S256x2048x20, .i1⟩ : BufTy).Contents (Elt Ideal) → (⟨S256x2048x20, .f32⟩ : BufTy).Contents (Elt Ideal) → (⟨S256x2048x20, .f32⟩ : BufTy).Contents (Elt Ideal) → (⟨S256x2048x20, .f32⟩ : BufTy).Contents (Elt Ideal)) (out V t.call11_v0) (out V t.v93) (out V t.v137) :=
  row.ternary (V := V) 958 (c := t.call11_v0) (a := t.v93) (b := t.v137) (y := t.v139) (f := (select : (⟨S256x2048x20, .i1⟩ : BufTy).Contents (Elt Ideal) → (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide) (by decide)
theorem v140 : out V t.v140 = (broadcastInDim S256x1x1 ![0] bcast_S256_S256x1x1_0 : (⟨S256, .f32⟩ : BufTy).Contents (Elt Ideal) → (⟨S256x1x1, .f32⟩ : BufTy).Contents (Elt Ideal)) (out V t.arg2) :=
  row.unary (V := V) 959 (x := t.arg2) (y := t.v140) (f := (broadcastInDim S256x1x1 ![0] bcast_S256_S256x1x1_0 : (⟨S256, .f32⟩ : BufTy).Contents (Elt Ideal) → (⟨S256x1x1, .f32⟩ : BufTy).Contents (Elt Ideal))) (by sl_kernel_rfl) (by decide)
theorem v141 : out V t.v141 = (broadcastInDim S256x2048x20 ![0, 1, 2] bcast_S256x1x1_S256x2048x20_0_1_2 : (⟨S256x1x1, .f32⟩ : BufTy).Contents (Elt Ideal) → (⟨S256x2048x20, .f32⟩ : BufTy).Contents (Elt Ideal)) (out V t.v140) :=
  row.unary (V := V) 960 (x := t.v140) (y := t.v141) (f := (broadcastInDim S256x2048x20 ![0, 1, 2] bcast_S256x1x1_S256x2048x20_0_1_2 : (⟨S256x1x1, .f32⟩ : BufTy).Contents (Elt Ideal) → (⟨S256x2048x20, .f32⟩ : BufTy).Contents (Elt Ideal))) (by sl_kernel_rfl) (by decide)
theorem v142 : out V t.v142 = (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v141) (out V t.arg0) :=
  row.binary (V := V) 961 (a := t.v141) (b := t.arg0) (y := t.v142) (f := (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem v143 : out V t.v143 = (broadcastInDim S256x1x1 ![0] bcast_S256_S256x1x1_0 : (⟨S256, .f32⟩ : BufTy).Contents (Elt Ideal) → (⟨S256x1x1, .f32⟩ : BufTy).Contents (Elt Ideal)) (out V t.arg2) :=
  row.unary (V := V) 962 (x := t.arg2) (y := t.v143) (f := (broadcastInDim S256x1x1 ![0] bcast_S256_S256x1x1_0 : (⟨S256, .f32⟩ : BufTy).Contents (Elt Ideal) → (⟨S256x1x1, .f32⟩ : BufTy).Contents (Elt Ideal))) (by sl_kernel_rfl) (by decide)
theorem cst_40 : out V t.cst_40 = (constant (F := Ideal) S_ .f32 0x3F800000#32) :=
  row.nullary (V := V) 963 (y := t.cst_40) (v := (constant (F := Ideal) S_ .f32 0x3F800000#32)) (by sl_kernel_rfl)
theorem v144 : out V t.v144 = (broadcastInDim S256x1x1 ![] bcast_S_S256x1x1 : (⟨S_, .f32⟩ : BufTy).Contents (Elt Ideal) → (⟨S256x1x1, .f32⟩ : BufTy).Contents (Elt Ideal)) (out V t.cst_40) :=
  row.unary (V := V) 964 (x := t.cst_40) (y := t.v144) (f := (broadcastInDim S256x1x1 ![] bcast_S_S256x1x1 : (⟨S_, .f32⟩ : BufTy).Contents (Elt Ideal) → (⟨S256x1x1, .f32⟩ : BufTy).Contents (Elt Ideal))) (by sl_kernel_rfl) (by decide)
theorem v145 : out V t.v145 = (subf (F := Ideal) (φ := .f32) : (⟨S256x1x1, .f32⟩ : BufTy).Contents (Elt Ideal) → (⟨S256x1x1, .f32⟩ : BufTy).Contents (Elt Ideal) → (⟨S256x1x1, .f32⟩ : BufTy).Contents (Elt Ideal)) (out V t.v144) (out V t.v143) :=
  row.binary (V := V) 965 (a := t.v144) (b := t.v143) (y := t.v145) (f := (subf (F := Ideal) (φ := .f32) : (⟨S256x1x1, .f32⟩ : BufTy).Contents (Elt Ideal) → (⟨S256x1x1, .f32⟩ : BufTy).Contents (Elt Ideal) → (⟨S256x1x1, .f32⟩ : BufTy).Contents (Elt Ideal))) (by sl_kernel_rfl) (by decide) (by decide)
theorem v146 : out V t.v146 = (broadcastInDim S256x2048x20 ![0, 1, 2] bcast_S256x1x1_S256x2048x20_0_1_2 : (⟨S256x1x1, .f32⟩ : BufTy).Contents (Elt Ideal) → (⟨S256x2048x20, .f32⟩ : BufTy).Contents (Elt Ideal)) (out V t.v145) :=
  row.unary (V := V) 966 (x := t.v145) (y := t.v146) (f := (broadcastInDim S256x2048x20 ![0, 1, 2] bcast_S256x1x1_S256x2048x20_0_1_2 : (⟨S256x1x1, .f32⟩ : BufTy).Contents (Elt Ideal) → (⟨S256x2048x20, .f32⟩ : BufTy).Contents (Elt Ideal))) (by sl_kernel_rfl) (by decide)
theorem v147 : out V t.v147 = (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v146) (out V t.v139) :=
  row.binary (V := V) 967 (a := t.v146) (b := t.v139) (y := t.v147) (f := (mulf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
theorem v148 : out V t.v148 = (addf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal)) (out V t.v142) (out V t.v147) :=
  row.binary (V := V) 968 (a := t.v142) (b := t.v147) (y := t.v148) (f := (addf (F := Ideal) (φ := .f32) : (⟨S256x2048x20, .f32⟩ : BufTy).Contents (Elt Ideal) → (⟨S256x2048x20, .f32⟩ : BufTy).Contents (Elt Ideal) → (⟨S256x2048x20, .f32⟩ : BufTy).Contents (Elt Ideal))) (by sl_kernel_rfl) (by decide) (by decide)
end e

end Cert.Own.Ref
end
-- ==== Proof.RefFry.lean ====
/-
  The two places where the reference runs the generator: splitting the key, and drawing.
-/
module

public import proofs.«01_k».proof.Proof.Run
public import proofs.«01_k».proof.Proof.RefEqs

@[expose] public section
set_option maxRecDepth 100000
noncomputable section
namespace Cert.Own.Ref
open Idealize.ShloMosaic Idealize.ShloMosaic.StableHlo Idealize.ShloMosaic.Tactic Idealize.ShloMosaic.ValueIdx Idealize.SL Idealize.SL.Sem
open Cert.ReferenceIdeal Cert.ReferenceIdeal.Facts₀

/-- The generator over the two counters that split the key. -/
theorem threefry_split (V : Valuation τ sig (Elt Ideal)) (j : S2.Idx) :
    (out V t.call0_v11_0 j, out V t.call0_v11_1 j) = Words.threefry (out V t.call0_v1 ix0) (out V t.call0_v3 ix0) (out V t.call0_v10 j, out V t.call0_v9 j) := by
  have s0 := row.mix (V := V) 30 13 19 (.of main_call0_call0_v3) (.of main_call0_call0_v5) (.of main_call0_call0_v7) (.of main_call0_call0_v8) (.of main_call0_call0_v9) (.of main_call0_call0_v10) (.of main_call0_call0_v11) (.of main_call0_call0_v6) (.of main_call0_call0_v12) (.of main_call0_call0_c_0) (.of main_call0_call0_c_1) (S := S2) (hb := bcast_S_S2) (by sl_kernel_rfl) (by decide) (by decide) (by decide) (by decide) j
  have s1 := row.mix (V := V) 39 15 17 (.of main_call0_call0_v6) (.of main_call0_call0_v12) (.of main_call0_call0_v14) (.of main_call0_call0_v15) (.of main_call0_call0_v16) (.of main_call0_call0_v17) (.of main_call0_call0_v18) (.of main_call0_call0_v13) (.of main_call0_call0_v19) (.of main_call0_call0_c_2) (.of main_call0_call0_c_3) (S := S2) (hb := bcast_S_S2) (by sl_kernel_rfl) (by decide) (by decide) (by decide) (by decide) j
  have s2 := row.mix (V := V) 48 26 6 (.of main_call0_call0_v13) (.of main_call0_call0_v19) (.of main_call0_call0_v21) (.of main_call0_call0_v22) (.of main_call0_call0_v23) (.of main_call0_call0_v24) (.of main_call0_call0_v25) (.of main_call0_call0_v20) (.of main_call0_call0_v26) (.of main_call0_call0_c_4) (.of main_call0_call0_c_5) (S := S2) (hb := bcast_S_S2) (by sl_kernel_rfl) (by decide) (by decide) (by decide) (by decide) j
  have s3 := row.mix (V := V) 57 6 26 (.of main_call0_call0_v20) (.of main_call0_call0_v26) (.of main_call0_call0_v28) (.of main_call0_call0_v29) (.of main_call0_call0_v30) (.of main_call0_call0_v31) (.of main_call0_call0_v32) (.of main_call0_call0_v27) (.of main_call0_call0_v33) (.of main_call0_call0_c_6) (.of main_call0_call0_c_7) (S := S2) (hb := bcast_S_S2) (by sl_kernel_rfl) (by decide) (by decide) (by decide) (by decide) j
  have s4 := row.inject (V := V) 66 1 (.of main_call0_call0_v27) (.of main_call0_call0_v33) (.of main_call0_call0_v34) (.of main_call0_call0_v36) (.of main_call0_call0_v37) (.of main_call0_call0_v38) (.of main_call0_call0_v35) (.of main_call0_call0_v39) (.of main_call0_v3) (.of main_call0_call0_v1) (.of main_call0_call0_c_8) (S := S2) (hb := bcast_S_S2) (by sl_kernel_rfl) (by decide) (by decide) (by decide) (by decide) j
  have s5 := row.mix (V := V) 73 17 15 (.of main_call0_call0_v35) (.of main_call0_call0_v39) (.of main_call0_call0_v41) (.of main_call0_call0_v42) (.of main_call0_call0_v43) (.of main_call0_call0_v44) (.of main_call0_call0_v45) (.of main_call0_call0_v40) (.of main_call0_call0_v46) (.of main_call0_call0_c_9) (.of main_call0_call0_c_10) (S := S2) (hb := bcast_S_S2) (by sl_kernel_rfl) (by decide) (by decide) (by decide) (by decide) j
  have s6 := row.mix (V := V) 82 29 3 (.of main_call0_call0_v40) (.of main_call0_call0_v46) (.of main_call0_call0_v48) (.of main_call0_call0_v49) (.of main_call0_call0_v50) (.of main_call0_call0_v51) (.of main_call0_call0_v52) (.of main_call0_call0_v47) (.of main_call0_call0_v53) (.of main_call0_call0_c_11) (.of main_call0_call0_c_12) (S := S2) (hb := bcast_S_S2) (by sl_kernel_rfl) (by decide) (by decide) (by decide) (by decide) j
  have s7 := row.mix (V := V) 91 16 16 (.of main_call0_call0_v47) (.of main_call0_call0_v53) (.of main_call0_call0_v55) (.of main_call0_call0_v56) (.of main_call0_call0_v57) (.of main_call0_call0_v58) (.of main_call0_call0_v59) (.of main_call0_call0_v54) (.of main_call0_call0_v60) (.of main_call0_call0_c_13) (.of main_call0_call0_c_14) (S := S2) (hb := bcast_S_S2) (by sl_kernel_rfl) (by decide) (by decide) (by decide) (by decide) j
  have s8 := row.mix (V := V) 100 24 8 (.of main_call0_call0_v54) (.of main_call0_call0_v60) (.of main_call0_call0_v62) (.of main_call0_call0_v63) (.of main_call0_call0_v64) (.of main_call0_call0_v65) (.of main_call0_call0_v66) (.of main_call0_call0_v61) (.of main_call0_call0_v67) (.of main_call0_call0_c_15) (.of main_call0_call0_c_16) (S := S2) (hb := bcast_S_S2) (by sl_kernel_rfl) (by decide) (by decide) (by decide) (by decide) j
  have s9 := row.inject (V := V) 109 2 (.of main_call0_call0_v61) (.of main_call0_call0_v67) (.of main_call0_call0_v68) (.of main_call0_call0_v70) (.of main_call0_call0_v71) (.of main_call0_call0_v72) (.of main_call0_call0_v69) (.of main_call0_call0_v73) (.of main_call0_call0_v1) (.of main_call0_v1) (.of main_call0_call0_c_17) (S := S2) (hb := bcast_S_S2) (by sl_kernel_rfl) (by decide) (by decide) (by decide) (by decide) j
  have s10 := row.mix (V := V) 116 13 19 (.of main_call0_call0_v69) (.of main_call0_call0_v73) (.of main_call0_call0_v75) (.of main_call0_call0_v76) (.of main_call0_call0_v77) (.of main_call0_call0_v78) (.of main_call0_call0_v79) (.of main_call0_call0_v74) (.of main_call0_call0_v80) (.of main_call0_call0_c_18) (.of main_call0_call0_c_19) (S := S2) (hb := bcast_S_S2) (by sl_kernel_rfl) (by decide) (by decide) (by decide) (by decide) j
  have s11 := row.mix (V := V) 125 15 17 (.of main_call0_call0_v74) (.of main_call0_call0_v80) (.of main_call0_call0_v82) (.of main_call0_call0_v83) (.of main_call0_call0_v84) (.of main_call0_call0_v85) (.of main_call0_call0_v86) (.of main_call0_call0_v81) (.of main_call0_call0_v87) (.of main_call0_call0_c_20) (.of main_call0_call0_c_21) (S := S2) (hb := bcast_S_S2) (by sl_kernel_rfl) (by decide) (by decide) (by decide) (by decide) j
  have s12 := row.mix (V := V) 134 26 6 (.of main_call0_call0_v81) (.of main_call0_call0_v87) (.of main_call0_call0_v89) (.of main_call0_call0_v90) (.of main_call0_call0_v91) (.of main_call0_call0_v92) (.of main_call0_call0_v93) (.of main_call0_call0_v88) (.of main_call0_call0_v94) (.of main_call0_call0_c_22) (.of main_call0_call0_c_23) (S := S2) (hb := bcast_S_S2) (by sl_kernel_rfl) (by decide) (by decide) (by decide) (by decide) j
  have s13 := row.mix (V := V) 143 6 26 (.of main_call0_call0_v88) (.of main_call0_call0_v94) (.of main_call0_call0_v96) (.of main_call0_call0_v97) (.of main_call0_call0_v98) (.of main_call0_call0_v99) (.of main_call0_call0_v100) (.of main_call0_call0_v95) (.of main_call0_call0_v101) (.of main_call0_call0_c_24) (.of main_call0_call0_c_25) (S := S2) (hb := bcast_S_S2) (by sl_kernel_rfl) (by decide) (by decide) (by decide) (by decide) j
  have s14 := row.inject (V := V) 152 3 (.of main_call0_call0_v95) (.of main_call0_call0_v101) (.of main_call0_call0_v102) (.of main_call0_call0_v104) (.of main_call0_call0_v105) (.of main_call0_call0_v106) (.of main_call0_call0_v103) (.of main_call0_call0_v107) (.of main_call0_v1) (.of main_call0_v3) (.of main_call0_call0_c_26) (S := S2) (hb := bcast_S_S2) (by sl_kernel_rfl) (by decide) (by decide) (by decide) (by decide) j
  have s15 := row.mix (V := V) 159 17 15 (.of main_call0_call0_v103) (.of main_call0_call0_v107) (.of main_call0_call0_v109) (.of main_call0_call0_v110) (.of main_call0_call0_v111) (.of main_call0_call0_v112) (.of main_call0_call0_v113) (.of main_call0_call0_v108) (.of main_call0_call0_v114) (.of main_call0_call0_c_27) (.of main_call0_call0_c_28) (S := S2) (hb := bcast_S_S2) (by sl_kernel_rfl) (by decide) (by decide) (by decide) (by decide) j
  have s16 := row.mix (V := V) 168 29 3 (.of main_call0_call0_v108) (.of main_call0_call0_v114) (.of main_call0_call0_v116) (.of main_call0_call0_v117) (.of main_call0_call0_v118) (.of main_call0_call0_v119) (.of main_call0_call0_v120) (.of main_call0_call0_v115) (.of main_call0_call0_v121) (.of main_call0_call0_c_29) (.of main_call0_call0_c_30) (S := S2) (hb := bcast_S_S2) (by sl_kernel_rfl) (by decide) (by decide) (by decide) (by decide) j
  have s17 := row.mix (V := V) 177 16 16 (.of main_call0_call0_v115) (.of main_call0_call0_v121) (.of main_call0_call0_v123) (.of main_call0_call0_v124) (.of main_call0_call0_v125) (.of main_call0_call0_v126) (.of main_call0_call0_v127) (.of main_call0_call0_v122) (.of main_call0_call0_v128) (.of main_call0_call0_c_31) (.of main_call0_call0_c_32) (S := S2) (hb := bcast_S_S2) (by sl_kernel_rfl) (by decide) (by decide) (by decide) (by decide) j
  have s18 := row.mix (V := V) 186 24 8 (.of main_call0_call0_v122) (.of main_call0_call0_v128) (.of main_call0_call0_v130) (.of main_call0_call0_v131) (.of main_call0_call0_v132) (.of main_call0_call0_v133) (.of main_call0_call0_v134) (.of main_call0_call0_v129) (.of main_call0_call0_v135) (.of main_call0_call0_c_33) (.of main_call0_call0_c_34) (S := S2) (hb := bcast_S_S2) (by sl_kernel_rfl) (by decide) (by decide) (by decide) (by decide) j
  have s19 := row.inject (V := V) 195 4 (.of main_call0_call0_v129) (.of main_call0_call0_v135) (.of main_call0_call0_v136) (.of main_call0_call0_v138) (.of main_call0_call0_v139) (.of main_call0_call0_v140) (.of main_call0_call0_v137) (.of main_call0_call0_v141) (.of main_call0_v3) (.of main_call0_call0_v1) (.of main_call0_call0_c_35) (S := S2) (hb := bcast_S_S2) (by sl_kernel_rfl) (by decide) (by decide) (by decide) (by decide) j
  have s20 := row.mix (V := V) 202 13 19 (.of main_call0_call0_v137) (.of main_call0_call0_v141) (.of main_call0_call0_v143) (.of main_call0_call0_v144) (.of main_call0_call0_v145) (.of main_call0_call0_v146) (.of main_call0_call0_v147) (.of main_call0_call0_v142) (.of main_call0_call0_v148) (.of main_call0_call0_c_36) (.of main_call0_call0_c_37) (S := S2) (hb := bcast_S_S2) (by sl_kernel_rfl) (by decide) (by decide) (by decide) (by decide) j
  have s21 := row.mix (V := V) 211 15 17 (.of main_call0_call0_v142) (.of main_call0_call0_v148) (.of main_call0_call0_v150) (.of main_call0_call0_v151) (.of main_call0_call0_v152) (.of main_call0_call0_v153) (.of main_call0_call0_v154) (.of main_call0_call0_v149) (.of main_call0_call0_v155) (.of main_call0_call0_c_38) (.of main_call0_call0_c_39) (S := S2) (hb := bcast_S_S2) (by sl_kernel_rfl) (by decide) (by decide) (by decide) (by decide) j
  have s22 := row.mix (V := V) 220 26 6 (.of main_call0_call0_v149) (.of main_call0_call0_v155) (.of main_call0_call0_v157) (.of main_call0_call0_v158) (.of main_call0_call0_v159) (.of main_call0_call0_v160) (.of main_call0_call0_v161) (.of main_call0_call0_v156) (.of main_call0_call0_v162) (.of main_call0_call0_c_40) (.of main_call0_call0_c_41) (S := S2) (hb := bcast_S_S2) (by sl_kernel_rfl) (by decide) (by decide) (by decide) (by decide) j
  have s23 := row.mix (V := V) 229 6 26 (.of main_call0_call0_v156) (.of main_call0_call0_v162) (.of main_call0_call0_v164) (.of main_call0_call0_v165) (.of main_call0_call0_v166) (.of main_call0_call0_v167) (.of main_call0_call0_v168) (.of main_call0_call0_v163) (.of main_call0_call0_v169) (.of main_call0_call0_c_42) (.of main_call0_call0_c_43) (S := S2) (hb := bcast_S_S2) (by sl_kernel_rfl) (by decide) (by decide) (by decide) (by decide) j
  have s24 := row.inject (V := V) 238 5 (.of main_call0_call0_v163) (.of main_call0_call0_v169) (.of main_call0_call0_v170) (.of main_call0_call0_v172) (.of main_call0_call0_v173) (.of main_call0_call0_v174) (.of main_call0_v11_0) (.of main_call0_v11_1) (.of main_call0_call0_v1) (.of main_call0_v1) (.of main_call0_call0_c_44) (S := S2) (hb := bcast_S_S2) (by sl_kernel_rfl) (by decide) (by decide) (by decide) (by decide) j
  have hk : Row.rd (after ops V) (.of main_call0_call0_v1 : TRef sig (WTy S_)) = xori (xori (out V t.call0_v1) (out V t.call0_v3)) (constantI S_ 32 466688986#32) := by
    have h0 := row.binary (V := V) 23 (a := t.call0_v1) (b := t.call0_v3) (y := (.of main_call0_call0_v0 : TRef sig (WTy S_))) (f := xori) (by sl_kernel_rfl) (by decide) (by decide)
    have h1 := row.nullary (V := V) 24 (y := (.of main_call0_call0_c : TRef sig (WTy S_))) (v := constantI S_ 32 466688986#32) (by sl_kernel_rfl)
    have h2 := row.binary (V := V) 25 (a := (.of main_call0_call0_v0 : TRef sig (WTy S_))) (b := (.of main_call0_call0_c : TRef sig (WTy S_))) (y := (.of main_call0_call0_v1 : TRef sig (WTy S_))) (f := xori) (by sl_kernel_rfl) (by decide) (by decide)
    rw [h2, h0, h1]
    rfl
  have h := row.enter (V := V) 26 (S := S2) (hb := bcast_S_S2) t.call0_v10 t.call0_v9 (.of main_call0_call0_v2) (.of main_call0_call0_v4) (.of main_call0_call0_v3) (.of main_call0_call0_v5) t.call0_v1 t.call0_v3 (by sl_kernel_rfl) (by decide) (by decide) (by decide) (by decide) j
  rw [hk] at s4 s9 s19 s24
  refine (s24.trans (congrArg _ ?_) : _)
  rw [s23, s22, s21, s20, s19, s18, s17, s16, s15, s14, s13, s12, s11, s10, s9, s8, s7, s6, s5, s4, s3, s2, s1, s0, h]
  rfl

/-- The generator over the counters of the draw. -/
theorem threefry_draw (V : Valuation τ sig (Elt Ideal)) (j : S256x2048x20.Idx) :
    (out V t.call5_v21_0 j, out V t.call5_v21_1 j) = Words.threefry (out V t.call5_v3 ix0) (out V t.call5_v5 ix0) (out V t.call5_v20 j, out V t.call5_v19 j) := by
  have s0 := row.mix (V := V) 339 13 19 (.of main_call5_call0_v3) (.of main_call5_call0_v5) (.of main_call5_call0_v7) (.of main_call5_call0_v8) (.of main_call5_call0_v9) (.of main_call5_call0_v10) (.of main_call5_call0_v11) (.of main_call5_call0_v6) (.of main_call5_call0_v12) (.of main_call5_call0_c_0) (.of main_call5_call0_c_1) (S := S256x2048x20) (hb := bcast_S_S256x2048x20) (by sl_kernel_rfl) (by decide) (by decide) (by decide) (by decide) j
  have s1 := row.mix (V := V) 348 15 17 (.of main_call5_call0_v6) (.of main_call5_call0_v12) (.of main_call5_call0_v14) (.of main_call5_call0_v15) (.of main_call5_call0_v16) (.of main_call5_call0_v17) (.of main_call5_call0_v18) (.of main_call5_call0_v13) (.of main_call5_call0_v19) (.of main_call5_call0_c_2) (.of main_call5_call0_c_3) (S := S256x2048x20) (hb := bcast_S_S256x2048x20) (by sl_kernel_rfl) (by decide) (by decide) (by decide) (by decide) j
  have s2 := row.mix (V := V) 357 26 6 (.of main_call5_call0_v13) (.of main_call5_call0_v19) (.of main_call5_call0_v21) (.of main_call5_call0_v22) (.of main_call5_call0_v23) (.of main_call5_call0_v24) (.of main_call5_call0_v25) (.of main_call5_call0_v20) (.of main_call5_call0_v26) (.of main_call5_call0_c_4) (.of main_call5_call0_c_5) (S := S256x2048x20) (hb := bcast_S_S256x2048x20) (by sl_kernel_rfl) (by decide) (by decide) (by decide) (by decide) j
  have s3 := row.mix (V := V) 366 6 26 (.of main_call5_call0_v20) (.of main_call5_call0_v26) (.of main_call5_call0_v28) (.of main_call5_call0_v29) (.of main_call5_call0_v30) (.of main_call5_call0_v31) (.of main_call5_call0_v32) (.of main_call5_call0_v27) (.of main_call5_call0_v33) (.of main_call5_call0_c_6) (.of main_call5_call0_c_7) (S := S256x2048x20) (hb := bcast_S_S256x2048x20) (by sl_kernel_rfl) (by decide) (by decide) (by decide) (by decide) j
  have s4 := row.inject (V := V) 375 1 (.of main_call5_call0_v27) (.of main_call5_call0_v33) (.of main_call5_call0_v34) (.of main_call5_call0_v36) (.of main_call5_call0_v37) (.of main_call5_call0_v38) (.of main_call5_call0_v35) (.of main_call5_call0_v39) (.of main_call5_v5) (.of main_call5_call0_v1) (.of main_call5_call0_c_8) (S := S256x2048x20) (hb := bcast_S_S256x2048x20) (by sl_kernel_rfl) (by decide) (by decide) (by decide) (by decide) j
  have s5 := row.mix (V := V) 382 17 15 (.of main_call5_call0_v35) (.of main_call5_call0_v39) (.of main_call5_call0_v41) (.of main_call5_call0_v42) (.of main_call5_call0_v43) (.of main_call5_call0_v44) (.of main_call5_call0_v45) (.of main_call5_call0_v40) (.of main_call5_call0_v46) (.of main_call5_call0_c_9) (.of main_call5_call0_c_10) (S := S256x2048x20) (hb := bcast_S_S256x2048x20) (by sl_kernel_rfl) (by decide) (by decide) (by decide) (by decide) j
  have s6 := row.mix (V := V) 391 29 3 (.of main_call5_call0_v40) (.of main_call5_call0_v46) (.of main_call5_call0_v48) (.of main_call5_call0_v49) (.of main_call5_call0_v50) (.of main_call5_call0_v51) (.of main_call5_call0_v52) (.of main_call5_call0_v47) (.of main_call5_call0_v53) (.of main_call5_call0_c_11) (.of main_call5_call0_c_12) (S := S256x2048x20) (hb := bcast_S_S256x2048x20) (by sl_kernel_rfl) (by decide) (by decide) (by decide) (by decide) j
  have s7 := row.mix (V := V) 400 16 16 (.of main_call5_call0_v47) (.of main_call5_call0_v53) (.of main_call5_call0_v55) (.of main_call5_call0_v56) (.of main_call5_call0_v57) (.of main_call5_call0_v58) (.of main_call5_call0_v59) (.of main_call5_call0_v54) (.of main_call5_call0_v60) (.of main_call5_call0_c_13) (.of main_call5_call0_c_14) (S := S256x2048x20) (hb := bcast_S_S256x2048x20) (by sl_kernel_rfl) (by decide) (by decide) (by decide) (by decide) j
  have s8 := row.mix (V := V) 409 24 8 (.of main_call5_call0_v54) (.of main_call5_call0_v60) (.of main_call5_call0_v62) (.of main_call5_call0_v63) (.of main_call5_call0_v64) (.of main_call5_call0_v65) (.of main_call5_call0_v66) (.of main_call5_call0_v61) (.of main_call5_call0_v67) (.of main_call5_call0_c_15) (.of main_call5_call0_c_16) (S := S256x2048x20) (hb := bcast_S_S256x2048x20) (by sl_kernel_rfl) (by decide) (by decide) (by decide) (by decide) j
  have s9 := row.inject (V := V) 418 2 (.of main_call5_call0_v61) (.of main_call5_call0_v67) (.of main_call5_call0_v68) (.of main_call5_call0_v70) (.of main_call5_call0_v71) (.of main_call5_call0_v72) (.of main_call5_call0_v69) (.of main_call5_call0_v73) (.of main_call5_call0_v1) (.of main_call5_v3) (.of main_call5_call0_c_17) (S := S256x2048x20) (hb := bcast_S_S256x2048x20) (by sl_kernel_rfl) (by decide) (by decide) (by decide) (by decide) j
  have s10 := row.mix (V := V) 425 13 19 (.of main_call5_call0_v69) (.of main_call5_call0_v73) (.of main_call5_call0_v75) (.of main_call5_call0_v76) (.of main_call5_call0_v77) (.of main_call5_call0_v78) (.of main_call5_call0_v79) (.of main_call5_call0_v74) (.of main_call5_call0_v80) (.of main_call5_call0_c_18) (.of main_call5_call0_c_19) (S := S256x2048x20) (hb := bcast_S_S256x2048x20) (by sl_kernel_rfl) (by decide) (by decide) (by decide) (by decide) j
  have s11 := row.mix (V := V) 434 15 17 (.of main_call5_call0_v74) (.of main_call5_call0_v80) (.of main_call5_call0_v82) (.of main_call5_call0_v83) (.of main_call5_call0_v84) (.of main_call5_call0_v85) (.of main_call5_call0_v86) (.of main_call5_call0_v81) (.of main_call5_call0_v87) (.of main_call5_call0_c_20) (.of main_call5_call0_c_21) (S := S256x2048x20) (hb := bcast_S_S256x2048x20) (by sl_kernel_rfl) (by decide) (by decide) (by decide) (by decide) j
  have s12 := row.mix (V := V) 443 26 6 (.of main_call5_call0_v81) (.of main_call5_call0_v87) (.of main_call5_call0_v89) (.of main_call5_call0_v90) (.of main_call5_call0_v91) (.of main_call5_call0_v92) (.of main_call5_call0_v93) (.of main_call5_call0_v88) (.of main_call5_call0_v94) (.of main_call5_call0_c_22) (.of main_call5_call0_c_23) (S := S256x2048x20) (hb := bcast_S_S256x2048x20) (by sl_kernel_rfl) (by decide) (by decide) (by decide) (by decide) j
  have s13 := row.mix (V := V) 452 6 26 (.of main_call5_call0_v88) (.of main_call5_call0_v94) (.of main_call5_call0_v96) (.of main_call5_call0_v97) (.of main_call5_call0_v98) (.of main_call5_call0_v99) (.of main_call5_call0_v100) (.of main_call5_call0_v95) (.of main_call5_call0_v101) (.of main_call5_call0_c_24) (.of main_call5_call0_c_25) (S := S256x2048x20) (hb := bcast_S_S256x2048x20) (by sl_kernel_rfl) (by decide) (by decide) (by decide) (by decide) j
  have s14 := row.inject (V := V) 461 3 (.of main_call5_call0_v95) (.of main_call5_call0_v101) (.of main_call5_call0_v102) (.of main_call5_call0_v104) (.of main_call5_call0_v105) (.of main_call5_call0_v106) (.of main_call5_call0_v103) (.of main_call5_call0_v107) (.of main_call5_v3) (.of main_call5_v5) (.of main_call5_call0_c_26) (S := S256x2048x20) (hb := bcast_S_S256x2048x20) (by sl_kernel_rfl) (by decide) (by decide) (by decide) (by decide) j
  have s15 := row.mix (V := V) 468 17 15 (.of main_call5_call0_v103) (.of main_call5_call0_v107) (.of main_call5_call0_v109) (.of main_call5_call0_v110) (.of main_call5_call0_v111) (.of main_call5_call0_v112) (.of main_call5_call0_v113) (.of main_call5_call0_v108) (.of main_call5_call0_v114) (.of main_call5_call0_c_27) (.of main_call5_call0_c_28) (S := S256x2048x20) (hb := bcast_S_S256x2048x20) (by sl_kernel_rfl) (by decide) (by decide) (by decide) (by decide) j
  have s16 := row.mix (V := V) 477 29 3 (.of main_call5_call0_v108) (.of main_call5_call0_v114) (.of main_call5_call0_v116) (.of main_call5_call0_v117) (.of main_call5_call0_v118) (.of main_call5_call0_v119) (.of main_call5_call0_v120) (.of main_call5_call0_v115) (.of main_call5_call0_v121) (.of main_call5_call0_c_29) (.of main_call5_call0_c_30) (S := S256x2048x20) (hb := bcast_S_S256x2048x20) (by sl_kernel_rfl) (by decide) (by decide) (by decide) (by decide) j
  have s17 := row.mix (V := V) 486 16 16 (.of main_call5_call0_v115) (.of main_call5_call0_v121) (.of main_call5_call0_v123) (.of main_call5_call0_v124) (.of main_call5_call0_v125) (.of main_call5_call0_v126) (.of main_call5_call0_v127) (.of main_call5_call0_v122) (.of main_call5_call0_v128) (.of main_call5_call0_c_31) (.of main_call5_call0_c_32) (S := S256x2048x20) (hb := bcast_S_S256x2048x20) (by sl_kernel_rfl) (by decide) (by decide) (by decide) (by decide) j
  have s18 := row.mix (V := V) 495 24 8 (.of main_call5_call0_v122) (.of main_call5_call0_v128) (.of main_call5_call0_v130) (.of main_call5_call0_v131) (.of main_call5_call0_v132) (.of main_call5_call0_v133) (.of main_call5_call0_v134) (.of main_call5_call0_v129) (.of main_call5_call0_v135) (.of main_call5_call0_c_33) (.of main_call5_call0_c_34) (S := S256x2048x20) (hb := bcast_S_S256x2048x20) (by sl_kernel_rfl) (by decide) (by decide) (by decide) (by decide) j
  have s19 := row.inject (V := V) 504 4 (.of main_call5_call0_v129) (.of main_call5_call0_v135) (.of main_call5_call0_v136) (.of main_call5_call0_v138) (.of main_call5_call0_v139) (.of main_call5_call0_v140) (.of main_call5_call0_v137) (.of main_call5_call0_v141) (.of main_call5_v5) (.of main_call5_call0_v1) (.of main_call5_call0_c_35) (S := S256x2048x20) (hb := bcast_S_S256x2048x20) (by sl_kernel_rfl) (by decide) (by decide) (by decide) (by decide) j
  have s20 := row.mix (V := V) 511 13 19 (.of main_call5_call0_v137) (.of main_call5_call0_v141) (.of main_call5_call0_v143) (.of main_call5_call0_v144) (.of main_call5_call0_v145) (.of main_call5_call0_v146) (.of main_call5_call0_v147) (.of main_call5_call0_v142) (.of main_call5_call0_v148) (.of main_call5_call0_c_36) (.of main_call5_call0_c_37) (S := S256x2048x20) (hb := bcast_S_S256x2048x20) (by sl_kernel_rfl) (by decide) (by decide) (by decide) (by decide) j
  have s21 := row.mix (V := V) 520 15 17 (.of main_call5_call0_v142) (.of main_call5_call0_v148) (.of main_call5_call0_v150) (.of main_call5_call0_v151) (.of main_call5_call0_v152) (.of main_call5_call0_v153) (.of main_call5_call0_v154) (.of main_call5_call0_v149) (.of main_call5_call0_v155) (.of main_call5_call0_c_38) (.of main_call5_call0_c_39) (S := S256x2048x20) (hb := bcast_S_S256x2048x20) (by sl_kernel_rfl) (by decide) (by decide) (by decide) (by decide) j
  have s22 := row.mix (V := V) 529 26 6 (.of main_call5_call0_v149) (.of main_call5_call0_v155) (.of main_call5_call0_v157) (.of main_call5_call0_v158) (.of main_call5_call0_v159) (.of main_call5_call0_v160) (.of main_call5_call0_v161) (.of main_call5_call0_v156) (.of main_call5_call0_v162) (.of main_call5_call0_c_40) (.of main_call5_call0_c_41) (S := S256x2048x20) (hb := bcast_S_S256x2048x20) (by sl_kernel_rfl) (by decide) (by decide) (by decide) (by decide) j
  have s23 := row.mix (V := V) 538 6 26 (.of main_call5_call0_v156) (.of main_call5_call0_v162) (.of main_call5_call0_v164) (.of main_call5_call0_v165) (.of main_call5_call0_v166) (.of main_call5_call0_v167) (.of main_call5_call0_v168) (.of main_call5_call0_v163) (.of main_call5_call0_v169) (.of main_call5_call0_c_42) (.of main_call5_call0_c_43) (S := S256x2048x20) (hb := bcast_S_S256x2048x20) (by sl_kernel_rfl) (by decide) (by decide) (by decide) (by decide) j
  have s24 := row.inject (V := V) 547 5 (.of main_call5_call0_v163) (.of main_call5_call0_v169) (.of main_call5_call0_v170) (.of main_call5_call0_v172) (.of main_call5_call0_v173) (.of main_call5_call0_v174) (.of main_call5_v21_0) (.of main_call5_v21_1) (.of main_call5_call0_v1) (.of main_call5_v3) (.of main_call5_call0_c_44) (S := S256x2048x20) (hb := bcast_S_S256x2048x20) (by sl_kernel_rfl) (by decide) (by decide) (by decide) (by decide) j
  have hk : Row.rd (after ops V) (.of main_call5_call0_v1 : TRef sig (WTy S_)) = xori (xori (out V t.call5_v3) (out V t.call5_v5)) (constantI S_ 32 466688986#32) := by
    have h0 := row.binary (V := V) 332 (a := t.call5_v3) (b := t.call5_v5) (y := (.of main_call5_call0_v0 : TRef sig (WTy S_))) (f := xori) (by sl_kernel_rfl) (by decide) (by decide)
    have h1 := row.nullary (V := V) 333 (y := (.of main_call5_call0_c : TRef sig (WTy S_))) (v := constantI S_ 32 466688986#32) (by sl_kernel_rfl)
    have h2 := row.binary (V := V) 334 (a := (.of main_call5_call0_v0 : TRef sig (WTy S_))) (b := (.of main_call5_call0_c : TRef sig (WTy S_))) (y := (.of main_call5_call0_v1 : TRef sig (WTy S_))) (f := xori) (by sl_kernel_rfl) (by decide) (by decide)
    rw [h2, h0, h1]
    rfl
  have h := row.enter (V := V) 335 (S := S256x2048x20) (hb := bcast_S_S256x2048x20) t.call5_v20 t.call5_v19 (.of main_call5_call0_v2) (.of main_call5_call0_v4) (.of main_call5_call0_v3) (.of main_call5_call0_v5) t.call5_v3 t.call5_v5 (by sl_kernel_rfl) (by decide) (by decide) (by decide) (by decide) j
  rw [hk] at s4 s9 s19 s24
  refine (s24.trans (congrArg _ ?_) : _)
  rw [s23, s22, s21, s20, s19, s18, s17, s16, s15, s14, s13, s12, s11, s10, s9, s8, s7, s6, s5, s4, s3, s2, s1, s0, h]
  rfl

end Cert.Own.Ref
end
-- ==== Proof.RefVal.lean ====
/-
  What the reference computes, one element at a time: its key, its draw, its two results.
-/
module

public import proofs.«01_k».proof.Proof.RefFry
public import proofs.«01_k».proof.Proof.Value
public import Idealize.ShloMosaic.Lib.Pointwise
public import Idealize.ShloMosaic.Lib.Pipeline.Value

@[expose] public section
set_option maxRecDepth 100000
noncomputable section
namespace Cert.Own.Ref
open Idealize.ShloMosaic hiding ix0 ix1 ix2 ix3
open Idealize.ShloMosaic.StableHlo Idealize.ShloMosaic.ValueIdx Idealize.SL Idealize.SL.Sem
open Cert.ReferenceIdeal Cert.ReferenceIdeal.Facts₀

attribute [local irreducible] out

variable (V : Valuation τ sig (Elt Ideal))

theorem neg_apply (x : FVec Ideal S256x2048x20 .f32) (j : S256x2048x20.Idx) : Host.negf x j = -(x j) := rfl

theorem log1p_apply' (x : FVec Ideal S256x2048x20 .f32) (j : S256x2048x20.Idx) : Host.log1p x j = Ideal.log1p (x j) := rfl

theorem root (x : FVec Ideal S256x2048x20 .f32) (j : S256x2048x20.Idx) : Host.sqrt x j = Ideal.sqrt (x j) := rfl

/-- A tensor filled with one literal. -/
theorem fill (b : BitVec 32) (j : S256x2048x20.Idx) :
    broadcastInDim S256x2048x20 ![] bcast_S_S256x2048x20 (constant (F := Ideal) S_ .f32 b) j = Value.f32 b := by
  rw [broadcastInDim_scalar_apply, constant_apply]

theorem seed₀ : out V t.call0_v1 ix0 = 0#32 := by
  rw [e.call0_v1, e.call0_v0, e.v6, e.v2, e.v1, e.v0, e.c, e.c_0]
  rfl

theorem seed₁ : out V t.call0_v3 ix0 = 42#32 := by
  rw [e.call0_v3, e.call0_v2, e.v6, e.v5, e.v4, e.v3, e.c, e.c_1]
  have h : ∀ x : IVec S2 32, shapeCast S_ (extractStridedSlice S1 ![1] x slices_S2_S1_1) shapeCasts_S1_S_ ix0 = x (ix1 1) := by
    intro x
    pointwise
    rfl
  rw [h]
  exact (concatenate_pair_apply_right (t := S2) (s₁ := S1) (s₂ := S1) 0 _ _ _ (ix1 1) rfl rfl (ix1 0) (by decide) rfl).trans rfl

theorem split_counter : (out V t.call0_v10 (ix1 0), out V t.call0_v9 (ix1 0)) = (0#32, 0#32) := by
  rw [e.call0_v10, e.call0_v9, e.call0_v8, e.call0_v7, e.call0_v6, e.call0_v5, e.call0_v4, e.call0_c, e.call0_c_0]
  rfl

theorem split_words : (out V t.call0_v11_0 (ix1 0), out V t.call0_v11_1 (ix1 0)) = (Words.keyA₀, Words.keyA₁) := by
  rw [threefry_split, seed₀, seed₁, split_counter, Words.split_key]

theorem column (x : IVec S2 32) : broadcastInDim S2x1 ![0] bcast_S2_S2x1_0 x (ix2 0 0) = x (ix1 0) :=
  congrArg x (funext fun a => by fin_cases a; rfl)

theorem key₀ : out V t.call5_v3 ix0 = Words.keyA₀ := by
  have h : out V t.call5_v3 ix0 = out V t.v7 (ix2 0 0) := by
    rw [e.call5_v3, e.call5_v2, e.v9, e.v8]
    pointwise
    rfl
  rw [h, e.v7, concatenate_pair_apply_left (t := S2x2) (s₁ := S2x1) (s₂ := S2x1) 1 _ _ _ (ix2 0 0) rfl (ix2 0 0) (by decide), e.call0_v12]
  exact (column _).trans (congrArg Prod.fst (split_words V))

theorem key₁ : out V t.call5_v5 ix0 = Words.keyA₁ := by
  have h : out V t.call5_v5 ix0 = out V t.v7 (ix2 0 1) := by
    rw [e.call5_v5, e.call5_v4, e.v9, e.v8]
    pointwise
    rfl
  rw [h, e.v7, concatenate_pair_apply_right (t := S2x2) (s₁ := S2x1) (s₂ := S2x1) 1 _ _ _ (ix2 0 1) rfl rfl (ix2 0 0) (by decide) rfl,
    e.call0_v13]
  exact (column _).trans (congrArg Prod.snd (split_words V))

/-- The flat position of an index, as a word. -/
abbrev flat (j : S256x2048x20.Idx) : BitVec 32 := BitVec.ofNat 32 (40960 * (j 0).val + 20 * (j 1).val + (j 2).val)

theorem wide (j : S256x2048x20.Idx) :
    out V t.call5_v16 j = BitVec.ofNat 64 (40960 * (j 0).val + 20 * (j 1).val + (j 2).val) := by
  rw [e.call5_v16, e.call5_v15, e.call5_v14, e.call5_v13, e.call5_v12, e.call5_v11, e.call5_v10, e.call5_v9,
    e.call5_v6, e.call5_v7, e.call5_v8, e.call5_c, e.call5_c_0, e.call5_c_1]
  show (40960#64 * BitVec.ofNat 64 (j 0).val + 20#64 * BitVec.ofNat 64 (j 1).val) + 1#64 * BitVec.ofNat 64 (j 2).val = _
  rw [BitVec.ofNat_add, BitVec.ofNat_add, BitVec.ofNat_mul, BitVec.ofNat_mul, BitVec.one_mul]

theorem counter (j : S256x2048x20.Idx) : (out V t.call5_v20 j, out V t.call5_v19 j) = (0#32, flat j) := by
  have h0 : (j 0).val < 256 := (j 0).isLt
  have h1 : (j 1).val < 2048 := (j 1).isLt
  have h2 : (j 2).val < 20 := (j 2).isLt
  refine Prod.ext ?_ ?_
  · rw [e.call5_v20, e.call5_v18, e.call5_v17, e.call5_c_2]
    show BitVec.setWidth 32 (IntOp.shrui .host (out V t.call5_v16 j) 32#64) = 0#32
    rw [wide]
    refine BitVec.eq_of_toNat_eq ?_
    have : IntOp.shrui .host (BitVec.ofNat 64 (40960 * (j 0).val + 20 * (j 1).val + (j 2).val)) 32#64
      = BitVec.ofNat 64 (40960 * (j 0).val + 20 * (j 1).val + (j 2).val) >>> (32#64) := if_pos (by decide)
    rw [this]
    simp only [BitVec.toNat_setWidth, BitVec.ushiftRight_eq', BitVec.toNat_ushiftRight, BitVec.toNat_ofNat,
      Nat.shiftRight_eq_div_pow]
    have hn : 40960 * (j 0).val + 20 * (j 1).val + (j 2).val < 2 ^ 32 := by omega
    rw [show 32 % 2 ^ 64 = 32 from rfl, Nat.mod_eq_of_lt (show _ < 2 ^ 64 by omega)]
    exact congrArg (· % 2 ^ 32) (Nat.div_eq_of_lt hn)
  · rw [e.call5_v19]
    show BitVec.setWidth 32 (out V t.call5_v16 j) = _
    rw [wide]
    refine BitVec.eq_of_toNat_eq ?_
    simp only [BitVec.toNat_setWidth, BitVec.toNat_ofNat]
    omega

theorem draw_bits (j : S256x2048x20.Idx) : out V t.call5_v22 j = Words.bits (flat j) := by
  rw [e.call5_v22]
  show IntOp.xori (out V t.call5_v21_0 j, out V t.call5_v21_1 j).1 (out V t.call5_v21_0 j, out V t.call5_v21_1 j).2 = _
  rw [threefry_draw, key₀, key₁, counter]
  rfl

theorem draw_frac (j : S256x2048x20.Idx) : out V t.call5_v27 j = Value.frac (flat j) := by
  have h : out V t.call5_v26 j = (Words.bits (flat j) >>> (9#32)) ||| 1065353216#32 := by
    rw [e.call5_v26, e.call5_v25, e.call5_c_4, e.call5_v24, e.call5_v23, e.call5_c_3]
    show IntOp.ori (IntOp.shrui .host (out V t.call5_v22 j) 9#32) 1065353216#32 = _
    rw [draw_bits, Words.shr_lit _ _ _ (by decide)]
    rfl
  rw [e.call5_v27]
  exact congrArg Value.f32 h

theorem lo_apply (j : S1x1x1.Idx) : out V t.call5_v0 j = Value.f32 0xBF7FFFFF#32 := by
  rw [e.call5_v0, e.cst, broadcastInDim_scalar_apply, constant_apply]

theorem hi_apply (j : S1x1x1.Idx) : out V t.call5_v1 j = Value.f32 0x3F800000#32 := by
  rw [e.call5_v1, e.cst_9, broadcastInDim_scalar_apply, constant_apply]

theorem spread (x : FVec Ideal S1x1x1 .f32) (b : EReal) (hx : ∀ i, x i = b) (j : S256x2048x20.Idx) :
    broadcastInDim S256x2048x20 ![0, 1, 2] bcast_S1x1x1_S256x2048x20_0_1_2 x j = b := hx _

theorem draw (j : S256x2048x20.Idx) : out V t.v49 j = Value.uniform (flat j) := by
  rw [e.v49, maximumf_apply, e.call5_v34, addf_apply, e.call5_v32, mulf_apply, e.call5_v29, subf_apply, draw_frac,
    e.call5_v28, broadcastInDim_scalar_apply, e.call5_cst, constant_apply, e.call5_v35, e.call5_v33, e.call5_v31]
  rw [spread _ _ (lo_apply V), spread _ _ fun i => by
    rw [e.call5_v30, subf_apply, hi_apply, lo_apply]]
  rfl

theorem log_term (j : S256x2048x20.Idx) : out V t.v53 j = -(Ideal.log1p (-(out V t.v49 j) * out V t.v49 j)) := by
  rw [e.v53, neg_apply, e.v52, log1p_apply', e.v51, mulf_apply, e.v50, neg_apply]

theorem near_apply (j : S256x2048x20.Idx) : out V t.v70 j = Value.near (out V t.v53 j) := by
  rw [e.v70, e.v69, e.cst_16, e.v68, e.v67, e.v66, e.cst_15, e.v65, e.v64, e.v63, e.cst_14, e.v62, e.v61, e.v60, e.cst_13,
    e.v59, e.v58, e.cst_12, e.v57, e.v56, e.cst_11]
  simp only [mulf_apply, addf_apply, subf_apply, Ideal.addf_def, Ideal.mulf_def,
    Ideal.subf_def]
  rw [fill, fill, fill, fill, fill, fill]
  rfl

theorem root_apply (j : S256x2048x20.Idx) : out V t.v71 j = Ideal.sqrt (out V t.v53 j) := by
  rw [e.v71, root]

theorem far_apply (j : S256x2048x20.Idx) : out V t.v86 j = Value.far (out V t.v53 j) := by
  rw [e.v86, e.v85, e.cst_22, e.v84, e.v83, e.v82, e.cst_21, e.v81, e.v80, e.v79, e.cst_20, e.v78, e.v77, e.v76, e.cst_19,
    e.v75, e.v74, e.cst_18, e.v73, e.v72, e.cst_17]
  simp only [mulf_apply, addf_apply, subf_apply, Ideal.addf_def, Ideal.mulf_def,
    Ideal.subf_def, root_apply]
  rw [fill, fill, fill, fill, fill, fill]
  rfl

theorem normal (j : S256x2048x20.Idx) : out V t.v90 j = Value.normal (out V t.v49 j) := by
  rw [e.v90, mulf_apply, e.v89, broadcastInDim_scalar_apply, e.cst_23, constant_apply, e.v88, mulf_apply, e.v87, select_apply,
    near_apply, far_apply, e.v55, cmpf_apply, e.v54, broadcastInDim_scalar_apply, e.cst_10, constant_apply, log_term]
  simp only [Ideal.mulf_def, Ideal.ofBits_def, Ideal.cmpf_def, Value.normal]

end Cert.Own.Ref
end
-- ==== Proof.RefScatter.lean ====
/-
  Where every mask is set, the reference's masked assignment moves nothing: its stable sort keeps the order it finds,
  its running sum counts the positions, and its two lookups read each position's own element.
-/
module

public import proofs.«01_k».proof.Proof.RefEqs
public import Idealize.ShloMosaic.Lib.Routing.Ops
public import Idealize.ShloMosaic.Lib.Routing.OpsSet
public import Idealize.ShloMosaic.Lib.Routing.OpsSearch
public import Idealize.ShloMosaic.Lib.Routing.OpsPair
public import Idealize.ShloMosaic.Lib.Pipeline.Value

@[expose] public section
set_option maxRecDepth 100000
noncomputable section
namespace Cert.Own.Ref
open Idealize.ShloMosaic
open Idealize.ShloMosaic.StableHlo Idealize.ShloMosaic.ValueIdx Idealize.SL Idealize.SL.Sem Idealize.ShloMosaic.Routing
open Cert.ReferenceIdeal Cert.ReferenceIdeal.Facts₀

attribute [local irreducible] out

/-- A sort that never moves one element before another keeps the list. -/
theorem stable_const {ι : Type} (l : List ι) : stableSort (fun _ _ : ι => false) l = l := by
  induction l with
  | nil => rfl
  | cons a l ih =>
    show insertBefore _ a (stableSort _ l) = _
    rw [ih]
    cases l <;> rfl

theorem from_const {n : Nat} (before : Fin n → Fin n → Bool) (h : ∀ k k', before k k' = false) (k : Fin n) :
    sortedFrom before k = k := by
  obtain rfl : before = fun _ _ => false := funext fun a => funext fun b => h a b
  apply Fin.ext
  unfold sortedFrom sortPositions
  simp only [stable_const, List.get_eq_getElem, List.getElem_finRange]
  rfl

/-- Sorting positions by a key that is everywhere the same leaves each position in its place. -/
theorem sort_positions {N : Nat} (key : IVec (shape1 N) 1) (b : BitVec 1) (hk : ∀ i, key i = b)
    (cmp : BitVec 1 × BitVec 32 → BitVec 1 × BitVec 32 → BitVec 1) (hc : ∀ u v, cmp (b, u) (b, v) = 0#1) (p : Fin N) :
    (Host.sort2 (shape1 N) 0 cmp key (iotaInDim (shape1 N) 32 0)).2 (ix1 p) = BitVec.ofNat 32 p.val := by
  refine (congrArg (fun k => iotaInDim (shape1 N) 32 0 ((ix1 p).along 0 k)) (from_const _ (fun k k' => ?_) _)).trans rfl
  rw [hk, hk, hc]
  rfl

theorem ones_sum (n : Nat) : ((List.range n).map fun _ => 1).sum = n := by simp

/-- A looked-up position that is in range is not moved by the wrap of negative positions. -/
theorem wrapped {N n : Nat} (h : n < 2 ^ 31) (a : BitVec 32) :
    Scalar.select (IntOp.cmpi .slt (BitVec.ofNat 32 n) 0#32) a (BitVec.ofNat 32 n) = BitVec.ofNat 32 n :=
  wrap_of_lt _ _ (by rw [BitVec.toNat_ofNat]; omega)

variable (V : Valuation τ sig (Elt Ideal))

/-- Every element of the three masks is set. -/
structure Masks : Prop where
  nodes : out V t.arg1 = fun _ => 1#1
  given : out V t.arg3 = fun _ => 1#1
  graph : out V t.arg5 = fun _ => 1#1

variable {V} (hm : Masks V)
include hm

theorem v20_one : out V t.v20 = fun _ => 1#1 := by
  rw [e.v20, e.v15, e.v14, e.v13, e.v12, hm.graph, hm.given]
  exact funext fun j => (by decide : IntOp.andi 1#1 1#1 = 1#1)

theorem v21_one : out V t.v21 = fun _ => 1#1 := by
  rw [e.v21, e.v19, e.v18, e.v17, e.v16, hm.graph, hm.nodes]
  exact funext fun j => (by decide : IntOp.andi 1#1 1#1 = 1#1)

theorem v24_zero (i : S10485760.Idx) : out V t.v24 i = 0#1 := by
  rw [e.v24, e.v23, v20_one hm]
  exact (by decide : ~~~(1#1) = 0#1)

theorem v34_one (i : S10485760.Idx) : out V t.v34 i = 1#1 := by
  rw [e.v34, v21_one hm]
  rfl

theorem v25_apply (p : Fin 10485760) : out V t.v25 (ix1 p) = BitVec.ofNat 32 p.val := by
  rw [e.v25, e.call1_v0]
  exact sort_positions _ 0#1 (v24_zero hm) _ (fun _ _ => (by decide : IntOp.cmpi .ult 0#1 0#1 = 0#1)) p

theorem v30_apply (p : Fin 10485760) : out V t.v30 (ix1 p) = BitVec.ofNat 32 p.val := by
  have hp := p.isLt
  rw [e.v30, e.v27, e.v26, e.c_2]
  show Scalar.select (IntOp.cmpi .slt (out V t.v25 (ix1 p)) 0#32) (out V t.v29 (ix1 p)) (out V t.v25 (ix1 p)) = _
  rw [v25_apply hm]
  exact wrapped (N := 0) (by omega) _

theorem v32_apply (p : Fin 10485760) : out V t.v32 (ix1 p) = out V t.v22 (ix1 p) := by
  rw [e.v32]
  refine gather_take1 _ rfl rfl rfl rfl _ _ p p ?_ (by omega)
  rw [e.v31]
  exact (congrArg (out V t.v30) (funext fun a => by fin_cases a; rfl)).trans (v30_apply hm p)

theorem v36_apply (p : Fin 10485760) : out V t.v36 (ix1 p) = BitVec.ofNat 32 (p.val + 1) := by
  rw [e.v36, e.cums]
  refine (cumsum1 (Nm1 := 10485759) (by omega) _ (fun _ => 1) (fun i => ?_) _ ?_ _ _ p).trans (congrArg _ (ones_sum _))
  · rw [e.v35]
    show BitVec.setWidth 32 (out V t.v34 (ix1 i)) = _
    rw [v34_one hm]
    rfl
  · rw [e.call2_call0_v0, e.call2_call0_c]
    rfl

theorem v44_apply (p : Fin 10485760) : out V t.v44 (ix1 p) = BitVec.ofNat 32 p.val := by
  have hp := p.isLt
  have h38 : out V t.v38 (ix1 p) = BitVec.ofNat 32 p.val := by
    rw [e.v38, e.v37, e.c_4]
    show out V t.v36 (ix1 p) - 1#32 = _
    rw [v36_apply hm, BitVec.ofNat_add]
    exact BitVec.add_sub_cancel _ _
  have h39 : out V t.v39 (ix1 p) = BitVec.ofNat 32 p.val := by
    rw [e.v39, e.call3_v4, e.call3_v3, e.c_6, e.call3_v2, e.call3_v1, e.call3_v0, e.c_5]
    show IntOp.minsi (BitVec.ofNat 32 10485759) (IntOp.maxsi (BitVec.ofNat 32 0) (out V t.v38 (ix1 p))) = _
    rw [h38, clip_word (by omega) (by omega) (by omega)]
    congr 1
    omega
  rw [e.v44, e.v41, e.v40, e.c_7]
  show Scalar.select (IntOp.cmpi .slt (out V t.v39 (ix1 p)) 0#32) (out V t.v43 (ix1 p)) (out V t.v39 (ix1 p)) = _
  rw [h39]
  exact wrapped (N := 0) (by omega) _

theorem v46_apply (p : Fin 10485760) : out V t.v46 (ix1 p) = out V t.v22 (ix1 p) := by
  rw [e.v46]
  refine (gather_take1 _ rfl rfl rfl rfl _ _ p p ?_ (by omega)).trans (v32_apply hm p)
  rw [e.v45]
  exact (congrArg (out V t.v44) (funext fun a => by fin_cases a; rfl)).trans (v44_apply hm p)

theorem v47_eq : out V t.v47 = out V t.v22 := by
  funext i
  rw [e.v47]
  show Scalar.select (out V t.v34 i) (out V t.v46 i) (out V t.v33 i) = _
  rw [v34_one hm]
  have hi : i = ix1 (i 0) := funext fun a => by fin_cases a; rfl
  rw [hi]
  exact v46_apply hm (i 0)

/-- The masked assignment gives back the template it assigned. -/
theorem v48_eq : out V t.v48 = out V t.arg4 := by
  rw [e.v48, v47_eq hm, e.v22]
  exact shapeCast_shapeCast _ _ _

end Cert.Own.Ref
end
end
-- ==== Proof.RefOut.lean ====
/-
  The reference's two results at one index, where every mask is set.
-/
module

public import proofs.«01_k».proof.Proof.RefVal
public import proofs.«01_k».proof.Proof.RefScatter

@[expose] public section
set_option maxRecDepth 100000
noncomputable section
namespace Cert.Own.Ref
open Idealize.ShloMosaic hiding ix0 ix1 ix2 ix3
open Idealize.ShloMosaic.StableHlo Idealize.ShloMosaic.ValueIdx Idealize.SL Idealize.SL.Sem
open Cert.ReferenceIdeal Cert.ReferenceIdeal.Facts₀

attribute [local irreducible] out

/-- The graph that an index of a result lies in. -/
abbrev graph (j : S256x2048x20.Idx) : S256.Idx := ix1 (j 0)

theorem over_graphs {α : Type} (x : S256.Idx → α) (j : S256x2048x20.Idx) :
    broadcastInDim S256x2048x20 ![0, 1, 2] bcast_S256x1x1_S256x2048x20_0_1_2 (broadcastInDim S256x1x1 ![0] bcast_S256_S256x1x1_0 x) j
      = x (graph j) :=
  congrArg x (funext fun a => by fin_cases a; rfl)

theorem one_minus (x : FVec Ideal S256x1x1 .f32) (y : FVec Ideal S256x1x1 .f32) (j : S256x2048x20.Idx) :
    broadcastInDim S256x2048x20 ![0, 1, 2] bcast_S256x1x1_S256x2048x20_0_1_2 (subf x y) j
      = broadcastInDim S256x2048x20 ![0, 1, 2] bcast_S256x1x1_S256x2048x20_0_1_2 x j
        - broadcastInDim S256x2048x20 ![0, 1, 2] bcast_S256x1x1_S256x2048x20_0_1_2 y j := rfl

theorem fill_graphs (b : BitVec 32) (j : S256x2048x20.Idx) :
    broadcastInDim S256x2048x20 ![0, 1, 2] bcast_S256x1x1_S256x2048x20_0_1_2
      (broadcastInDim S256x1x1 ![] bcast_S_S256x1x1 (constant (F := Ideal) S_ .f32 b)) j = Value.f32 b := rfl

variable {V : Valuation τ sig (Elt Ideal)} (hm : Masks V)
include hm

theorem start_apply (j : S256x2048x20.Idx) : out V t.v139 j = Value.start (out V t.arg4 j) (flat j) := by
  rw [e.v139, select_apply, e.call11_v0, e.v138, over_graphs, hm.graph, e.v93, select_apply, e.call7_v0, e.v92, hm.nodes,
    e.v91, addf_apply, v48_eq hm, normal, draw]
  rfl

theorem between_apply (j : S256x2048x20.Idx) :
    out V t.v148 j = Value.between (out V t.arg2 (graph j)) (out V t.arg0 j) (Value.start (out V t.arg4 j) (flat j)) := by
  rw [e.v148, addf_apply, e.v147, mulf_apply, start_apply hm, e.v142, mulf_apply, e.v141, e.v140, over_graphs, e.v146, e.v145,
    one_minus, e.v144, e.cst_40, fill_graphs, e.v143, over_graphs]
  rfl

end Cert.Own.Ref
end
end
-- ==== Proof.Final.lean ====
/-
  The two runs side by side: from arguments that agree, equal results.
-/
module

public import proofs.«01_k».proof.Defs
public import proofs.«01_k».proof.Proof.KerFinal
public import proofs.«01_k».proof.Proof.Form
public import proofs.«01_k».proof.Proof.Run
public import proofs.«01_k».proof.Proof.RefOut
public import proofs.«01_k».proof.Proof.Gen.Pre_drawn

@[expose] public section
set_option maxRecDepth 100000
noncomputable section
namespace Cert.Own
open Idealize.ShloMosaic Idealize.ShloMosaic.TcCoe Idealize.ShloMosaic.StableHlo Idealize.SL Idealize.SL.Sem

theorem infinity : Ideal.ofBits .f32 0x7F800000#32 = (⊤ : EReal) := by
  simp [Ideal.ofBits, Ideal.ieee]

/-- A number whose size is below infinity is a real one. -/
theorem real_of_below {x : EReal} (h : max x (-x) < ⊤) : ∃ r : ℝ, x = r := by
  induction x using EReal.rec with
  | bot => simp at h
  | top => simp at h
  | coe r => exact ⟨r, rfl⟩

theorem real_of_test {S : Shape} {x : FVec Ideal S .f32} {y : IVec S 1} (hy : y = fun _ => 1#1) (i : S.Idx)
    (h : y i = Ideal.cmp .olt (max (x i) (-(x i))) (Ideal.ofBits .f32 0x7F800000#32)) : ∃ r : ℝ, x i = r :=
  real_of_below ((Value.olt_iff.mp (h.symm.trans (congrFun hy i))).trans_eq infinity)

/-- What an argument of the reference is read as: it is not written. -/
theorem kept (m : (ℓ : Loc Cert.ReferenceIdeal.nD Cert.ReferenceIdeal.τ Cert.ReferenceIdeal.sig) → Buf (Elt Ideal) ℓ) (c : Dev Cert.ReferenceIdeal.nD)
    {T : BufTy} (x : TRef Cert.ReferenceIdeal.sig T) (hx : num x.ref < 6) :
    Ref.out (launchContents m c) x = x.ofBuf (m ((c.tc : Thread Cert.ReferenceIdeal.nD Cert.ReferenceIdeal.τ).loc x.ref)) := by
  unfold Ref.out
  exact congrArg x.ofBuf (Ref.final_arg m c hx)

theorem algebraic : Cert.algebraic_KernelIdeal_ReferenceIdeal_pre_drawn := by
  intro m g m' g' hpre hargs
  refine ⟨Ker.between m, Ker.start m, Ker.run m g, θ_run_mono (Ref.run m' g') fun r h c => ?_⟩
  obtain ⟨a0, a1, a2, a3, a4, a5⟩ := hargs c
  obtain ⟨p1, p3, p5, p2, p4⟩ := hpre c
  have k0 := (kept m' c Ref.t.arg0 (by decide)).trans a0
  have k2 := (kept m' c Ref.t.arg2 (by decide)).trans a2
  have k4 := (kept m' c Ref.t.arg4 (by decide)).trans a4
  have hm : Ref.Masks (launchContents m' c) :=
    ⟨((kept m' c Ref.t.arg1 (by decide)).trans a1).trans p1,
      ((kept m' c Ref.t.arg3 (by decide)).trans a3).trans p3,
      ((kept m' c Ref.t.arg5 (by decide)).trans a5).trans p5⟩
  refine ⟨(h c _).trans ?_, (h c _).trans ?_, (h c _).trans (Ref.final_arg m' c (by decide)), (h c _).trans (Ref.final_arg m' c (by decide)),
    (h c _).trans (Ref.final_arg m' c (by decide)), (h c _).trans (Ref.final_arg m' c (by decide)),
    (h c _).trans (Ref.final_arg m' c (by decide)), (h c _).trans (Ref.final_arg m' c (by decide))⟩
  · refine (show Ref.final m' c (Proc.devRef .tc Cert.ReferenceIdeal.main_v148) = Ref.out (launchContents m' c) Ref.t.v148 by
      unfold Ref.out; rfl).trans (funext fun j => ?_)
    refine (Ref.between_apply hm j).trans ?_
    obtain ⟨t, ht⟩ := real_of_test (x := Ker.times m c) p2 (Ref.graph j) rfl
    obtain ⟨x, hx⟩ := real_of_test (x := Ker.template m c) p4 j rfl
    have e := Value.between_start t x (Ker.target m c j) (Ker.flat j)
    rw [← ht, ← hx] at e
    rw [k0, k2, k4]
    exact e.symm
  · refine (show Ref.final m' c (Proc.devRef .tc Cert.ReferenceIdeal.main_v139) = Ref.out (launchContents m' c) Ref.t.v139 by
      unfold Ref.out; rfl).trans (funext fun j => ?_)
    refine (Ref.start_apply hm j).trans ?_
    rw [k4]
    exact (Value.start_eq _ _).symm

end Cert.Own
end
-- ==== Proof.Tails.lean ====
/-
  What the terms above degree 4 amount to: the normal variate by the cut polynomials is within 1/256 of the one by the full
  ones, at every number that a draw can be.
-/
module

public import proofs.«01_k».proof.Proof.Form
public import Mathlib.Analysis.Complex.Exponential

@[expose] public section
noncomputable section
namespace Cert.Own.Value
open Idealize.ShloMosaic

/-- The two polynomials of degree 8. -/
def fullNear (w : EReal) : EReal :=
  (((((((f32 0x32F16588#32 * (w - f32 0x40200000#32) + f32 0x34B84B36#32) * (w - f32 0x40200000#32)
    + f32 0xB66C7357#32) * (w - f32 0x40200000#32)
    + f32 0xB6935AC1#32) * (w - f32 0x40200000#32)
    + f32 0x396532DB#32) * (w - f32 0x40200000#32)
    + f32 0xBAA45408#32) * (w - f32 0x40200000#32)
    + f32 0xBB88E4EF#32) * (w - f32 0x40200000#32)
    + f32 0x3E7C8F63#32) * (w - f32 0x40200000#32)
    + f32 0x3FC02E2F#32
def fullFar (w : EReal) : EReal :=
  (((((((f32 0xB951F09B#32 * (Ideal.sqrt w - f32 0x40400000#32) + f32 0x38D3B56B#32) * (Ideal.sqrt w - f32 0x40400000#32)
    + f32 0x3AB0DC72#32) * (Ideal.sqrt w - f32 0x40400000#32)
    + f32 0xBB70BDE7#32) * (Ideal.sqrt w - f32 0x40400000#32)
    + f32 0x3BBC127B#32) * (Ideal.sqrt w - f32 0x40400000#32)
    + f32 0xBBF9C5D7#32) * (Ideal.sqrt w - f32 0x40400000#32)
    + f32 0x3C1AA57E#32) * (Ideal.sqrt w - f32 0x40400000#32)
    + f32 0x3F8036DB#32) * (Ideal.sqrt w - f32 0x40400000#32)
    + f32 0x40354F7E#32

/-- The normal variate by the full polynomials. -/
def fullNormal (u : EReal) : EReal :=
  f32 0x3FB504F3#32 * (Scalar.select (Ideal.cmp .olt (-(Ideal.log1p (-u * u))) (f32 0x40A00000#32))
    (fullNear (-(Ideal.log1p (-u * u)))) (fullFar (-(Ideal.log1p (-u * u)))) * u)

namespace Lit
theorem near₈ : f32 0x32F16588#32 = ((1977521 / 70368744177664 : ℝ) : EReal) := by
  simp [Ideal.ofBits, Ideal.ieee, -EReal.coe_mul]; norm_num
theorem near₇ : f32 0x34B84B36#32 = ((6038939 / 17592186044416 : ℝ) : EReal) := by
  simp [Ideal.ofBits, Ideal.ieee, -EReal.coe_mul]; norm_num
theorem near₆ : f32 0xB66C7357#32 = ((-15496023 / 4398046511104 : ℝ) : EReal) := by
  simp [Ideal.ofBits, Ideal.ieee, -EReal.coe_mul]; norm_num
theorem near₅ : f32 0xB6935AC1#32 = ((-9657025 / 2199023255552 : ℝ) : EReal) := by
  simp [Ideal.ofBits, Ideal.ieee, -EReal.coe_mul]; norm_num
theorem far₈ : f32 0xB951F09B#32 = ((-13758619 / 68719476736 : ℝ) : EReal) := by
  simp [Ideal.ofBits, Ideal.ieee, -EReal.coe_mul]; norm_num
theorem far₇ : f32 0x38D3B56B#32 = ((13874539 / 137438953472 : ℝ) : EReal) := by
  simp [Ideal.ofBits, Ideal.ieee, -EReal.coe_mul]; norm_num
theorem far₆ : f32 0x3AB0DC72#32 = ((5795385 / 4294967296 : ℝ) : EReal) := by
  simp [Ideal.ofBits, Ideal.ieee, -EReal.coe_mul]; norm_num
theorem far₅ : f32 0xBB70BDE7#32 = ((-15777255 / 4294967296 : ℝ) : EReal) := by
  simp [Ideal.ofBits, Ideal.ieee, -EReal.coe_mul]; norm_num
theorem tip : f32 0x3F7FFFFF#32 = ((16777215 / 16777216 : ℝ) : EReal) := by
  simp [Ideal.ofBits, Ideal.ieee, -EReal.coe_mul]; norm_num
theorem close : f32 0x3B800000#32 = ((1 / 256 : ℝ) : EReal) := by
  simp [Ideal.ofBits, Ideal.ieee, -EReal.coe_mul]; norm_num
end Lit

/-! The dropped terms, as real polynomials: `z ^ 5` times a cubic. -/

def nearRest (z : ℝ) : ℝ := (1977521 / 70368744177664) * z ^ 3 + (6038939 / 17592186044416) * z ^ 2 + (-15496023 / 4398046511104) * z + (-9657025 / 2199023255552)
def farRest (z : ℝ) : ℝ := (-13758619 / 68719476736) * z ^ 3 + (13874539 / 137438953472) * z ^ 2 + (5795385 / 4294967296) * z + (-15777255 / 4294967296)

theorem near_rest {z : ℝ} (h₁ : -(5 / 2) ≤ z) (h₂ : z ≤ 5 / 2) : |z ^ 5 * nearRest z| ≤ 27 / 10000 := by
  have ha : |z| ≤ 5 / 2 := abs_le.mpr ⟨h₁, h₂⟩
  have h5 : |z ^ 5| ≤ (5 / 2) ^ 5 := by rw [abs_pow]; exact pow_le_pow_left₀ (abs_nonneg z) ha 5
  have hc : |z ^ 3| ≤ (5 / 2) ^ 3 := by rw [abs_pow]; exact pow_le_pow_left₀ (abs_nonneg z) ha 3
  have hs : z ^ 2 ≤ (5 / 2) ^ 2 := by nlinarith
  have hs0 : 0 ≤ z ^ 2 := sq_nonneg z
  obtain ⟨c₁, c₂⟩ := abs_le.mp hc
  have hq : |nearRest z| ≤ 16 / 1000000 := by
    unfold nearRest
    refine abs_le.mpr ⟨?_, ?_⟩ <;> linarith
  rw [abs_mul]
  calc |z ^ 5| * |nearRest z| ≤ (5 / 2) ^ 5 * (16 / 1000000) := mul_le_mul h5 hq (abs_nonneg _) (by norm_num)
    _ ≤ 27 / 10000 := by norm_num

theorem far_rest {z : ℝ} (h₁ : -(4 / 5) ≤ z) (h₂ : z ≤ 1) : |z ^ 5 * farRest z| ≤ 27 / 10000 := by
  rcases le_total z 0 with h | h
  · have ha : |z| ≤ 4 / 5 := abs_le.mpr ⟨h₁, by linarith⟩
    have h5 : |z ^ 5| ≤ (4 / 5) ^ 5 := by rw [abs_pow]; exact pow_le_pow_left₀ (abs_nonneg z) ha 5
    have hc : |z ^ 3| ≤ (4 / 5) ^ 3 := by rw [abs_pow]; exact pow_le_pow_left₀ (abs_nonneg z) ha 3
    have hs : z ^ 2 ≤ (4 / 5) ^ 2 := by nlinarith
    have hs0 : 0 ≤ z ^ 2 := sq_nonneg z
    obtain ⟨c₁, c₂⟩ := abs_le.mp hc
    have hq : |farRest z| ≤ 5 / 1000 := by
      unfold farRest
      refine abs_le.mpr ⟨?_, ?_⟩ <;> linarith
    rw [abs_mul]
    calc |z ^ 5| * |farRest z| ≤ (4 / 5) ^ 5 * (5 / 1000) := mul_le_mul h5 hq (abs_nonneg _) (by norm_num)
      _ ≤ 27 / 10000 := by norm_num
  · have hc : z ^ 3 ≤ 1 := pow_le_one₀ h h₂
    have hc0 : 0 ≤ z ^ 3 := pow_nonneg h 3
    have hs : z ^ 2 ≤ 1 := pow_le_one₀ h h₂
    have hs0 : 0 ≤ z ^ 2 := sq_nonneg z
    have hp0 : 0 ≤ z ^ 5 := pow_nonneg h 5
    have hp : z ^ 5 ≤ z := by
      calc z ^ 5 = z * z ^ 4 := by ring
        _ ≤ z * 1 := mul_le_mul_of_nonneg_left (pow_le_one₀ h h₂) h
        _ = z := mul_one z
    have hq : -farRest z ≤ 39 / 10000 - 13 / 10000 * z := by unfold farRest; linarith
    have hq0 : 0 ≤ -farRest z := by unfold farRest; linarith
    have hm : z ^ 5 * -farRest z ≤ z * (39 / 10000 - 13 / 10000 * z) := mul_le_mul hp hq hq0 h
    have hz : z * (39 / 10000 - 13 / 10000 * z) ≤ 27 / 10000 := by nlinarith
    have h0 : 0 ≤ z ^ 5 * -farRest z := mul_nonneg hp0 hq0
    refine abs_le.mpr ⟨?_, ?_⟩ <;> linarith

theorem exp_one_above : (2.718 : ℝ) ≤ Real.exp 1 := by
  have h := Real.sum_le_exp_of_nonneg (zero_le_one : (0 : ℝ) ≤ 1) 7
  norm_num [Finset.sum_range_succ, Nat.factorial] at h
  linarith

/-- The logarithm is below 16: no draw is nearer to the ends than the f32 numbers next to them. -/
theorem log_below {u : ℝ} (h : |u| ≤ 16777215 / 16777216) : -Real.log (1 - u * u) ≤ 16 := by
  have hu : u * u ≤ (16777215 / 16777216) * (16777215 / 16777216) := by
    rw [← abs_mul_abs_self u]
    exact mul_le_mul h h (abs_nonneg u) (by norm_num)
  have he : Real.exp (-16) ≤ 1 - u * u := by
    have h1 : Real.exp (-16) = ((Real.exp 1) ^ 16)⁻¹ := by rw [← Real.exp_nat_mul, ← Real.exp_neg]; norm_num
    have h2 : (2.718 : ℝ) ^ 16 ≤ (Real.exp 1) ^ 16 := pow_le_pow_left₀ (by norm_num) exp_one_above 16
    rw [h1]
    calc ((Real.exp 1) ^ 16)⁻¹ ≤ ((2.718 : ℝ) ^ 16)⁻¹ := inv_anti₀ (by norm_num) h2
      _ ≤ 1 - (16777215 / 16777216) * (16777215 / 16777216) := by norm_num
      _ ≤ 1 - u * u := by linarith
  linarith [(Real.le_log_iff_exp_le (lt_of_lt_of_le (Real.exp_pos _) he)).mpr he]

/-- At a draw, the two variates are real numbers within 1/256 of each other. -/
theorem normal_near {u : ℝ} (h : |u| ≤ 16777215 / 16777216) :
    ∃ d : ℝ, normal u - fullNormal u = (d : EReal) ∧ |d| ≤ 1 / 256 := by
  obtain ⟨h₁, h₂⟩ := inside h
  obtain ⟨w, he, hw, hl, _⟩ := log_real u h₁ h₂
  have h16 : w ≤ 16 := he.trans_le (log_below h)
  have scale : ∀ q : ℝ, |q| ≤ 27 / 10000 → |11863283 / 8388608 * (q * u)| ≤ 1 / 256 := by
    intro q hq
    rw [abs_mul, abs_mul, abs_of_pos (by norm_num : (0 : ℝ) < 11863283 / 8388608)]
    have := mul_le_mul hq h (abs_nonneg u) (by norm_num)
    linarith
  unfold normal fullNormal
  rw [hl]
  unfold Scalar.select
  split
  · rename_i hc
    have h5 : w < 5 := EReal.coe_lt_coe_iff.mp (Lit.five ▸ olt_iff.mp hc)
    refine ⟨11863283 / 8388608 * (-((w - 5 / 2) ^ 5 * nearRest (w - 5 / 2)) * u), ?_, scale _ ?_⟩
    · unfold near fullNear nearRest
      rw [Lit.root2, Lit.near₈, Lit.near₇, Lit.near₆, Lit.near₅, Lit.near₄, Lit.near₃, Lit.near₂, Lit.near₁, Lit.near₀, Lit.mid]
      simp only [← EReal.coe_sub, ← EReal.coe_mul, ← EReal.coe_add]
      congr 1
      ring
    · rw [abs_neg]
      exact near_rest (by linarith) (by linarith)
  · rename_i hc
    have h5 : 5 ≤ w := not_lt.mp fun hlt => hc (olt_iff.mpr (Lit.five ▸ EReal.coe_lt_coe_iff.mpr hlt))
    have hs : Real.sqrt w ≤ 4 := Real.sqrt_le_iff.mpr ⟨by norm_num, by linarith⟩
    have hs' : 11 / 5 ≤ Real.sqrt w := Real.le_sqrt_of_sq_le (by linarith)
    refine ⟨11863283 / 8388608 * (-((Real.sqrt w - 3) ^ 5 * farRest (Real.sqrt w - 3)) * u), ?_, scale _ ?_⟩
    · unfold far fullFar farRest
      rw [sqrt_real w hw, Lit.root2, Lit.far₈, Lit.far₇, Lit.far₆, Lit.far₅, Lit.far₄, Lit.far₃, Lit.far₂, Lit.far₁, Lit.far₀, Lit.three]
      simp only [← EReal.coe_sub, ← EReal.coe_mul, ← EReal.coe_add]
      congr 1
      ring
    · rw [abs_neg]
      exact far_rest (by linarith) (by linarith)

/-- At every element, the kernel's variate is within 1/256 of the one by the full polynomials. -/
theorem kernel_near (n : BitVec 32) :
    ∃ d : ℝ, kNormal (kUniform n) - fullNormal (uniform n) = (d : EReal) ∧ |d| ≤ 1 / 256 := by
  obtain ⟨u, h, hu, _⟩ := uniform_real n
  rw [← (normal_eq n).1, hu]
  exact normal_near h

end Cert.Own.Value
end
-- ==== Proof.Near.lean ====
/-
  The variate program: its frame, and that its result is within 1/256 of the one by the full polynomials.
-/
module

public import proofs.«01_k».proof.Defs
public import proofs.«01_k».proof.Proof.Tails
public import proofs.«01_k».proof.Proof.Gen.VariateIdeal.Run
public import proofs.«01_k».proof.Proof.Gen.Pre_drawable
public import proofs.«01_k».proof.Proof.Gen.Post_near_full
public import Idealize.ShloMosaic.Lib.Quiescent
public import Idealize.ShloMosaic.Lib.StableHlo.RunHlo

@[expose] public section
set_option maxRecDepth 100000
noncomputable section
namespace Cert.Own.Near
open Idealize.ShloMosaic Idealize.ShloMosaic.TcCoe Idealize.SL.Sem
open Cert.VariateIdeal

theorem frame (m : (ℓ : Loc nD τ sig) → Buf (Elt Ideal) ℓ) (g : Dev nD → PrngReg) :
    θ_run defs (onTc (τ := τ) (main (F := Ideal))) ⟨m, fun _ => 0, g⟩ fun r =>
      (∀ c : Dev nD, r.2.mem ((c.tc : Thread nD τ).loc main_arg0) = m ((c.tc : Thread nD τ).loc main_arg0)) ∧ r.2.sem = fun _ => 0 :=
  θ_run_mono (Value.run m g) fun _ h => ⟨fun c => (h c).2, sem_eq_zero_of_no_sems rfl _⟩

/-- The postcondition at one element. -/
theorem post_apply (u y : FVec Ideal S256x2048x20 .f32) (j : S256x2048x20.Idx) :
    Cert.Post_near_full.fn (F := Ideal) u y j
      = Ideal.cmp .ole (max (y j - Own.Value.fullNormal (u j)) (-(y j - Own.Value.fullNormal (u j)))) (Own.Value.f32 0x3B800000#32) :=
  rfl

/-- A number that is at most the last one below 1 in size is a real one in the interval. -/
theorem real_of_drawable {x : EReal} (h : Ideal.cmp .ole (max x (-x)) (Own.Value.f32 0x3F7FFFFF#32) = 1#1) :
    ∃ u : ℝ, x = u ∧ |u| ≤ 16777215 / 16777216 := by
  have h := Own.Value.Lit.tip ▸ Own.Value.ole_iff.mp h
  induction x using EReal.rec with
  | bot => simp at h
  | top => simp at h
  | coe u =>
    refine ⟨u, rfl, abs_le'.mpr ⟨?_, ?_⟩⟩
    · exact EReal.coe_le_coe_iff.mp ((le_max_left _ _).trans h)
    · exact EReal.coe_le_coe_iff.mp ((le_max_right _ _).trans h)

theorem post_holds {u y : EReal} (h : Ideal.cmp .ole (max u (-u)) (Own.Value.f32 0x3F7FFFFF#32) = 1#1) (hy : y = Own.Value.normal u) :
    Ideal.cmp .ole (max (y - Own.Value.fullNormal u) (-(y - Own.Value.fullNormal u))) (Own.Value.f32 0x3B800000#32) = 1#1 := by
  obtain ⟨v, rfl, hv⟩ := real_of_drawable h
  obtain ⟨d, hd, hb⟩ := Own.Value.normal_near hv
  rw [hy, hd, Own.Value.ole_iff, Own.Value.Lit.close, ← EReal.coe_neg]
  exact max_le (EReal.coe_le_coe_iff.mpr (abs_le'.mp hb).1) (EReal.coe_le_coe_iff.mpr (abs_le'.mp hb).2)

theorem holds : Cert.holds_VariateIdeal_near_full_pre_drawable := by
  intro m g hpre
  refine θ_run_mono (Value.run m g) fun r h c => ⟨(h c).2, funext fun j => ?_⟩
  refine (post_apply _ _ j).trans (post_holds (congrFun (hpre c) j) ?_)
  exact (congrFun (h c).1 j).trans rfl

end Cert.Own.Near
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_drawn
public import proofs.«01_k».proof.Proof.Gen.VariateIdeal
public import proofs.«01_k».proof.Proof.Gen.VariateIdeal.Run
public import proofs.«01_k».proof.Proof.Gen.Pre_drawable
public import proofs.«01_k».proof.Proof.Gen.Post_near_full
public import proofs.«01_k».proof.Proof.Run
public import proofs.«01_k».proof.Proof.Ledger
public import proofs.«01_k».proof.Proof.Final
public import proofs.«01_k».proof.Proof.Near
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.VariateIdeal.Gen.facts,
  Cert.Pre_drawn.Gen.facts, Cert.Pre_drawable.Gen.facts, Cert.Post_near_full.Gen.facts,
  fun m ρ _ => Cert.Kernel.Gen.frame m ρ,
  fun m ρ _ => Cert.KernelIdeal.Gen.frame m ρ,
  fun m ρ _ => Cert.KernelIdeal.Gen.frame m ρ,
  fun m ρ _ => Cert.Own.Ref.frame m ρ,
  fun m ρ _ => Cert.Own.Ref.frame m ρ,
  fun m ρ _ => Cert.Own.Near.frame m ρ,
  fun m ρ _ => Cert.Own.Near.frame m ρ,
  Cert.Own.ledger,
  Cert.Own.algebraic,
  Cert.Own.Near.holds⟩

end Cert.Proof

end
